-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v106_0)) (v1 : (c : Dev Cert.KernelIdeal.nD) → Buf (Elt Ideal) ((c.tc : Thread Cert.KernelIdeal.nD Cert.KernelIdeal.τ).loc Cert.KernelIdeal.main_v106_1)) (v2 : (c : Dev Cert.KernelIdeal.nD) → Buf (Elt Ideal) ((c.tc : Thread Cert.KernelIdeal.nD Cert.KernelIdeal.τ).loc Cert.KernelIdeal.main_v106_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v106_0) = v0 c
          ∧ r.2.mem ((c.tc : Thread Cert.KernelIdeal.nD Cert.KernelIdeal.τ).loc Cert.KernelIdeal.main_v106_1) = v1 c
          ∧ r.2.mem ((c.tc : Thread Cert.KernelIdeal.nD Cert.KernelIdeal.τ).loc Cert.KernelIdeal.main_v106_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_v85) = v1 c
          ∧ r.2.mem ((c.tc : Thread Cert.ReferenceIdeal.nD Cert.ReferenceIdeal.τ).loc Cert.ReferenceIdeal.main_v87) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v20)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v20) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v88) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v18_0)) (v1 : (c : Dev Cert.Kernel3Ideal.nD) → Buf (Elt Ideal) ((c.tc : Thread Cert.Kernel3Ideal.nD Cert.Kernel3Ideal.τ).loc Cert.Kernel3Ideal.main_v18_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v18_0) = v0 c
          ∧ r.2.mem ((c.tc : Thread Cert.Kernel3Ideal.nD Cert.Kernel3Ideal.τ).loc Cert.Kernel3Ideal.main_v18_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v61) = v0 c
          ∧ r.2.mem ((c.tc : Thread Cert.Reference3Ideal.nD Cert.Reference3Ideal.τ).loc Cert.Reference3Ideal.main_v76) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v19_0)) (v1 : (c : Dev Cert.Kernel4Ideal.nD) → Buf (Elt Ideal) ((c.tc : Thread Cert.Kernel4Ideal.nD Cert.Kernel4Ideal.τ).loc Cert.Kernel4Ideal.main_v19_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v19_0) = v0 c
          ∧ r.2.mem ((c.tc : Thread Cert.Kernel4Ideal.nD Cert.Kernel4Ideal.τ).loc Cert.Kernel4Ideal.main_v19_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v61) = v0 c
          ∧ r.2.mem ((c.tc : Thread Cert.Reference4Ideal.nD Cert.Reference4Ideal.τ).loc Cert.Reference4Ideal.main_v76) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)) →
    ∃ (v0 : (c : Dev Cert.Kernel5Ideal.nD) → Buf (Elt Ideal) ((c.tc : Thread Cert.Kernel5Ideal.nD Cert.Kernel5Ideal.τ).loc Cert.Kernel5Ideal.main_v21)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v21) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v89) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v41_0)) (v1 : (c : Dev Cert.Kernel6Ideal.nD) → Buf (Elt Ideal) ((c.tc : Thread Cert.Kernel6Ideal.nD Cert.Kernel6Ideal.τ).loc Cert.Kernel6Ideal.main_v41_1)) (v2 : (c : Dev Cert.Kernel6Ideal.nD) → Buf (Elt Ideal) ((c.tc : Thread Cert.Kernel6Ideal.nD Cert.Kernel6Ideal.τ).loc Cert.Kernel6Ideal.main_v41_2)) (v3 : (c : Dev Cert.Kernel6Ideal.nD) → Buf (Elt Ideal) ((c.tc : Thread Cert.Kernel6Ideal.nD Cert.Kernel6Ideal.τ).loc Cert.Kernel6Ideal.main_v41_3)) (v4 : (c : Dev Cert.Kernel6Ideal.nD) → Buf (Elt Ideal) ((c.tc : Thread Cert.Kernel6Ideal.nD Cert.Kernel6Ideal.τ).loc Cert.Kernel6Ideal.main_v41_4)) (v5 : (c : Dev Cert.Kernel6Ideal.nD) → Buf (Elt Ideal) ((c.tc : Thread Cert.Kernel6Ideal.nD Cert.Kernel6Ideal.τ).loc Cert.Kernel6Ideal.main_v41_5)) (v6 : (c : Dev Cert.Kernel6Ideal.nD) → Buf (Elt Ideal) ((c.tc : Thread Cert.Kernel6Ideal.nD Cert.Kernel6Ideal.τ).loc Cert.Kernel6Ideal.main_v41_6)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v41_0) = v0 c
          ∧ r.2.mem ((c.tc : Thread Cert.Kernel6Ideal.nD Cert.Kernel6Ideal.τ).loc Cert.Kernel6Ideal.main_v41_1) = v1 c
          ∧ r.2.mem ((c.tc : Thread Cert.Kernel6Ideal.nD Cert.Kernel6Ideal.τ).loc Cert.Kernel6Ideal.main_v41_2) = v2 c
          ∧ r.2.mem ((c.tc : Thread Cert.Kernel6Ideal.nD Cert.Kernel6Ideal.τ).loc Cert.Kernel6Ideal.main_v41_3) = v3 c
          ∧ r.2.mem ((c.tc : Thread Cert.Kernel6Ideal.nD Cert.Kernel6Ideal.τ).loc Cert.Kernel6Ideal.main_v41_4) = v4 c
          ∧ r.2.mem ((c.tc : Thread Cert.Kernel6Ideal.nD Cert.Kernel6Ideal.τ).loc Cert.Kernel6Ideal.main_v41_5) = v5 c
          ∧ r.2.mem ((c.tc : Thread Cert.Kernel6Ideal.nD Cert.Kernel6Ideal.τ).loc Cert.Kernel6Ideal.main_v41_6) = v6 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v122) = v0 c
          ∧ r.2.mem ((c.tc : Thread Cert.Reference6Ideal.nD Cert.Reference6Ideal.τ).loc Cert.Reference6Ideal.main_v156) = v1 c
          ∧ r.2.mem ((c.tc : Thread Cert.Reference6Ideal.nD Cert.Reference6Ideal.τ).loc Cert.Reference6Ideal.main_v157) = v2 c
          ∧ r.2.mem ((c.tc : Thread Cert.Reference6Ideal.nD Cert.Reference6Ideal.τ).loc Cert.Reference6Ideal.main_v101) = v3 c
          ∧ r.2.mem ((c.tc : Thread Cert.Reference6Ideal.nD Cert.Reference6Ideal.τ).loc Cert.Reference6Ideal.main_v159) = v4 c
          ∧ r.2.mem ((c.tc : Thread Cert.Reference6Ideal.nD Cert.Reference6Ideal.τ).loc Cert.Reference6Ideal.main_v161) = v5 c
          ∧ r.2.mem ((c.tc : Thread Cert.Reference6Ideal.nD Cert.Reference6Ideal.τ).loc Cert.Reference6Ideal.main_v163) = v6 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v36_0)) (v1 : (c : Dev Cert.Kernel7Ideal.nD) → Buf (Elt Ideal) ((c.tc : Thread Cert.Kernel7Ideal.nD Cert.Kernel7Ideal.τ).loc Cert.Kernel7Ideal.main_v36_1)) (v2 : (c : Dev Cert.Kernel7Ideal.nD) → Buf (Elt Ideal) ((c.tc : Thread Cert.Kernel7Ideal.nD Cert.Kernel7Ideal.τ).loc Cert.Kernel7Ideal.main_v36_2)) (v3 : (c : Dev Cert.Kernel7Ideal.nD) → Buf (Elt Ideal) ((c.tc : Thread Cert.Kernel7Ideal.nD Cert.Kernel7Ideal.τ).loc Cert.Kernel7Ideal.main_v36_3)) (v4 : (c : Dev Cert.Kernel7Ideal.nD) → Buf (Elt Ideal) ((c.tc : Thread Cert.Kernel7Ideal.nD Cert.Kernel7Ideal.τ).loc Cert.Kernel7Ideal.main_v36_4)) (v5 : (c : Dev Cert.Kernel7Ideal.nD) → Buf (Elt Ideal) ((c.tc : Thread Cert.Kernel7Ideal.nD Cert.Kernel7Ideal.τ).loc Cert.Kernel7Ideal.main_v36_5)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v36_0) = v0 c
          ∧ r.2.mem ((c.tc : Thread Cert.Kernel7Ideal.nD Cert.Kernel7Ideal.τ).loc Cert.Kernel7Ideal.main_v36_1) = v1 c
          ∧ r.2.mem ((c.tc : Thread Cert.Kernel7Ideal.nD Cert.Kernel7Ideal.τ).loc Cert.Kernel7Ideal.main_v36_2) = v2 c
          ∧ r.2.mem ((c.tc : Thread Cert.Kernel7Ideal.nD Cert.Kernel7Ideal.τ).loc Cert.Kernel7Ideal.main_v36_3) = v3 c
          ∧ r.2.mem ((c.tc : Thread Cert.Kernel7Ideal.nD Cert.Kernel7Ideal.τ).loc Cert.Kernel7Ideal.main_v36_4) = v4 c
          ∧ r.2.mem ((c.tc : Thread Cert.Kernel7Ideal.nD Cert.Kernel7Ideal.τ).loc Cert.Kernel7Ideal.main_v36_5) = v5 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v109) = v0 c
          ∧ r.2.mem ((c.tc : Thread Cert.Reference7Ideal.nD Cert.Reference7Ideal.τ).loc Cert.Reference7Ideal.main_v142) = v1 c
          ∧ r.2.mem ((c.tc : Thread Cert.Reference7Ideal.nD Cert.Reference7Ideal.τ).loc Cert.Reference7Ideal.main_v105) = v2 c
          ∧ r.2.mem ((c.tc : Thread Cert.Reference7Ideal.nD Cert.Reference7Ideal.τ).loc Cert.Reference7Ideal.main_v145) = v3 c
          ∧ r.2.mem ((c.tc : Thread Cert.Reference7Ideal.nD Cert.Reference7Ideal.τ).loc Cert.Reference7Ideal.main_v148) = v4 c
          ∧ r.2.mem ((c.tc : Thread Cert.Reference7Ideal.nD Cert.Reference7Ideal.τ).loc Cert.Reference7Ideal.main_v151) = v5 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Kernel.lean ====
abbrev S32x1024 : Shape := ⟨2, ![32, 1024]⟩
abbrev S1x32x2x64x64 : Shape := ⟨5, ![1, 32, 2, 64, 64]⟩
abbrev S1x64x64 : Shape := ⟨3, ![1, 64, 64]⟩
abbrev S1x64 : Shape := ⟨2, ![1, 64]⟩
abbrev S1x64x64x16 : Shape := ⟨4, ![1, 64, 64, 16]⟩
abbrev S1x64x16x64 : Shape := ⟨4, ![1, 64, 16, 64]⟩
abbrev S64x64 : Shape := ⟨2, ![64, 64]⟩
abbrev S64 : Shape := ⟨1, ![64]⟩
abbrev S64x64x16 : Shape := ⟨3, ![64, 64, 16]⟩
abbrev S64x16x64 : Shape := ⟨3, ![64, 16, 64]⟩
abbrev S64x1 : Shape := ⟨2, ![64, 1]⟩
abbrev S_ : Shape := ⟨0, ![]⟩
abbrev S64x64x1 : Shape := ⟨3, ![64, 64, 1]⟩
abbrev S8x512 : Shape := ⟨2, ![8, 512]⟩
abbrev S8x8 : Shape := ⟨2, ![8, 8]⟩
abbrev S8x8x64x16 : Shape := ⟨4, ![8, 8, 64, 16]⟩
abbrev S8x8x16x64 : Shape := ⟨4, ![8, 8, 16, 64]⟩
abbrev S8x8x16x1x64 : Shape := ⟨5, ![8, 8, 16, 1, 64]⟩
abbrev S1x8x1x8x1 : Shape := ⟨5, ![1, 8, 1, 8, 1]⟩
abbrev S8x8x16x8x64 : Shape := ⟨5, ![8, 8, 16, 8, 64]⟩
abbrev S8x128x512 : Shape := ⟨3, ![8, 128, 512]⟩
abbrev S8x8x64x1x16 : Shape := ⟨5, ![8, 8, 64, 1, 16]⟩
abbrev S8x8x64x8x16 : Shape := ⟨5, ![8, 8, 64, 8, 16]⟩
abbrev S8x512x128 : Shape := ⟨3, ![8, 512, 128]⟩
abbrev S8x1x512 : Shape := ⟨3, ![8, 1, 512]⟩
abbrev S32x8x128 : Shape := ⟨3, ![32, 8, 128]⟩
abbrev S8x32x128 : Shape := ⟨3, ![8, 32, 128]⟩
abbrev S32x2x64x64 : Shape := ⟨4, ![32, 2, 64, 64]⟩
abbrev S32x2x8x512 : Shape := ⟨4, ![32, 2, 8, 512]⟩
abbrev S2x8x32x512 : Shape := ⟨4, ![2, 8, 32, 512]⟩
abbrev S1x8x32x512 : Shape := ⟨4, ![1, 8, 32, 512]⟩
abbrev S8x32x512 : Shape := ⟨3, ![8, 32, 512]⟩
abbrev S1x32x128 : Shape := ⟨3, ![1, 32, 128]⟩
abbrev S32x128 : Shape := ⟨2, ![32, 128]⟩
abbrev S1x1x512 : Shape := ⟨3, ![1, 1, 512]⟩
abbrev S1x512 : Shape := ⟨2, ![1, 512]⟩
abbrev S1x32x512 : Shape := ⟨3, ![1, 32, 512]⟩
abbrev S32x512 : Shape := ⟨2, ![32, 512]⟩
abbrev S1x128x512 : Shape := ⟨3, ![1, 128, 512]⟩
abbrev S128x512 : Shape := ⟨2, ![128, 512]⟩
abbrev S1x512x128 : Shape := ⟨3, ![1, 512, 128]⟩
abbrev S512x128 : Shape := ⟨2, ![512, 128]⟩

abbrev nBuf : Space → Nat
  | .hbm => 121
  | .vmem => 12
  | .smem => 0
  | _ => 0

abbrev bufTy : (tb : Table) → Fin (tcTables nBuf tb) → BufTy
  | .hbm, ⟨0, _⟩ => ⟨S32x1024, .f32⟩
  | .hbm, ⟨1, _⟩ => ⟨S1x32x2x64x64, .f32⟩
  | .hbm, ⟨2, _⟩ => ⟨S1x64x64, .f32⟩
  | .hbm, ⟨3, _⟩ => ⟨S1x64x64, .f32⟩
  | .hbm, ⟨4, _⟩ => ⟨S1x64, .f32⟩
  | .hbm, ⟨5, _⟩ => ⟨S1x64x64x16, .f32⟩
  | .hbm, ⟨6, _⟩ => ⟨S1x64x64x16, .f32⟩
  | .hbm, ⟨7, _⟩ => ⟨S1x64x16x64, .f32⟩
  | .hbm, ⟨8, _⟩ => ⟨S1x64x16x64, .f32⟩
  | .hbm, ⟨9, _⟩ => ⟨S64x64, .f32⟩
  | .hbm, ⟨10, _⟩ => ⟨S64x64, .f32⟩
  | .hbm, ⟨11, _⟩ => ⟨S64, .f32⟩
  | .hbm, ⟨12, _⟩ => ⟨S64x64x16, .f32⟩
  | .hbm, ⟨13, _⟩ => ⟨S64x64x16, .f32⟩
  | .hbm, ⟨14, _⟩ => ⟨S64x16x64, .f32⟩
  | .hbm, ⟨15, _⟩ => ⟨S64x16x64, .f32⟩
  | .hbm, ⟨16, _⟩ => ⟨S64, .f32⟩
  | .hbm, ⟨17, _⟩ => ⟨S64x1, .f32⟩
  | .hbm, ⟨18, _⟩ => ⟨S64x64, .f32⟩
  | .hbm, ⟨19, _⟩ => ⟨S64x64, .f32⟩
  | .hbm, ⟨20, _⟩ => ⟨S64x64, .f32⟩
  | .hbm, ⟨21, _⟩ => ⟨S64x64, .f32⟩
  | .hbm, ⟨22, _⟩ => ⟨S64x64, .f32⟩
  | .hbm, ⟨23, _⟩ => ⟨S64x64, .f32⟩
  | .hbm, ⟨24, _⟩ => ⟨S64x64, .f32⟩
  | .hbm, ⟨25, _⟩ => ⟨S64x64, .f32⟩
  | .hbm, ⟨26, _⟩ => ⟨S64x64, .f32⟩
  | .hbm, ⟨27, _⟩ => ⟨S64x64, .f32⟩
  | .hbm, ⟨28, _⟩ => ⟨S64x64, .f32⟩
  | .hbm, ⟨29, _⟩ => ⟨S64x64, .f32⟩
  | .hbm, ⟨30, _⟩ => ⟨S64x64, .f32⟩
  | .hbm, ⟨31, _⟩ => ⟨S64x64, .f32⟩
  | .hbm, ⟨32, _⟩ => ⟨S_, .f32⟩
  | .hbm, ⟨33, _⟩ => ⟨S64x64, .f32⟩
  | .hbm, ⟨34, _⟩ => ⟨S64x64, .f32⟩
  | .hbm, ⟨35, _⟩ => ⟨S64x64, .f32⟩
  | .hbm, ⟨36, _⟩ => ⟨S64x64, .f32⟩
  | .hbm, ⟨37, _⟩ => ⟨S64x64, .f32⟩
  | .hbm, ⟨38, _⟩ => ⟨S64x64, .f32⟩
  | .hbm, ⟨39, _⟩ => ⟨S64x64, .f32⟩
  | .hbm, ⟨40, _⟩ => ⟨S_, .f32⟩
  | .hbm, ⟨41, _⟩ => ⟨S64x64, .f32⟩
  | .hbm, ⟨42, _⟩ => ⟨S64x64, .f32⟩
  | .hbm, ⟨43, _⟩ => ⟨S64x64, .f32⟩
  | .hbm, ⟨44, _⟩ => ⟨S64x64, .f32⟩
  | .hbm, ⟨45, _⟩ => ⟨S64x64, .f32⟩
  | .hbm, ⟨46, _⟩ => ⟨S64x64x1, .f32⟩
  | .hbm, ⟨47, _⟩ => ⟨S64x64x16, .f32⟩
  | .hbm, ⟨48, _⟩ => ⟨S64x64x16, .f32⟩
  | .hbm, ⟨49, _⟩ => ⟨S64x64x1, .f32⟩
  | .hbm, ⟨50, _⟩ => ⟨S64x64x16, .f32⟩
  | .hbm, ⟨51, _⟩ => ⟨S64x64x16, .f32⟩
  | .hbm, ⟨52, _⟩ => ⟨S64x64x16, .f32⟩
  | .hbm, ⟨53, _⟩ => ⟨S64x64x1, .f32⟩
  | .hbm, ⟨54, _⟩ => ⟨S64x64x16, .f32⟩
  | .hbm, ⟨55, _⟩ => ⟨S64x64x16, .f32⟩
  | .hbm, ⟨56, _⟩ => ⟨S64x64x1, .f32⟩
  | .hbm, ⟨57, _⟩ => ⟨S64x64x16, .f32⟩
  | .hbm, ⟨58, _⟩ => ⟨S64x64x16, .f32⟩
  | .hbm, ⟨59, _⟩ => ⟨S64x64x16, .f32⟩
  | .hbm, ⟨60, _⟩ => ⟨S8x512, .f32⟩
  | .hbm, ⟨61, _⟩ => ⟨S8x512, .f32⟩
  | .hbm, ⟨62, _⟩ => ⟨S8x8, .i32⟩
  | .hbm, ⟨63, _⟩ => ⟨S8x8, .i32⟩
  | .hbm, ⟨64, _⟩ => ⟨S_, .i32⟩
  | .hbm, ⟨65, _⟩ => ⟨S8x8, .i32⟩
  | .hbm, ⟨66, _⟩ => ⟨S8x8, .i32⟩
  | .hbm, ⟨67, _⟩ => ⟨S8x8, .i1⟩
  | .hbm, ⟨68, _⟩ => ⟨S8x8, .f32⟩
  | .hbm, ⟨69, _⟩ => ⟨S8x8x64x16, .f32⟩
  | .hbm, ⟨70, _⟩ => ⟨S8x8x16x64, .f32⟩
  | .hbm, ⟨71, _⟩ => ⟨S8x8x16x1x64, .f32⟩
  | .hbm, ⟨72, _⟩ => ⟨S1x8x1x8x1, .f32⟩
  | .hbm, ⟨73, _⟩ => ⟨S8x8x16x8x64, .f32⟩
  | .hbm, ⟨74, _⟩ => ⟨S8x8x16x8x64, .f32⟩
  | .hbm, ⟨75, _⟩ => ⟨S8x8x16x8x64, .f32⟩
  | .hbm, ⟨76, _⟩ => ⟨S8x128x512, .f32⟩
  | .hbm, ⟨77, _⟩ => ⟨S8x8x64x16, .f32⟩
  | .hbm, ⟨78, _⟩ => ⟨S8x8x16x64, .f32⟩
  | .hbm, ⟨79, _⟩ => ⟨S8x8x16x1x64, .f32⟩
  | .hbm, ⟨80, _⟩ => ⟨S1x8x1x8x1, .f32⟩
  | .hbm, ⟨81, _⟩ => ⟨S8x8x16x8x64, .f32⟩
  | .hbm, ⟨82, _⟩ => ⟨S8x8x16x8x64, .f32⟩
  | .hbm, ⟨83, _⟩ => ⟨S8x8x16x8x64, .f32⟩
  | .hbm, ⟨84, _⟩ => ⟨S8x128x512, .f32⟩
  | .hbm, ⟨85, _⟩ => ⟨S8x8x16x64, .f32⟩
  | .hbm, ⟨86, _⟩ => ⟨S8x8x64x16, .f32⟩
  | .hbm, ⟨87, _⟩ => ⟨S8x8x64x1x16, .f32⟩
  | .hbm, ⟨88, _⟩ => ⟨S1x8x1x8x1, .f32⟩
  | .hbm, ⟨89, _⟩ => ⟨S8x8x64x8x16, .f32⟩
  | .hbm, ⟨90, _⟩ => ⟨S8x8x64x8x16, .f32⟩
  | .hbm, ⟨91, _⟩ => ⟨S8x8x64x8x16, .f32⟩
  | .hbm, ⟨92, _⟩ => ⟨S8x512x128, .f32⟩
  | .hbm, ⟨93, _⟩ => ⟨S8x8x16x64, .f32⟩
  | .hbm, ⟨94, _⟩ => ⟨S8x8x64x16, .f32⟩
  | .hbm, ⟨95, _⟩ => ⟨S8x8x64x1x16, .f32⟩
  | .hbm, ⟨96, _⟩ => ⟨S1x8x1x8x1, .f32⟩
  | .hbm, ⟨97, _⟩ => ⟨S8x8x64x8x16, .f32⟩
  | .hbm, ⟨98, _⟩ => ⟨S8x8x64x8x16, .f32⟩
  | .hbm, ⟨99, _⟩ => ⟨S8x8x64x8x16, .f32⟩
  | .hbm, ⟨100, _⟩ => ⟨S8x512x128, .f32⟩
  | .hbm, ⟨101, _⟩ => ⟨S8x1x512, .f32⟩
  | .hbm, ⟨102, _⟩ => ⟨S8x1x512, .f32⟩
  | .hbm, ⟨103, _⟩ => ⟨S8x128x512, .bf16⟩
  | .hbm, ⟨104, _⟩ => ⟨S8x128x512, .bf16⟩
  | .hbm, ⟨105, _⟩ => ⟨S8x512x128, .bf16⟩
  | .hbm, ⟨106, _⟩ => ⟨S8x512x128, .f32⟩
  | .hbm, ⟨107, _⟩ => ⟨S8x512x128, .bf16⟩
  | .hbm, ⟨108, _⟩ => ⟨S32x1024, .bf16⟩
  | .hbm, ⟨109, _⟩ => ⟨S32x8x128, .bf16⟩
  | .hbm, ⟨110, _⟩ => ⟨S8x32x128, .bf16⟩
  | .hbm, ⟨111, _⟩ => ⟨S32x2x64x64, .f32⟩
  | .hbm, ⟨112, _⟩ => ⟨S32x2x8x512, .f32⟩
  | .hbm, ⟨113, _⟩ => ⟨S2x8x32x512, .f32⟩
  | .hbm, ⟨114, _⟩ => ⟨S1x8x32x512, .f32⟩
  | .hbm, ⟨115, _⟩ => ⟨S8x32x512, .f32⟩
  | .hbm, ⟨116, _⟩ => ⟨S1x8x32x512, .f32⟩
  | .hbm, ⟨117, _⟩ => ⟨S8x32x512, .f32⟩
  | .hbm, ⟨118, _⟩ => ⟨S8x32x128, .f32⟩
  | .hbm, ⟨119, _⟩ => ⟨S8x32x512, .f32⟩
  | .hbm, ⟨120, _⟩ => ⟨S8x32x512, .f32⟩
  | .local _ .vmem, ⟨0, _⟩ => ⟨S8x32x128, .bf16⟩
  | .local _ .vmem, ⟨1, _⟩ => ⟨S8x32x512, .f32⟩
  | .local _ .vmem, ⟨2, _⟩ => ⟨S8x32x512, .f32⟩
  | .local _ .vmem, ⟨3, _⟩ => ⟨S8x128x512, .bf16⟩
  | .local _ .vmem, ⟨4, _⟩ => ⟨S8x128x512, .bf16⟩
  | .local _ .vmem, ⟨5, _⟩ => ⟨S8x512x128, .bf16⟩
  | .local _ .vmem, ⟨6, _⟩ => ⟨S8x512x128, .bf16⟩
  | .local _ .vmem, ⟨7, _⟩ => ⟨S8x1x512, .f32⟩
  | .local _ .vmem, ⟨8, _⟩ => ⟨S8x1x512, .f32⟩
  | .local _ .vmem, ⟨9, _⟩ => ⟨S8x32x128, .f32⟩
  | .local _ .vmem, ⟨10, _⟩ => ⟨S8x32x512, .f32⟩
  | .local _ .vmem, ⟨11, _⟩ => ⟨S8x32x512, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_0 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_c : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_v99 : Ref sig .tc := ⟨.hbm, 111, rfl⟩
abbrev main_v100 : Ref sig .tc := ⟨.hbm, 112, rfl⟩
abbrev main_v101 : Ref sig .tc := ⟨.hbm, 113, rfl⟩
abbrev main_v102 : Ref sig .tc := ⟨.hbm, 114, rfl⟩
abbrev main_v103 : Ref sig .tc := ⟨.hbm, 115, rfl⟩
abbrev main_v104 : Ref sig .tc := ⟨.hbm, 116, rfl⟩
abbrev main_v105 : Ref sig .tc := ⟨.hbm, 117, rfl⟩
abbrev main_v106_0 : Ref sig .tc := ⟨.hbm, 118, rfl⟩
abbrev main_v106_1 : Ref sig .tc := ⟨.hbm, 119, rfl⟩
abbrev main_v106_2 : Ref sig .tc := ⟨.hbm, 120, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S8x32x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S8x32x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x32x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x512x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x512x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x32x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x32x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x32x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== ReferenceIdeal.lean ====
abbrev S32x1024 : Shape := ⟨2, ![32, 1024]⟩
abbrev S1x32x2x64x64 : Shape := ⟨5, ![1, 32, 2, 64, 64]⟩
abbrev S1x64x64 : Shape := ⟨3, ![1, 64, 64]⟩
abbrev S1x64 : Shape := ⟨2, ![1, 64]⟩
abbrev S1x64x64x16 : Shape := ⟨4, ![1, 64, 64, 16]⟩
abbrev S1x64x16x64 : Shape := ⟨4, ![1, 64, 16, 64]⟩
abbrev S32x64x16 : Shape := ⟨3, ![32, 64, 16]⟩
abbrev S64x64 : Shape := ⟨2, ![64, 64]⟩
abbrev S64 : Shape := ⟨1, ![64]⟩
abbrev S64x1 : Shape := ⟨2, ![64, 1]⟩
abbrev S_ : Shape := ⟨0, ![]⟩
abbrev S64x64x1 : Shape := ⟨3, ![64, 64, 1]⟩
abbrev S64x64x16 : Shape := ⟨3, ![64, 64, 16]⟩
abbrev S1x32x1x64x64 : Shape := ⟨5, ![1, 32, 1, 64, 64]⟩
abbrev S32x64x64 : Shape := ⟨3, ![32, 64, 64]⟩
abbrev S64x32x64 : Shape := ⟨3, ![64, 32, 64]⟩
abbrev S64x16x64 : Shape := ⟨3, ![64, 16, 64]⟩
abbrev S64x32x16 : Shape := ⟨3, ![64, 32, 16]⟩
abbrev S32x8x128 : Shape := ⟨3, ![32, 8, 128]⟩
abbrev S8x32x128 : Shape := ⟨3, ![8, 32, 128]⟩
abbrev S32x8x512 : Shape := ⟨3, ![32, 8, 512]⟩
abbrev S8x32x512 : Shape := ⟨3, ![8, 32, 512]⟩

abbrev nBuf : Space → Nat
  | .hbm => 99
  | .vmem => 0
  | .smem => 0
  | _ => 0

abbrev bufTy : (tb : Table) → Fin (tcTables nBuf tb) → BufTy
  | .hbm, ⟨0, _⟩ => ⟨S32x1024, .f32⟩
  | .hbm, ⟨1, _⟩ => ⟨S1x32x2x64x64, .f32⟩
  | .hbm, ⟨2, _⟩ => ⟨S1x64x64, .f32⟩
  | .hbm, ⟨3, _⟩ => ⟨S1x64x64, .f32⟩
  | .hbm, ⟨4, _⟩ => ⟨S1x64, .f32⟩
  | .hbm, ⟨5, _⟩ => ⟨S1x64x64x16, .f32⟩
  | .hbm, ⟨6, _⟩ => ⟨S1x64x64x16, .f32⟩
  | .hbm, ⟨7, _⟩ => ⟨S1x64x16x64, .f32⟩
  | .hbm, ⟨8, _⟩ => ⟨S1x64x16x64, .f32⟩
  | .hbm, ⟨9, _⟩ => ⟨S32x64x16, .f32⟩
  | .hbm, ⟨10, _⟩ => ⟨S64x64, .f32⟩
  | .hbm, ⟨11, _⟩ => ⟨S64x64, .f32⟩
  | .hbm, ⟨12, _⟩ => ⟨S64, .f32⟩
  | .hbm, ⟨13, _⟩ => ⟨S64, .f32⟩
  | .hbm, ⟨14, _⟩ => ⟨S64x1, .f32⟩
  | .hbm, ⟨15, _⟩ => ⟨S64x64, .f32⟩
  | .hbm, ⟨16, _⟩ => ⟨S64x64, .f32⟩
  | .hbm, ⟨17, _⟩ => ⟨S64x64, .f32⟩
  | .hbm, ⟨18, _⟩ => ⟨S64x64, .f32⟩
  | .hbm, ⟨19, _⟩ => ⟨S64x64, .f32⟩
  | .hbm, ⟨20, _⟩ => ⟨S64x64, .f32⟩
  | .hbm, ⟨21, _⟩ => ⟨S64x64, .f32⟩
  | .hbm, ⟨22, _⟩ => ⟨S64x64, .f32⟩
  | .hbm, ⟨23, _⟩ => ⟨S64x64, .f32⟩
  | .hbm, ⟨24, _⟩ => ⟨S64x64, .f32⟩
  | .hbm, ⟨25, _⟩ => ⟨S64x64, .f32⟩
  | .hbm, ⟨26, _⟩ => ⟨S64x64, .f32⟩
  | .hbm, ⟨27, _⟩ => ⟨S64x64, .f32⟩
  | .hbm, ⟨28, _⟩ => ⟨S64x64, .f32⟩
  | .hbm, ⟨29, _⟩ => ⟨S_, .f32⟩
  | .hbm, ⟨30, _⟩ => ⟨S64x64, .f32⟩
  | .hbm, ⟨31, _⟩ => ⟨S64x64, .f32⟩
  | .hbm, ⟨32, _⟩ => ⟨S64x64, .f32⟩
  | .hbm, ⟨33, _⟩ => ⟨S64x64, .f32⟩
  | .hbm, ⟨34, _⟩ => ⟨S64x64, .f32⟩
  | .hbm, ⟨35, _⟩ => ⟨S64x64, .f32⟩
  | .hbm, ⟨36, _⟩ => ⟨S64x64, .f32⟩
  | .hbm, ⟨37, _⟩ => ⟨S_, .f32⟩
  | .hbm, ⟨38, _⟩ => ⟨S64x64, .f32⟩
  | .hbm, ⟨39, _⟩ => ⟨S64x64, .f32⟩
  | .hbm, ⟨40, _⟩ => ⟨S64x64, .f32⟩
  | .hbm, ⟨41, _⟩ => ⟨S64x64, .f32⟩
  | .hbm, ⟨42, _⟩ => ⟨S64x64, .f32⟩
  | .hbm, ⟨43, _⟩ => ⟨S64x64x1, .f32⟩
  | .hbm, ⟨44, _⟩ => ⟨S64x64x16, .f32⟩
  | .hbm, ⟨45, _⟩ => ⟨S64x64x16, .f32⟩
  | .hbm, ⟨46, _⟩ => ⟨S64x64x16, .f32⟩
  | .hbm, ⟨47, _⟩ => ⟨S64x64x1, .f32⟩
  | .hbm, ⟨48, _⟩ => ⟨S64x64x16, .f32⟩
  | .hbm, ⟨49, _⟩ => ⟨S64x64x16, .f32⟩
  | .hbm, ⟨50, _⟩ => ⟨S64x64x16, .f32⟩
  | .hbm, ⟨51, _⟩ => ⟨S64x64x16, .f32⟩
  | .hbm, ⟨52, _⟩ => ⟨S64x64x1, .f32⟩
  | .hbm, ⟨53, _⟩ => ⟨S64x64x16, .f32⟩
  | .hbm, ⟨54, _⟩ => ⟨S64x64x16, .f32⟩
  | .hbm, ⟨55, _⟩ => ⟨S64x64x16, .f32⟩
  | .hbm, ⟨56, _⟩ => ⟨S64x64x1, .f32⟩
  | .hbm, ⟨57, _⟩ => ⟨S64x64x16, .f32⟩
  | .hbm, ⟨58, _⟩ => ⟨S64x64x16, .f32⟩
  | .hbm, ⟨59, _⟩ => ⟨S64x64x16, .f32⟩
  | .hbm, ⟨60, _⟩ => ⟨S64x64x16, .f32⟩
  | .hbm, ⟨61, _⟩ => ⟨S1x32x1x64x64, .f32⟩
  | .hbm, ⟨62, _⟩ => ⟨S32x64x64, .f32⟩
  | .hbm, ⟨63, _⟩ => ⟨S1x32x1x64x64, .f32⟩
  | .hbm, ⟨64, _⟩ => ⟨S32x64x64, .f32⟩
  | .hbm, ⟨65, _⟩ => ⟨S1x64x64, .f32⟩
  | .hbm, ⟨66, _⟩ => ⟨S32x64x64, .f32⟩
  | .hbm, ⟨67, _⟩ => ⟨S32x64x64, .f32⟩
  | .hbm, ⟨68, _⟩ => ⟨S1x64x64, .f32⟩
  | .hbm, ⟨69, _⟩ => ⟨S32x64x64, .f32⟩
  | .hbm, ⟨70, _⟩ => ⟨S32x64x64, .f32⟩
  | .hbm, ⟨71, _⟩ => ⟨S32x64x64, .f32⟩
  | .hbm, ⟨72, _⟩ => ⟨S64x32x64, .f32⟩
  | .hbm, ⟨73, _⟩ => ⟨S32x64x64, .f32⟩
  | .hbm, ⟨74, _⟩ => ⟨S32x64x64, .f32⟩
  | .hbm, ⟨75, _⟩ => ⟨S1x64x64, .f32⟩
  | .hbm, ⟨76, _⟩ => ⟨S32x64x64, .f32⟩
  | .hbm, ⟨77, _⟩ => ⟨S32x64x64, .f32⟩
  | .hbm, ⟨78, _⟩ => ⟨S1x64x64, .f32⟩
  | .hbm, ⟨79, _⟩ => ⟨S32x64x64, .f32⟩
  | .hbm, ⟨80, _⟩ => ⟨S32x64x64, .f32⟩
  | .hbm, ⟨81, _⟩ => ⟨S32x64x64, .f32⟩
  | .hbm, ⟨82, _⟩ => ⟨S64x32x64, .f32⟩
  | .hbm, ⟨83, _⟩ => ⟨S32x64x64, .f32⟩
  | .hbm, ⟨84, _⟩ => ⟨S32x64x64, .f32⟩
  | .hbm, ⟨85, _⟩ => ⟨S64x16x64, .f32⟩
  | .hbm, ⟨86, _⟩ => ⟨S64x32x16, .f32⟩
  | .hbm, ⟨87, _⟩ => ⟨S32x64x16, .f32⟩
  | .hbm, ⟨88, _⟩ => ⟨S64x16x64, .f32⟩
  | .hbm, ⟨89, _⟩ => ⟨S64x16x64, .f32⟩
  | .hbm, ⟨90, _⟩ => ⟨S64x32x16, .f32⟩
  | .hbm, ⟨91, _⟩ => ⟨S32x64x16, .f32⟩
  | .hbm, ⟨92, _⟩ => ⟨S32x64x16, .f32⟩
  | .hbm, ⟨93, _⟩ => ⟨S32x8x128, .f32⟩
  | .hbm, ⟨94, _⟩ => ⟨S8x32x128, .f32⟩
  | .hbm, ⟨95, _⟩ => ⟨S32x8x512, .f32⟩
  | .hbm, ⟨96, _⟩ => ⟨S8x32x512, .f32⟩
  | .hbm, ⟨97, _⟩ => ⟨S32x8x512, .f32⟩
  | .hbm, ⟨98, _⟩ => ⟨S8x32x512, .f32⟩
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_0 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩

abbrev nD : Nat := 1
abbrev τ : Topo := Topo.v7x

variable {F : FTy → Type} [FloatOps F]
-- ==== Kernel2.lean ====
abbrev S4x4096x1024 : Shape := ⟨3, ![4, 4096, 1024]⟩
abbrev S16384x1024 : Shape := ⟨2, ![16384, 1024]⟩
abbrev S2x4x1024 : Shape := ⟨3, ![2, 4, 1024]⟩
abbrev S2x1024x4096 : Shape := ⟨3, ![2, 1024, 4096]⟩
abbrev S2x4096x1024 : Shape := ⟨3, ![2, 4096, 1024]⟩
abbrev S1x1024 : Shape := ⟨2, ![1, 1024]⟩
abbrev S1x1024x1024 : Shape := ⟨3, ![1, 1024, 1024]⟩
abbrev S2x4x1x1024 : Shape := ⟨4, ![2, 4, 1, 1024]⟩
abbrev S1024x1024 : Shape := ⟨2, ![1024, 1024]⟩
abbrev S1024 : Shape := ⟨1, ![1024]⟩
abbrev S1x1x1x1024 : Shape := ⟨4, ![1, 1, 1, 1024]⟩
abbrev S1x1024x4096 : Shape := ⟨3, ![1, 1024, 4096]⟩
abbrev S1024x4096 : Shape := ⟨2, ![1024, 4096]⟩
abbrev S1x4096x1024 : Shape := ⟨3, ![1, 4096, 1024]⟩
abbrev S4096x1024 : Shape := ⟨2, ![4096, 1024]⟩
abbrev S512x1024 : Shape := ⟨2, ![512, 1024]⟩
abbrev S512 : Shape := ⟨1, ![512]⟩
abbrev S512x1 : Shape := ⟨2, ![512, 1]⟩

abbrev nBuf : Space → Nat
  | .hbm => 30
  | .vmem => 17
  | .smem => 0
  | _ => 0

abbrev bufTy : (tb : Table) → Fin (tcTables nBuf tb) → BufTy
  | .hbm, ⟨0, _⟩ => ⟨S4x4096x1024, .f32⟩
  | .hbm, ⟨1, _⟩ => ⟨S16384x1024, .f32⟩
  | .hbm, ⟨2, _⟩ => ⟨S16384x1024, .f32⟩
  | .hbm, ⟨3, _⟩ => ⟨S2x4x1024, .f32⟩
  | .hbm, ⟨4, _⟩ => ⟨S2x1024x4096, .f32⟩
  | .hbm, ⟨5, _⟩ => ⟨S2x4096x1024, .f32⟩
  | .hbm, ⟨6, _⟩ => ⟨S1x1024, .f32⟩
  | .hbm, ⟨7, _⟩ => ⟨S1x1024x1024, .f32⟩
  | .hbm, ⟨8, _⟩ => ⟨S1x1024, .f32⟩
  | .hbm, ⟨9, _⟩ => ⟨S2x4x1x1024, .f32⟩
  | .hbm, ⟨10, _⟩ => ⟨S2x1024x4096, .bf16⟩
  | .hbm, ⟨11, _⟩ => ⟨S2x4096x1024, .bf16⟩
  | .hbm, ⟨12, _⟩ => ⟨S1024x1024, .f32⟩
  | .hbm, ⟨13, _⟩ => ⟨S1024x1024, .bf16⟩
  | .hbm, ⟨14, _⟩ => ⟨S1024, .f32⟩
  | .hbm, ⟨15, _⟩ => ⟨S1x1024, .f32⟩
  | .hbm, ⟨16, _⟩ => ⟨S1024, .f32⟩
  | .hbm, ⟨17, _⟩ => ⟨S1x1024, .f32⟩
  | .hbm, ⟨18, _⟩ => ⟨S16384x1024, .f32⟩
  | .hbm, ⟨19, _⟩ => ⟨S1x1x1x1024, .f32⟩
  | .hbm, ⟨20, _⟩ => ⟨S1x1024, .f32⟩
  | .hbm, ⟨21, _⟩ => ⟨S1x1x1x1024, .f32⟩
  | .hbm, ⟨22, _⟩ => ⟨S1x1024, .f32⟩
  | .hbm, ⟨23, _⟩ => ⟨S1x1024x4096, .bf16⟩
  | .hbm, ⟨24, _⟩ => ⟨S1024x4096, .bf16⟩
  | .hbm, ⟨25, _⟩ => ⟨S1x4096x1024, .bf16⟩
  | .hbm, ⟨26, _⟩ => ⟨S4096x1024, .bf16⟩
  | .hbm, ⟨27, _⟩ => ⟨S1x1x1x1024, .f32⟩
  | .hbm, ⟨28, _⟩ => ⟨S1x1024, .f32⟩
  | .hbm, ⟨29, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1024x1024, .bf16⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | .local _ .vmem, ⟨10, _⟩ => ⟨S1x1024, .f32⟩
  | .local _ .vmem, ⟨11, _⟩ => ⟨S1024x4096, .bf16⟩
  | .local _ .vmem, ⟨12, _⟩ => ⟨S4096x1024, .bf16⟩
  | .local _ .vmem, ⟨13, _⟩ => ⟨S1x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x4096 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4096x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference2Ideal.lean ====
abbrev S4x4096x1024 : Shape := ⟨3, ![4, 4096, 1024]⟩
abbrev S16384x1024 : Shape := ⟨2, ![16384, 1024]⟩
abbrev S2x4x1024 : Shape := ⟨3, ![2, 4, 1024]⟩
abbrev S2x1024x4096 : Shape := ⟨3, ![2, 1024, 4096]⟩
abbrev S2x4096x1024 : Shape := ⟨3, ![2, 4096, 1024]⟩
abbrev S1x1024 : Shape := ⟨2, ![1, 1024]⟩
abbrev S1x1024x1024 : Shape := ⟨3, ![1, 1024, 1024]⟩
abbrev S1x4x1024 : Shape := ⟨3, ![1, 4, 1024]⟩
abbrev S4x1024 : Shape := ⟨2, ![4, 1024]⟩
abbrev S1024 : Shape := ⟨1, ![1024]⟩
abbrev S_ : Shape := ⟨0, ![]⟩
abbrev S1024x1024 : Shape := ⟨2, ![1024, 1024]⟩
abbrev S16384 : Shape := ⟨1, ![16384]⟩
abbrev S16384x1 : Shape := ⟨2, ![16384, 1]⟩
abbrev S1x1024x4096 : Shape := ⟨3, ![1, 1024, 4096]⟩
abbrev S1024x4096 : Shape := ⟨2, ![1024, 4096]⟩
abbrev S1x4096x1024 : Shape := ⟨3, ![1, 4096, 1024]⟩
abbrev S4096x1024 : Shape := ⟨2, ![4096, 1024]⟩
abbrev S16384x4096 : Shape := ⟨2, ![16384, 4096]⟩

abbrev nBuf : Space → Nat
  | .hbm => 115
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S16384x1024, .f32⟩
  | .hbm, ⟨2, _⟩ => ⟨S16384x1024, .f32⟩
  | .hbm, ⟨3, _⟩ => ⟨S2x4x1024, .f32⟩
  | .hbm, ⟨4, _⟩ => ⟨S2x1024x4096, .f32⟩
  | .hbm, ⟨5, _⟩ => ⟨S2x4096x1024, .f32⟩
  | .hbm, ⟨6, _⟩ => ⟨S1x1024, .f32⟩
  | .hbm, ⟨7, _⟩ => ⟨S1x1024x1024, .f32⟩
  | .hbm, ⟨8, _⟩ => ⟨S1x1024, .f32⟩
  | .hbm, ⟨9, _⟩ => ⟨S1x4x1024, .f32⟩
  | .hbm, ⟨10, _⟩ => ⟨S4x1024, .f32⟩
  | .hbm, ⟨11, _⟩ => ⟨S16384x1024, .f32⟩
  | .hbm, ⟨12, _⟩ => ⟨S1024, .f32⟩
  | .hbm, ⟨13, _⟩ => ⟨S1x1024, .f32⟩
  | .hbm, ⟨14, _⟩ => ⟨S16384x1024, .f32⟩
  | .hbm, ⟨15, _⟩ => ⟨S16384x1024, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S_, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S_, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S_, .f32⟩
  | .hbm, ⟨28, _⟩ => ⟨S16384x1024, .f32⟩
  | .hbm, ⟨29, _⟩ => ⟨S16384x1024, .f32⟩
  | .hbm, ⟨30, _⟩ => ⟨S_, .f32⟩
  | .hbm, ⟨31, _⟩ => ⟨S16384x1024, .f32⟩
  | .hbm, ⟨32, _⟩ => ⟨S16384x1024, .f32⟩
  | .hbm, ⟨33, _⟩ => ⟨S16384x1024, .f32⟩
  | .hbm, ⟨34, _⟩ => ⟨S1024x1024, .f32⟩
  | .hbm, ⟨35, _⟩ => ⟨S16384x1024, .f32⟩
  | .hbm, ⟨36, _⟩ => ⟨S1024, .f32⟩
  | .hbm, ⟨37, _⟩ => ⟨S1x1024, .f32⟩
  | .hbm, ⟨38, _⟩ => ⟨S16384x1024, .f32⟩
  | .hbm, ⟨39, _⟩ => ⟨S16384x1024, .f32⟩
  | .hbm, ⟨40, _⟩ => ⟨S16384x1024, .f32⟩
  | .hbm, ⟨41, _⟩ => ⟨S16384x1024, .f32⟩
  | .hbm, ⟨42, _⟩ => ⟨S_, .f32⟩
  | .hbm, ⟨43, _⟩ => ⟨S16384x1024, .f32⟩
  | .hbm, ⟨44, _⟩ => ⟨S16384x1024, .f32⟩
  | .hbm, ⟨45, _⟩ => ⟨S_, .f32⟩
  | .hbm, ⟨46, _⟩ => ⟨S16384x1024, .f32⟩
  | .hbm, ⟨47, _⟩ => ⟨S16384x1024, .f32⟩
  | .hbm, ⟨48, _⟩ => ⟨S16384x1024, .f32⟩
  | .hbm, ⟨49, _⟩ => ⟨S1x1024, .f32⟩
  | .hbm, ⟨50, _⟩ => ⟨S1024, .f32⟩
  | .hbm, ⟨51, _⟩ => ⟨S16384x1024, .f32⟩
  | .hbm, ⟨52, _⟩ => ⟨S_, .f32⟩
  | .hbm, ⟨53, _⟩ => ⟨S16384, .f32⟩
  | .hbm, ⟨54, _⟩ => ⟨S16384x1, .f32⟩
  | .hbm, ⟨55, _⟩ => ⟨S_, .f32⟩
  | .hbm, ⟨56, _⟩ => ⟨S16384x1, .f32⟩
  | .hbm, ⟨57, _⟩ => ⟨S16384x1, .f32⟩
  | .hbm, ⟨58, _⟩ => ⟨S_, .f32⟩
  | .hbm, ⟨59, _⟩ => ⟨S16384x1, .f32⟩
  | .hbm, ⟨60, _⟩ => ⟨S16384x1, .f32⟩
  | .hbm, ⟨61, _⟩ => ⟨S16384x1, .f32⟩
  | .hbm, ⟨62, _⟩ => ⟨S16384x1024, .f32⟩
  | .hbm, ⟨63, _⟩ => ⟨S16384x1024, .f32⟩
  | .hbm, ⟨64, _⟩ => ⟨S1x1024, .f32⟩
  | .hbm, ⟨65, _⟩ => ⟨S16384x1024, .f32⟩
  | .hbm, ⟨66, _⟩ => ⟨S16384x1024, .f32⟩
  | .hbm, ⟨67, _⟩ => ⟨S16384x1024, .f32⟩
  | .hbm, ⟨68, _⟩ => ⟨S1x1024, .f32⟩
  | .hbm, ⟨69, _⟩ => ⟨S1024, .f32⟩
  | .hbm, ⟨70, _⟩ => ⟨S16384x1024, .f32⟩
  | .hbm, ⟨71, _⟩ => ⟨S_, .f32⟩
  | .hbm, ⟨72, _⟩ => ⟨S16384, .f32⟩
  | .hbm, ⟨73, _⟩ => ⟨S16384x1, .f32⟩
  | .hbm, ⟨74, _⟩ => ⟨S_, .f32⟩
  | .hbm, ⟨75, _⟩ => ⟨S16384x1, .f32⟩
  | .hbm, ⟨76, _⟩ => ⟨S16384x1, .f32⟩
  | .hbm, ⟨77, _⟩ => ⟨S_, .f32⟩
  | .hbm, ⟨78, _⟩ => ⟨S16384x1, .f32⟩
  | .hbm, ⟨79, _⟩ => ⟨S16384x1, .f32⟩
  | .hbm, ⟨80, _⟩ => ⟨S16384x1, .f32⟩
  | .hbm, ⟨81, _⟩ => ⟨S16384x1024, .f32⟩
  | .hbm, ⟨82, _⟩ => ⟨S16384x1024, .f32⟩
  | .hbm, ⟨83, _⟩ => ⟨S1x1024, .f32⟩
  | .hbm, ⟨84, _⟩ => ⟨S16384x1024, .f32⟩
  | .hbm, ⟨85, _⟩ => ⟨S16384x1024, .f32⟩
  | .hbm, ⟨86, _⟩ => ⟨S1x1024x4096, .f32⟩
  | .hbm, ⟨87, _⟩ => ⟨S1024x4096, .f32⟩
  | .hbm, ⟨88, _⟩ => ⟨S1x4096x1024, .f32⟩
  | .hbm, ⟨89, _⟩ => ⟨S4096x1024, .f32⟩
  | .hbm, ⟨90, _⟩ => ⟨S16384x4096, .f32⟩
  | .hbm, ⟨91, _⟩ => ⟨S_, .f32⟩
  | .hbm, ⟨92, _⟩ => ⟨S16384x4096, .f32⟩
  | .hbm, ⟨93, _⟩ => ⟨S16384x4096, .f32⟩
  | .hbm, ⟨94, _⟩ => ⟨S16384x4096, .f32⟩
  | .hbm, ⟨95, _⟩ => ⟨S16384x1024, .f32⟩
  | .hbm, ⟨96, _⟩ => ⟨S1x1024, .f32⟩
  | .hbm, ⟨97, _⟩ => ⟨S1024, .f32⟩
  | .hbm, ⟨98, _⟩ => ⟨S16384x1024, .f32⟩
  | .hbm, ⟨99, _⟩ => ⟨S_, .f32⟩
  | .hbm, ⟨100, _⟩ => ⟨S16384, .f32⟩
  | .hbm, ⟨101, _⟩ => ⟨S16384x1, .f32⟩
  | .hbm, ⟨102, _⟩ => ⟨S_, .f32⟩
  | .hbm, ⟨103, _⟩ => ⟨S16384x1, .f32⟩
  | .hbm, ⟨104, _⟩ => ⟨S16384x1, .f32⟩
  | .hbm, ⟨105, _⟩ => ⟨S_, .f32⟩
  | .hbm, ⟨106, _⟩ => ⟨S16384x1, .f32⟩
  | .hbm, ⟨107, _⟩ => ⟨S16384x1, .f32⟩
  | .hbm, ⟨108, _⟩ => ⟨S16384x1, .f32⟩
  | .hbm, ⟨109, _⟩ => ⟨S16384x1024, .f32⟩
  | .hbm, ⟨110, _⟩ => ⟨S16384x1024, .f32⟩
  | .hbm, ⟨111, _⟩ => ⟨S1x1024, .f32⟩
  | .hbm, ⟨112, _⟩ => ⟨S16384x1024, .f32⟩
  | .hbm, ⟨113, _⟩ => ⟨S16384x1024, .f32⟩
  | .hbm, ⟨114, _⟩ => ⟨S16384x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_0 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_1 : Ref sig .tc := ⟨.hbm, 27, rfl⟩
abbrev main_v16 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_3 : Ref sig .tc := ⟨.hbm, 42, rfl⟩
abbrev main_v29 : Ref sig .tc := ⟨.hbm, 43, rfl⟩
abbrev main_v30 : Ref sig .tc := ⟨.hbm, 44, rfl⟩
abbrev main_cst_4 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_5 : Ref sig .tc := ⟨.hbm, 52, rfl⟩
abbrev main_v37 : Ref sig .tc := ⟨.hbm, 53, rfl⟩
abbrev main_v38 : Ref sig .tc := ⟨.hbm, 54, rfl⟩
abbrev main_cst_6 : Ref sig .tc := ⟨.hbm, 55, rfl⟩
abbrev main_v39 : Ref sig .tc := ⟨.hbm, 56, rfl⟩
abbrev main_v40 : Ref sig .tc := ⟨.hbm, 57, rfl⟩
abbrev main_cst_7 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_8 : Ref sig .tc := ⟨.hbm, 71, rfl⟩
abbrev main_v53 : Ref sig .tc := ⟨.hbm, 72, rfl⟩
abbrev main_v54 : Ref sig .tc := ⟨.hbm, 73, rfl⟩
abbrev main_cst_9 : Ref sig .tc := ⟨.hbm, 74, rfl⟩
abbrev main_v55 : Ref sig .tc := ⟨.hbm, 75, rfl⟩
abbrev main_v56 : Ref sig .tc := ⟨.hbm, 76, rfl⟩
abbrev main_cst_10 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_call0_cst : Ref sig .tc := ⟨.hbm, 91, rfl⟩
abbrev main_call0_v0 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_cst_11 : Ref sig .tc := ⟨.hbm, 99, rfl⟩
abbrev main_v76 : Ref sig .tc := ⟨.hbm, 100, rfl⟩
abbrev main_v77 : Ref sig .tc := ⟨.hbm, 101, rfl⟩
abbrev main_cst_12 : Ref sig .tc := ⟨.hbm, 102, rfl⟩
abbrev main_v78 : Ref sig .tc := ⟨.hbm, 103, rfl⟩
abbrev main_v79 : Ref sig .tc := ⟨.hbm, 104, rfl⟩
abbrev main_cst_13 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩

abbrev nD : Nat := 1
abbrev τ : Topo := Topo.v7x

variable {F : FTy → Type} [FloatOps F]
-- ==== Kernel3.lean ====
abbrev S1024x16384 : Shape := ⟨2, ![1024, 16384]⟩
abbrev S4x4096x1024 : Shape := ⟨3, ![4, 4096, 1024]⟩
abbrev S2x4x1024 : Shape := ⟨3, ![2, 4, 1024]⟩
abbrev S2x1024x4096 : Shape := ⟨3, ![2, 1024, 4096]⟩
abbrev S2x4096x1024 : Shape := ⟨3, ![2, 4096, 1024]⟩
abbrev S1x1024x1024 : Shape := ⟨3, ![1, 1024, 1024]⟩
abbrev S2x4x1x1024 : Shape := ⟨4, ![2, 4, 1, 1024]⟩
abbrev S1024x1024 : Shape := ⟨2, ![1024, 1024]⟩
abbrev S16384x1024 : Shape := ⟨2, ![16384, 1024]⟩
abbrev S1x1x1x1024 : Shape := ⟨4, ![1, 1, 1, 1024]⟩
abbrev S1x1024 : Shape := ⟨2, ![1, 1024]⟩
abbrev S1x1024x4096 : Shape := ⟨3, ![1, 1024, 4096]⟩
abbrev S1024x4096 : Shape := ⟨2, ![1024, 4096]⟩
abbrev S1x4096x1024 : Shape := ⟨3, ![1, 4096, 1024]⟩
abbrev S4096x1024 : Shape := ⟨2, ![4096, 1024]⟩
abbrev S1024x512 : Shape := ⟨2, ![1024, 512]⟩
abbrev S512x1024 : Shape := ⟨2, ![512, 1024]⟩
abbrev S512 : Shape := ⟨1, ![512]⟩
abbrev S512x1 : Shape := ⟨2, ![512, 1]⟩

abbrev nBuf : Space → Nat
  | .hbm => 26
  | .vmem => 16
  | .smem => 0
  | _ => 0

abbrev bufTy : (tb : Table) → Fin (tcTables nBuf tb) → BufTy
  | .hbm, ⟨0, _⟩ => ⟨S1024x16384, .bf16⟩
  | .hbm, ⟨1, _⟩ => ⟨S4x4096x1024, .f32⟩
  | .hbm, ⟨2, _⟩ => ⟨S2x4x1024, .f32⟩
  | .hbm, ⟨3, _⟩ => ⟨S2x1024x4096, .f32⟩
  | .hbm, ⟨4, _⟩ => ⟨S2x4096x1024, .f32⟩
  | .hbm, ⟨5, _⟩ => ⟨S1x1024x1024, .f32⟩
  | .hbm, ⟨6, _⟩ => ⟨S2x4x1x1024, .f32⟩
  | .hbm, ⟨7, _⟩ => ⟨S1024x1024, .f32⟩
  | .hbm, ⟨8, _⟩ => ⟨S1024x1024, .bf16⟩
  | .hbm, ⟨9, _⟩ => ⟨S2x1024x4096, .bf16⟩
  | .hbm, ⟨10, _⟩ => ⟨S2x4096x1024, .bf16⟩
  | .hbm, ⟨11, _⟩ => ⟨S16384x1024, .f32⟩
  | .hbm, ⟨12, _⟩ => ⟨S1x1x1x1024, .f32⟩
  | .hbm, ⟨13, _⟩ => ⟨S1x1024, .f32⟩
  | .hbm, ⟨14, _⟩ => ⟨S1x1x1x1024, .f32⟩
  | .hbm, ⟨15, _⟩ => ⟨S1x1024, .f32⟩
  | .hbm, ⟨16, _⟩ => ⟨S1x1024x4096, .bf16⟩
  | .hbm, ⟨17, _⟩ => ⟨S1024x4096, .bf16⟩
  | .hbm, ⟨18, _⟩ => ⟨S1x4096x1024, .bf16⟩
  | .hbm, ⟨19, _⟩ => ⟨S4096x1024, .bf16⟩
  | .hbm, ⟨20, _⟩ => ⟨S1x1x1x1024, .f32⟩
  | .hbm, ⟨21, _⟩ => ⟨S1x1024, .f32⟩
  | .hbm, ⟨22, _⟩ => ⟨S1x1x1x1024, .f32⟩
  | .hbm, ⟨23, _⟩ => ⟨S1x1024, .f32⟩
  | .hbm, ⟨24, _⟩ => ⟨S16384x1024, .f32⟩
  | .hbm, ⟨25, _⟩ => ⟨S16384x1024, .f32⟩
  | .local _ .vmem, ⟨0, _⟩ => ⟨S1024x512, .bf16⟩
  | .local _ .vmem, ⟨1, _⟩ => ⟨S1024x512, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S1024x4096, .bf16⟩
  | .local _ .vmem, ⟨8, _⟩ => ⟨S4096x1024, .bf16⟩
  | .local _ .vmem, ⟨9, _⟩ => ⟨S1x1024, .f32⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | _, _ => ⟨S1024x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18_0 : Ref sig .tc := ⟨.hbm, 24, rfl⟩
abbrev main_v18_1 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4096x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference3Ideal.lean ====
abbrev S1024x16384 : Shape := ⟨2, ![1024, 16384]⟩
abbrev S4x4096x1024 : Shape := ⟨3, ![4, 4096, 1024]⟩
abbrev S2x4x1024 : Shape := ⟨3, ![2, 4, 1024]⟩
abbrev S2x1024x4096 : Shape := ⟨3, ![2, 1024, 4096]⟩
abbrev S2x4096x1024 : Shape := ⟨3, ![2, 4096, 1024]⟩
abbrev S1x1024x1024 : Shape := ⟨3, ![1, 1024, 1024]⟩
abbrev S1x4x1024 : Shape := ⟨3, ![1, 4, 1024]⟩
abbrev S4x1024 : Shape := ⟨2, ![4, 1024]⟩
abbrev S16384x1024 : Shape := ⟨2, ![16384, 1024]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024x4096 : Shape := ⟨3, ![1, 1024, 4096]⟩
abbrev S1024x4096 : Shape := ⟨2, ![1024, 4096]⟩
abbrev S1x4096x1024 : Shape := ⟨3, ![1, 4096, 1024]⟩
abbrev S4096x1024 : Shape := ⟨2, ![4096, 1024]⟩
abbrev S16384x4096 : Shape := ⟨2, ![16384, 4096]⟩
abbrev S1x1x1024 : Shape := ⟨3, ![1, 1, 1024]⟩

abbrev nBuf : Space → Nat
  | .hbm => 97
  | .vmem => 0
  | .smem => 0
  | _ => 0

abbrev bufTy : (tb : Table) → Fin (tcTables nBuf tb) → BufTy
  | .hbm, ⟨0, _⟩ => ⟨S1024x16384, .bf16⟩
  | .hbm, ⟨1, _⟩ => ⟨S4x4096x1024, .f32⟩
  | .hbm, ⟨2, _⟩ => ⟨S2x4x1024, .f32⟩
  | .hbm, ⟨3, _⟩ => ⟨S2x1024x4096, .f32⟩
  | .hbm, ⟨4, _⟩ => ⟨S2x4096x1024, .f32⟩
  | .hbm, ⟨5, _⟩ => ⟨S1x1024x1024, .f32⟩
  | .hbm, ⟨6, _⟩ => ⟨S1x4x1024, .f32⟩
  | .hbm, ⟨7, _⟩ => ⟨S4x1024, .f32⟩
  | .hbm, ⟨8, _⟩ => ⟨S1024x16384, .f32⟩
  | .hbm, ⟨9, _⟩ => ⟨S16384x1024, .f32⟩
  | .hbm, ⟨10, _⟩ => ⟨S16384x1024, .f32⟩
  | .hbm, ⟨11, _⟩ => ⟨S1024x1024, .f32⟩
  | .hbm, ⟨12, _⟩ => ⟨S16384x1024, .f32⟩
  | .hbm, ⟨13, _⟩ => ⟨S1x1024, .f32⟩
  | .hbm, ⟨14, _⟩ => ⟨S1024, .f32⟩
  | .hbm, ⟨15, _⟩ => ⟨S16384x1024, .f32⟩
  | .hbm, ⟨16, _⟩ => ⟨S_, .f32⟩
  | .hbm, ⟨17, _⟩ => ⟨S16384, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S_, .f32⟩
  | .hbm, ⟨23, _⟩ => ⟨S16384x1, .f32⟩
  | .hbm, ⟨24, _⟩ => ⟨S16384x1, .f32⟩
  | .hbm, ⟨25, _⟩ => ⟨S16384x1, .f32⟩
  | .hbm, ⟨26, _⟩ => ⟨S16384x1024, .f32⟩
  | .hbm, ⟨27, _⟩ => ⟨S16384x1024, .f32⟩
  | .hbm, ⟨28, _⟩ => ⟨S1x1024, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S1x1024, .f32⟩
  | .hbm, ⟨33, _⟩ => ⟨S1024, .f32⟩
  | .hbm, ⟨34, _⟩ => ⟨S16384x1024, .f32⟩
  | .hbm, ⟨35, _⟩ => ⟨S_, .f32⟩
  | .hbm, ⟨36, _⟩ => ⟨S16384, .f32⟩
  | .hbm, ⟨37, _⟩ => ⟨S16384x1, .f32⟩
  | .hbm, ⟨38, _⟩ => ⟨S_, .f32⟩
  | .hbm, ⟨39, _⟩ => ⟨S16384x1, .f32⟩
  | .hbm, ⟨40, _⟩ => ⟨S16384x1, .f32⟩
  | .hbm, ⟨41, _⟩ => ⟨S_, .f32⟩
  | .hbm, ⟨42, _⟩ => ⟨S16384x1, .f32⟩
  | .hbm, ⟨43, _⟩ => ⟨S16384x1, .f32⟩
  | .hbm, ⟨44, _⟩ => ⟨S16384x1, .f32⟩
  | .hbm, ⟨45, _⟩ => ⟨S16384x1024, .f32⟩
  | .hbm, ⟨46, _⟩ => ⟨S16384x1024, .f32⟩
  | .hbm, ⟨47, _⟩ => ⟨S1x1024, .f32⟩
  | .hbm, ⟨48, _⟩ => ⟨S16384x1024, .f32⟩
  | .hbm, ⟨49, _⟩ => ⟨S16384x1024, .f32⟩
  | .hbm, ⟨50, _⟩ => ⟨S1x1024x4096, .f32⟩
  | .hbm, ⟨51, _⟩ => ⟨S1024x4096, .f32⟩
  | .hbm, ⟨52, _⟩ => ⟨S1x4096x1024, .f32⟩
  | .hbm, ⟨53, _⟩ => ⟨S4096x1024, .f32⟩
  | .hbm, ⟨54, _⟩ => ⟨S16384x4096, .f32⟩
  | .hbm, ⟨55, _⟩ => ⟨S_, .f32⟩
  | .hbm, ⟨56, _⟩ => ⟨S16384x4096, .f32⟩
  | .hbm, ⟨57, _⟩ => ⟨S16384x4096, .f32⟩
  | .hbm, ⟨58, _⟩ => ⟨S16384x4096, .f32⟩
  | .hbm, ⟨59, _⟩ => ⟨S16384x1024, .f32⟩
  | .hbm, ⟨60, _⟩ => ⟨S1x1024, .f32⟩
  | .hbm, ⟨61, _⟩ => ⟨S1024, .f32⟩
  | .hbm, ⟨62, _⟩ => ⟨S16384x1024, .f32⟩
  | .hbm, ⟨63, _⟩ => ⟨S_, .f32⟩
  | .hbm, ⟨64, _⟩ => ⟨S16384, .f32⟩
  | .hbm, ⟨65, _⟩ => ⟨S16384x1, .f32⟩
  | .hbm, ⟨66, _⟩ => ⟨S_, .f32⟩
  | .hbm, ⟨67, _⟩ => ⟨S16384x1, .f32⟩
  | .hbm, ⟨68, _⟩ => ⟨S16384x1, .f32⟩
  | .hbm, ⟨69, _⟩ => ⟨S_, .f32⟩
  | .hbm, ⟨70, _⟩ => ⟨S16384x1, .f32⟩
  | .hbm, ⟨71, _⟩ => ⟨S16384x1, .f32⟩
  | .hbm, ⟨72, _⟩ => ⟨S16384x1, .f32⟩
  | .hbm, ⟨73, _⟩ => ⟨S16384x1024, .f32⟩
  | .hbm, ⟨74, _⟩ => ⟨S16384x1024, .f32⟩
  | .hbm, ⟨75, _⟩ => ⟨S1x1024, .f32⟩
  | .hbm, ⟨76, _⟩ => ⟨S16384x1024, .f32⟩
  | .hbm, ⟨77, _⟩ => ⟨S16384x1024, .f32⟩
  | .hbm, ⟨78, _⟩ => ⟨S16384x1024, .f32⟩
  | .hbm, ⟨79, _⟩ => ⟨S1x1x1024, .f32⟩
  | .hbm, ⟨80, _⟩ => ⟨S1024, .f32⟩
  | .hbm, ⟨81, _⟩ => ⟨S16384x1024, .f32⟩
  | .hbm, ⟨82, _⟩ => ⟨S_, .f32⟩
  | .hbm, ⟨83, _⟩ => ⟨S16384, .f32⟩
  | .hbm, ⟨84, _⟩ => ⟨S16384x1, .f32⟩
  | .hbm, ⟨85, _⟩ => ⟨S_, .f32⟩
  | .hbm, ⟨86, _⟩ => ⟨S16384x1, .f32⟩
  | .hbm, ⟨87, _⟩ => ⟨S16384x1, .f32⟩
  | .hbm, ⟨88, _⟩ => ⟨S_, .f32⟩
  | .hbm, ⟨89, _⟩ => ⟨S16384x1, .f32⟩
  | .hbm, ⟨90, _⟩ => ⟨S16384x1, .f32⟩
  | .hbm, ⟨91, _⟩ => ⟨S16384x1, .f32⟩
  | .hbm, ⟨92, _⟩ => ⟨S16384x1024, .f32⟩
  | .hbm, ⟨93, _⟩ => ⟨S16384x1024, .f32⟩
  | .hbm, ⟨94, _⟩ => ⟨S1x1024, .f32⟩
  | .hbm, ⟨95, _⟩ => ⟨S16384x1024, .f32⟩
  | .hbm, ⟨96, _⟩ => ⟨S16384x1024, .f32⟩
  | _, _ => ⟨S1024x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_2 : Ref sig .tc := ⟨.hbm, 35, rfl⟩
abbrev main_v26 : Ref sig .tc := ⟨.hbm, 36, rfl⟩
abbrev main_v27 : Ref sig .tc := ⟨.hbm, 37, rfl⟩
abbrev main_cst_3 : Ref sig .tc := ⟨.hbm, 38, rfl⟩
abbrev main_v28 : Ref sig .tc := ⟨.hbm, 39, rfl⟩
abbrev main_v29 : Ref sig .tc := ⟨.hbm, 40, rfl⟩
abbrev main_cst_4 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_call0_cst : Ref sig .tc := ⟨.hbm, 55, rfl⟩
abbrev main_call0_v0 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_cst_5 : Ref sig .tc := ⟨.hbm, 63, rfl⟩
abbrev main_v49 : Ref sig .tc := ⟨.hbm, 64, rfl⟩
abbrev main_v50 : Ref sig .tc := ⟨.hbm, 65, rfl⟩
abbrev main_cst_6 : Ref sig .tc := ⟨.hbm, 66, rfl⟩
abbrev main_v51 : Ref sig .tc := ⟨.hbm, 67, rfl⟩
abbrev main_v52 : Ref sig .tc := ⟨.hbm, 68, rfl⟩
abbrev main_cst_7 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_cst_8 : Ref sig .tc := ⟨.hbm, 82, rfl⟩
abbrev main_v65 : Ref sig .tc := ⟨.hbm, 83, rfl⟩
abbrev main_v66 : Ref sig .tc := ⟨.hbm, 84, rfl⟩
abbrev main_cst_9 : Ref sig .tc := ⟨.hbm, 85, rfl⟩
abbrev main_v67 : Ref sig .tc := ⟨.hbm, 86, rfl⟩
abbrev main_v68 : Ref sig .tc := ⟨.hbm, 87, rfl⟩
abbrev main_cst_10 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩

abbrev nD : Nat := 1
abbrev τ : Topo := Topo.v7x

variable {F : FTy → Type} [FloatOps F]
-- ==== Kernel4.lean ====
abbrev S32x16x64 : Shape := ⟨3, ![32, 16, 64]⟩
abbrev S32x1x1024 : Shape := ⟨3, ![32, 1, 1024]⟩
abbrev S2x4x1024 : Shape := ⟨3, ![2, 4, 1024]⟩
abbrev S2x1024x4096 : Shape := ⟨3, ![2, 1024, 4096]⟩
abbrev S2x4096x1024 : Shape := ⟨3, ![2, 4096, 1024]⟩
abbrev S1x1024x1024 : Shape := ⟨3, ![1, 1024, 1024]⟩
abbrev S2x4x1x1024 : Shape := ⟨4, ![2, 4, 1, 1024]⟩
abbrev S1024x1024 : Shape := ⟨2, ![1024, 1024]⟩
abbrev S32x1024 : Shape := ⟨2, ![32, 1024]⟩
abbrev S1x1x1x1024 : Shape := ⟨4, ![1, 1, 1, 1024]⟩
abbrev S1x1024 : Shape := ⟨2, ![1, 1024]⟩
abbrev S1x1024x4096 : Shape := ⟨3, ![1, 1024, 4096]⟩
abbrev S1024x4096 : Shape := ⟨2, ![1024, 4096]⟩
abbrev S1x4096x1024 : Shape := ⟨3, ![1, 4096, 1024]⟩
abbrev S4096x1024 : Shape := ⟨2, ![4096, 1024]⟩
abbrev S32 : Shape := ⟨1, ![32]⟩
abbrev S32x1 : Shape := ⟨2, ![32, 1]⟩

abbrev nBuf : Space → Nat
  | .hbm => 27
  | .vmem => 12
  | .smem => 0
  | _ => 0

abbrev bufTy : (tb : Table) → Fin (tcTables nBuf tb) → BufTy
  | .hbm, ⟨0, _⟩ => ⟨S32x16x64, .bf16⟩
  | .hbm, ⟨1, _⟩ => ⟨S32x1x1024, .f32⟩
  | .hbm, ⟨2, _⟩ => ⟨S2x4x1024, .f32⟩
  | .hbm, ⟨3, _⟩ => ⟨S2x1024x4096, .f32⟩
  | .hbm, ⟨4, _⟩ => ⟨S2x4096x1024, .f32⟩
  | .hbm, ⟨5, _⟩ => ⟨S1x1024x1024, .f32⟩
  | .hbm, ⟨6, _⟩ => ⟨S2x4x1x1024, .f32⟩
  | .hbm, ⟨7, _⟩ => ⟨S1024x1024, .f32⟩
  | .hbm, ⟨8, _⟩ => ⟨S1024x1024, .bf16⟩
  | .hbm, ⟨9, _⟩ => ⟨S2x1024x4096, .bf16⟩
  | .hbm, ⟨10, _⟩ => ⟨S2x4096x1024, .bf16⟩
  | .hbm, ⟨11, _⟩ => ⟨S32x1024, .f32⟩
  | .hbm, ⟨12, _⟩ => ⟨S32x1024, .bf16⟩
  | .hbm, ⟨13, _⟩ => ⟨S1x1x1x1024, .f32⟩
  | .hbm, ⟨14, _⟩ => ⟨S1x1024, .f32⟩
  | .hbm, ⟨15, _⟩ => ⟨S1x1x1x1024, .f32⟩
  | .hbm, ⟨16, _⟩ => ⟨S1x1024, .f32⟩
  | .hbm, ⟨17, _⟩ => ⟨S1x1024x4096, .bf16⟩
  | .hbm, ⟨18, _⟩ => ⟨S1024x4096, .bf16⟩
  | .hbm, ⟨19, _⟩ => ⟨S1x4096x1024, .bf16⟩
  | .hbm, ⟨20, _⟩ => ⟨S4096x1024, .bf16⟩
  | .hbm, ⟨21, _⟩ => ⟨S1x1x1x1024, .f32⟩
  | .hbm, ⟨22, _⟩ => ⟨S1x1024, .f32⟩
  | .hbm, ⟨23, _⟩ => ⟨S1x1x1x1024, .f32⟩
  | .hbm, ⟨24, _⟩ => ⟨S1x1024, .f32⟩
  | .hbm, ⟨25, _⟩ => ⟨S32x1024, .f32⟩
  | .hbm, ⟨26, _⟩ => ⟨S32x1024, .f32⟩
  | .local _ .vmem, ⟨0, _⟩ => ⟨S32x1024, .bf16⟩
  | .local _ .vmem, ⟨1, _⟩ => ⟨S1024x1024, .bf16⟩
  | .local _ .vmem, ⟨2, _⟩ => ⟨S32x1024, .f32⟩
  | .local _ .vmem, ⟨3, _⟩ => ⟨S1x1024, .f32⟩
  | .local _ .vmem, ⟨4, _⟩ => ⟨S1x1024, .f32⟩
  | .local _ .vmem, ⟨5, _⟩ => ⟨S1024x4096, .bf16⟩
  | .local _ .vmem, ⟨6, _⟩ => ⟨S4096x1024, .bf16⟩
  | .local _ .vmem, ⟨7, _⟩ => ⟨S1x1024, .f32⟩
  | .local _ .vmem, ⟨8, _⟩ => ⟨S1x1024, .f32⟩
  | .local _ .vmem, ⟨9, _⟩ => ⟨S32x1024, .f32⟩
  | .local _ .vmem, ⟨10, _⟩ => ⟨S32x1024, .f32⟩
  | .local _ .vmem, ⟨11, _⟩ => ⟨S32x1024, .f32⟩
  | _, _ => ⟨S32x16x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19_0 : Ref sig .tc := ⟨.hbm, 25, rfl⟩
abbrev main_v19_1 : Ref sig .tc := ⟨.hbm, 26, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_scratch0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4096x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S32x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S32x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]
-- ==== Reference4Ideal.lean ====
abbrev S32x16x64 : Shape := ⟨3, ![32, 16, 64]⟩
abbrev S32x1x1024 : Shape := ⟨3, ![32, 1, 1024]⟩
abbrev S2x4x1024 : Shape := ⟨3, ![2, 4, 1024]⟩
abbrev S2x1024x4096 : Shape := ⟨3, ![2, 1024, 4096]⟩
abbrev S2x4096x1024 : Shape := ⟨3, ![2, 4096, 1024]⟩
abbrev S1x1024x1024 : Shape := ⟨3, ![1, 1024, 1024]⟩
abbrev S1x4x1024 : Shape := ⟨3, ![1, 4, 1024]⟩
abbrev S4x1024 : Shape := ⟨2, ![4, 1024]⟩
abbrev S32x1024 : Shape := ⟨2, ![32, 1024]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S32 : Shape := ⟨1, ![32]⟩
abbrev S32x1 : Shape := ⟨2, ![32, 1]⟩
abbrev S1x1024x4096 : Shape := ⟨3, ![1, 1024, 4096]⟩
abbrev S1024x4096 : Shape := ⟨2, ![1024, 4096]⟩
abbrev S1x4096x1024 : Shape := ⟨3, ![1, 4096, 1024]⟩
abbrev S4096x1024 : Shape := ⟨2, ![4096, 1024]⟩
abbrev S32x4096 : Shape := ⟨2, ![32, 4096]⟩
abbrev S1x1x1024 : Shape := ⟨3, ![1, 1, 1024]⟩

abbrev nBuf : Space → Nat
  | .hbm => 97
  | .vmem => 0
  | .smem => 0
  | _ => 0

abbrev bufTy : (tb : Table) → Fin (tcTables nBuf tb) → BufTy
  | .hbm, ⟨0, _⟩ => ⟨S32x16x64, .bf16⟩
  | .hbm, ⟨1, _⟩ => ⟨S32x1x1024, .f32⟩
  | .hbm, ⟨2, _⟩ => ⟨S2x4x1024, .f32⟩
  | .hbm, ⟨3, _⟩ => ⟨S2x1024x4096, .f32⟩
  | .hbm, ⟨4, _⟩ => ⟨S2x4096x1024, .f32⟩
  | .hbm, ⟨5, _⟩ => ⟨S1x1024x1024, .f32⟩
  | .hbm, ⟨6, _⟩ => ⟨S1x4x1024, .f32⟩
  | .hbm, ⟨7, _⟩ => ⟨S4x1024, .f32⟩
  | .hbm, ⟨8, _⟩ => ⟨S32x16x64, .f32⟩
  | .hbm, ⟨9, _⟩ => ⟨S32x1024, .f32⟩
  | .hbm, ⟨10, _⟩ => ⟨S32x1024, .f32⟩
  | .hbm, ⟨11, _⟩ => ⟨S1024x1024, .f32⟩
  | .hbm, ⟨12, _⟩ => ⟨S32x1024, .f32⟩
  | .hbm, ⟨13, _⟩ => ⟨S1x1024, .f32⟩
  | .hbm, ⟨14, _⟩ => ⟨S1024, .f32⟩
  | .hbm, ⟨15, _⟩ => ⟨S32x1024, .f32⟩
  | .hbm, ⟨16, _⟩ => ⟨S_, .f32⟩
  | .hbm, ⟨17, _⟩ => ⟨S32, .f32⟩
  | .hbm, ⟨18, _⟩ => ⟨S32x1, .f32⟩
  | .hbm, ⟨19, _⟩ => ⟨S_, .f32⟩
  | .hbm, ⟨20, _⟩ => ⟨S32x1, .f32⟩
  | .hbm, ⟨21, _⟩ => ⟨S32x1, .f32⟩
  | .hbm, ⟨22, _⟩ => ⟨S_, .f32⟩
  | .hbm, ⟨23, _⟩ => ⟨S32x1, .f32⟩
  | .hbm, ⟨24, _⟩ => ⟨S32x1, .f32⟩
  | .hbm, ⟨25, _⟩ => ⟨S32x1, .f32⟩
  | .hbm, ⟨26, _⟩ => ⟨S32x1024, .f32⟩
  | .hbm, ⟨27, _⟩ => ⟨S32x1024, .f32⟩
  | .hbm, ⟨28, _⟩ => ⟨S1x1024, .f32⟩
  | .hbm, ⟨29, _⟩ => ⟨S32x1024, .f32⟩
  | .hbm, ⟨30, _⟩ => ⟨S32x1024, .f32⟩
  | .hbm, ⟨31, _⟩ => ⟨S32x1024, .f32⟩
  | .hbm, ⟨32, _⟩ => ⟨S1x1024, .f32⟩
  | .hbm, ⟨33, _⟩ => ⟨S1024, .f32⟩
  | .hbm, ⟨34, _⟩ => ⟨S32x1024, .f32⟩
  | .hbm, ⟨35, _⟩ => ⟨S_, .f32⟩
  | .hbm, ⟨36, _⟩ => ⟨S32, .f32⟩
  | .hbm, ⟨37, _⟩ => ⟨S32x1, .f32⟩
  | .hbm, ⟨38, _⟩ => ⟨S_, .f32⟩
  | .hbm, ⟨39, _⟩ => ⟨S32x1, .f32⟩
  | .hbm, ⟨40, _⟩ => ⟨S32x1, .f32⟩
  | .hbm, ⟨41, _⟩ => ⟨S_, .f32⟩
  | .hbm, ⟨42, _⟩ => ⟨S32x1, .f32⟩
  | .hbm, ⟨43, _⟩ => ⟨S32x1, .f32⟩
  | .hbm, ⟨44, _⟩ => ⟨S32x1, .f32⟩
  | .hbm, ⟨45, _⟩ => ⟨S32x1024, .f32⟩
  | .hbm, ⟨46, _⟩ => ⟨S32x1024, .f32⟩
  | .hbm, ⟨47, _⟩ => ⟨S1x1024, .f32⟩
  | .hbm, ⟨48, _⟩ => ⟨S32x1024, .f32⟩
  | .hbm, ⟨49, _⟩ => ⟨S32x1024, .f32⟩
  | .hbm, ⟨50, _⟩ => ⟨S1x1024x4096, .f32⟩
  | .hbm, ⟨51, _⟩ => ⟨S1024x4096, .f32⟩
  | .hbm, ⟨52, _⟩ => ⟨S1x4096x1024, .f32⟩
  | .hbm, ⟨53, _⟩ => ⟨S4096x1024, .f32⟩
  | .hbm, ⟨54, _⟩ => ⟨S32x4096, .f32⟩
  | .hbm, ⟨55, _⟩ => ⟨S_, .f32⟩
  | .hbm, ⟨56, _⟩ => ⟨S32x4096, .f32⟩
  | .hbm, ⟨57, _⟩ => ⟨S32x4096, .f32⟩
  | .hbm, ⟨58, _⟩ => ⟨S32x4096, .f32⟩
  | .hbm, ⟨59, _⟩ => ⟨S32x1024, .f32⟩
  | .hbm, ⟨60, _⟩ => ⟨S1x1024, .f32⟩
  | .hbm, ⟨61, _⟩ => ⟨S1024, .f32⟩
  | .hbm, ⟨62, _⟩ => ⟨S32x1024, .f32⟩
  | .hbm, ⟨63, _⟩ => ⟨S_, .f32⟩
  | .hbm, ⟨64, _⟩ => ⟨S32, .f32⟩
  | .hbm, ⟨65, _⟩ => ⟨S32x1, .f32⟩
  | .hbm, ⟨66, _⟩ => ⟨S_, .f32⟩
  | .hbm, ⟨67, _⟩ => ⟨S32x1, .f32⟩
  | .hbm, ⟨68, _⟩ => ⟨S32x1, .f32⟩
  | .hbm, ⟨69, _⟩ => ⟨S_, .f32⟩
  | .hbm, ⟨70, _⟩ => ⟨S32x1, .f32⟩
  | .hbm, ⟨71, _⟩ => ⟨S32x1, .f32⟩
  | .hbm, ⟨72, _⟩ => ⟨S32x1, .f32⟩
  | .hbm, ⟨73, _⟩ => ⟨S32x1024, .f32⟩
  | .hbm, ⟨74, _⟩ => ⟨S32x1024, .f32⟩
  | .hbm, ⟨75, _⟩ => ⟨S1x1024, .f32⟩
  | .hbm, ⟨76, _⟩ => ⟨S32x1024, .f32⟩
  | .hbm, ⟨77, _⟩ => ⟨S32x1024, .f32⟩
  | .hbm, ⟨78, _⟩ => ⟨S32x1024, .f32⟩
  | .hbm, ⟨79, _⟩ => ⟨S1x1x1024, .f32⟩
  | .hbm, ⟨80, _⟩ => ⟨S1024, .f32⟩
  | .hbm, ⟨81, _⟩ => ⟨S32x1024, .f32⟩
  | .hbm, ⟨82, _⟩ => ⟨S_, .f32⟩
  | .hbm, ⟨83, _⟩ => ⟨S32, .f32⟩
  | .hbm, ⟨84, _⟩ => ⟨S32x1, .f32⟩
  | .hbm, ⟨85, _⟩ => ⟨S_, .f32⟩
  | .hbm, ⟨86, _⟩ => ⟨S32x1, .f32⟩
  | .hbm, ⟨87, _⟩ => ⟨S32x1, .f32⟩
  | .hbm, ⟨88, _⟩ => ⟨S_, .f32⟩
  | .hbm, ⟨89, _⟩ => ⟨S32x1, .f32⟩
  | .hbm, ⟨90, _⟩ => ⟨S32x1, .f32⟩
  | .hbm, ⟨91, _⟩ => ⟨S32x1, .f32⟩
  | .hbm, ⟨92, _⟩ => ⟨S32x1024, .f32⟩
  | .hbm, ⟨93, _⟩ => ⟨S32x1024, .f32⟩
  | .hbm, ⟨94, _⟩ => ⟨S1x1024, .f32⟩
  | .hbm, ⟨95, _⟩ => ⟨S32x1024, .f32⟩
  | .hbm, ⟨96, _⟩ => ⟨S32x1024, .f32⟩
  | _, _ => ⟨S32x16x64, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_2 : Ref sig .tc := ⟨.hbm, 35, rfl⟩
abbrev main_v26 : Ref sig .tc := ⟨.hbm, 36, rfl⟩
abbrev main_v27 : Ref sig .tc := ⟨.hbm, 37, rfl⟩
abbrev main_cst_3 : Ref sig .tc := ⟨.hbm, 38, rfl⟩
abbrev main_v28 : Ref sig .tc := ⟨.hbm, 39, rfl⟩
abbrev main_v29 : Ref sig .tc := ⟨.hbm, 40, rfl⟩
abbrev main_cst_4 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_call0_cst : Ref sig .tc := ⟨.hbm, 55, rfl⟩
abbrev main_call0_v0 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_cst_5 : Ref sig .tc := ⟨.hbm, 63, rfl⟩
abbrev main_v49 : Ref sig .tc := ⟨.hbm, 64, rfl⟩
abbrev main_v50 : Ref sig .tc := ⟨.hbm, 65, rfl⟩
abbrev main_cst_6 : Ref sig .tc := ⟨.hbm, 66, rfl⟩
abbrev main_v51 : Ref sig .tc := ⟨.hbm, 67, rfl⟩
abbrev main_v52 : Ref sig .tc := ⟨.hbm, 68, rfl⟩
abbrev main_cst_7 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_cst_8 : Ref sig .tc := ⟨.hbm, 82, rfl⟩
abbrev main_v65 : Ref sig .tc := ⟨.hbm, 83, rfl⟩
abbrev main_v66 : Ref sig .tc := ⟨.hbm, 84, rfl⟩
abbrev main_cst_9 : Ref sig .tc := ⟨.hbm, 85, rfl⟩
abbrev main_v67 : Ref sig .tc := ⟨.hbm, 86, rfl⟩
abbrev main_v68 : Ref sig .tc := ⟨.hbm, 87, rfl⟩
abbrev main_cst_10 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩

abbrev nD : Nat := 1
abbrev τ : Topo := Topo.v7x

variable {F : FTy → Type} [FloatOps F]
-- ==== Kernel5.lean ====
abbrev S8x32x128 : Shape := ⟨3, ![8, 32, 128]⟩
abbrev S32x1024 : Shape := ⟨2, ![32, 1024]⟩
abbrev S2x4x1024 : Shape := ⟨3, ![2, 4, 1024]⟩
abbrev S2x1024x4096 : Shape := ⟨3, ![2, 1024, 4096]⟩
abbrev S2x4096x1024 : Shape := ⟨3, ![2, 4096, 1024]⟩
abbrev S1x1024 : Shape := ⟨2, ![1, 1024]⟩
abbrev S1x1024x1024 : Shape := ⟨3, ![1, 1024, 1024]⟩
abbrev S2x4x1x1024 : Shape := ⟨4, ![2, 4, 1, 1024]⟩
abbrev S1024x1024 : Shape := ⟨2, ![1024, 1024]⟩
abbrev S1024 : Shape := ⟨1, ![1024]⟩
abbrev S32x8x128 : Shape := ⟨3, ![32, 8, 128]⟩
abbrev S1x1x1x1024 : Shape := ⟨4, ![1, 1, 1, 1024]⟩
abbrev S1x1024x4096 : Shape := ⟨3, ![1, 1024, 4096]⟩
abbrev S1024x4096 : Shape := ⟨2, ![1024, 4096]⟩
abbrev S1x4096x1024 : Shape := ⟨3, ![1, 4096, 1024]⟩
abbrev S4096x1024 : Shape := ⟨2, ![4096, 1024]⟩
abbrev S32 : Shape := ⟨1, ![32]⟩
abbrev S32x1 : Shape := ⟨2, ![32, 1]⟩

abbrev nBuf : Space → Nat
  | .hbm => 31
  | .vmem => 13
  | .smem => 0
  | _ => 0

abbrev bufTy : (tb : Table) → Fin (tcTables nBuf tb) → BufTy
  | .hbm, ⟨0, _⟩ => ⟨S8x32x128, .f32⟩
  | .hbm, ⟨1, _⟩ => ⟨S32x1024, .f32⟩
  | .hbm, ⟨2, _⟩ => ⟨S32x1024, .f32⟩
  | .hbm, ⟨3, _⟩ => ⟨S2x4x1024, .f32⟩
  | .hbm, ⟨4, _⟩ => ⟨S2x1024x4096, .f32⟩
  | .hbm, ⟨5, _⟩ => ⟨S2x4096x1024, .f32⟩
  | .hbm, ⟨6, _⟩ => ⟨S1x1024, .f32⟩
  | .hbm, ⟨7, _⟩ => ⟨S1x1024x1024, .f32⟩
  | .hbm, ⟨8, _⟩ => ⟨S1x1024, .f32⟩
  | .hbm, ⟨9, _⟩ => ⟨S2x4x1x1024, .f32⟩
  | .hbm, ⟨10, _⟩ => ⟨S2x1024x4096, .bf16⟩
  | .hbm, ⟨11, _⟩ => ⟨S2x4096x1024, .bf16⟩
  | .hbm, ⟨12, _⟩ => ⟨S1024x1024, .f32⟩
  | .hbm, ⟨13, _⟩ => ⟨S1024x1024, .bf16⟩
  | .hbm, ⟨14, _⟩ => ⟨S1024, .f32⟩
  | .hbm, ⟨15, _⟩ => ⟨S1x1024, .f32⟩
  | .hbm, ⟨16, _⟩ => ⟨S1024, .f32⟩
  | .hbm, ⟨17, _⟩ => ⟨S1x1024, .f32⟩
  | .hbm, ⟨18, _⟩ => ⟨S32x8x128, .f32⟩
  | .hbm, ⟨19, _⟩ => ⟨S32x1024, .f32⟩
  | .hbm, ⟨20, _⟩ => ⟨S1x1x1x1024, .f32⟩
  | .hbm, ⟨21, _⟩ => ⟨S1x1024, .f32⟩
  | .hbm, ⟨22, _⟩ => ⟨S1x1x1x1024, .f32⟩
  | .hbm, ⟨23, _⟩ => ⟨S1x1024, .f32⟩
  | .hbm, ⟨24, _⟩ => ⟨S1x1024x4096, .bf16⟩
  | .hbm, ⟨25, _⟩ => ⟨S1024x4096, .bf16⟩
  | .hbm, ⟨26, _⟩ => ⟨S1x4096x1024, .bf16⟩
  | .hbm, ⟨27, _⟩ => ⟨S4096x1024, .bf16⟩
  | .hbm, ⟨28, _⟩ => ⟨S1x1x1x1024, .f32⟩
  | .hbm, ⟨29, _⟩ => ⟨S1x1024, .f32⟩
  | .hbm, ⟨30, _⟩ => ⟨S32x1024, .f32⟩
  | .local _ .vmem, ⟨0, _⟩ => ⟨S32x1024, .f32⟩
  | .local _ .vmem, ⟨1, _⟩ => ⟨S32x1024, .f32⟩
  | .local _ .vmem, ⟨2, _⟩ => ⟨S1x1024, .f32⟩
  | .local _ .vmem, ⟨3, _⟩ => ⟨S1024x1024, .bf16⟩
  | .local _ .vmem, ⟨4, _⟩ => ⟨S1x1024, .f32⟩
  | .local _ .vmem, ⟨5, _⟩ => ⟨S32x1024, .f32⟩
  | .local _ .vmem, ⟨6, _⟩ => ⟨S1x1024, .f32⟩
  | .local _ .vmem, ⟨7, _⟩ => ⟨S1x1024, .f32⟩
  | .local _ .vmem, ⟨8, _⟩ => ⟨S1024x4096, .bf16⟩
  | .local _ .vmem, ⟨9, _⟩ => ⟨S4096x1024, .bf16⟩
  | .local _ .vmem, ⟨10, _⟩ => ⟨S1x1024, .f32⟩
  | .local _ .vmem, ⟨11, _⟩ => ⟨S32x1024, .f32⟩
  | .local _ .vmem, ⟨12, _⟩ => ⟨S32x1024, .f32⟩
  | _, _ => ⟨S8x32x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_scratch0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S32x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x4096 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4096x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S32x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]
-- ==== Reference5Ideal.lean ====
abbrev S8x32x128 : Shape := ⟨3, ![8, 32, 128]⟩
abbrev S32x1024 : Shape := ⟨2, ![32, 1024]⟩
abbrev S2x4x1024 : Shape := ⟨3, ![2, 4, 1024]⟩
abbrev S2x1024x4096 : Shape := ⟨3, ![2, 1024, 4096]⟩
abbrev S2x4096x1024 : Shape := ⟨3, ![2, 4096, 1024]⟩
abbrev S1x1024 : Shape := ⟨2, ![1, 1024]⟩
abbrev S1x1024x1024 : Shape := ⟨3, ![1, 1024, 1024]⟩
abbrev S1x4x1024 : Shape := ⟨3, ![1, 4, 1024]⟩
abbrev S4x1024 : Shape := ⟨2, ![4, 1024]⟩
abbrev S32x8x128 : Shape := ⟨3, ![32, 8, 128]⟩
abbrev S1024 : Shape := ⟨1, ![1024]⟩
abbrev S_ : Shape := ⟨0, ![]⟩
abbrev S1024x1024 : Shape := ⟨2, ![1024, 1024]⟩
abbrev S32 : Shape := ⟨1, ![32]⟩
abbrev S32x1 : Shape := ⟨2, ![32, 1]⟩
abbrev S1x1024x4096 : Shape := ⟨3, ![1, 1024, 4096]⟩
abbrev S1024x4096 : Shape := ⟨2, ![1024, 4096]⟩
abbrev S1x4096x1024 : Shape := ⟨3, ![1, 4096, 1024]⟩
abbrev S4096x1024 : Shape := ⟨2, ![4096, 1024]⟩
abbrev S32x4096 : Shape := ⟨2, ![32, 4096]⟩

abbrev nBuf : Space → Nat
  | .hbm => 116
  | .vmem => 0
  | .smem => 0
  | _ => 0

abbrev bufTy : (tb : Table) → Fin (tcTables nBuf tb) → BufTy
  | .hbm, ⟨0, _⟩ => ⟨S8x32x128, .f32⟩
  | .hbm, ⟨1, _⟩ => ⟨S32x1024, .f32⟩
  | .hbm, ⟨2, _⟩ => ⟨S32x1024, .f32⟩
  | .hbm, ⟨3, _⟩ => ⟨S2x4x1024, .f32⟩
  | .hbm, ⟨4, _⟩ => ⟨S2x1024x4096, .f32⟩
  | .hbm, ⟨5, _⟩ => ⟨S2x4096x1024, .f32⟩
  | .hbm, ⟨6, _⟩ => ⟨S1x1024, .f32⟩
  | .hbm, ⟨7, _⟩ => ⟨S1x1024x1024, .f32⟩
  | .hbm, ⟨8, _⟩ => ⟨S1x1024, .f32⟩
  | .hbm, ⟨9, _⟩ => ⟨S1x4x1024, .f32⟩
  | .hbm, ⟨10, _⟩ => ⟨S4x1024, .f32⟩
  | .hbm, ⟨11, _⟩ => ⟨S32x8x128, .f32⟩
  | .hbm, ⟨12, _⟩ => ⟨S32x1024, .f32⟩
  | .hbm, ⟨13, _⟩ => ⟨S1024, .f32⟩
  | .hbm, ⟨14, _⟩ => ⟨S1x1024, .f32⟩
  | .hbm, ⟨15, _⟩ => ⟨S32x1024, .f32⟩
  | .hbm, ⟨16, _⟩ => ⟨S32x1024, .f32⟩
  | .hbm, ⟨17, _⟩ => ⟨S32x1024, .f32⟩
  | .hbm, ⟨18, _⟩ => ⟨S32x1024, .f32⟩
  | .hbm, ⟨19, _⟩ => ⟨S32x1024, .f32⟩
  | .hbm, ⟨20, _⟩ => ⟨S_, .f32⟩
  | .hbm, ⟨21, _⟩ => ⟨S32x1024, .f32⟩
  | .hbm, ⟨22, _⟩ => ⟨S32x1024, .f32⟩
  | .hbm, ⟨23, _⟩ => ⟨S32x1024, .f32⟩
  | .hbm, ⟨24, _⟩ => ⟨S_, .f32⟩
  | .hbm, ⟨25, _⟩ => ⟨S32x1024, .f32⟩
  | .hbm, ⟨26, _⟩ => ⟨S32x1024, .f32⟩
  | .hbm, ⟨27, _⟩ => ⟨S32x1024, .f32⟩
  | .hbm, ⟨28, _⟩ => ⟨S_, .f32⟩
  | .hbm, ⟨29, _⟩ => ⟨S32x1024, .f32⟩
  | .hbm, ⟨30, _⟩ => ⟨S32x1024, .f32⟩
  | .hbm, ⟨31, _⟩ => ⟨S_, .f32⟩
  | .hbm, ⟨32, _⟩ => ⟨S32x1024, .f32⟩
  | .hbm, ⟨33, _⟩ => ⟨S32x1024, .f32⟩
  | .hbm, ⟨34, _⟩ => ⟨S32x1024, .f32⟩
  | .hbm, ⟨35, _⟩ => ⟨S1024x1024, .f32⟩
  | .hbm, ⟨36, _⟩ => ⟨S32x1024, .f32⟩
  | .hbm, ⟨37, _⟩ => ⟨S1024, .f32⟩
  | .hbm, ⟨38, _⟩ => ⟨S1x1024, .f32⟩
  | .hbm, ⟨39, _⟩ => ⟨S32x1024, .f32⟩
  | .hbm, ⟨40, _⟩ => ⟨S32x1024, .f32⟩
  | .hbm, ⟨41, _⟩ => ⟨S32x1024, .f32⟩
  | .hbm, ⟨42, _⟩ => ⟨S32x1024, .f32⟩
  | .hbm, ⟨43, _⟩ => ⟨S_, .f32⟩
  | .hbm, ⟨44, _⟩ => ⟨S32x1024, .f32⟩
  | .hbm, ⟨45, _⟩ => ⟨S32x1024, .f32⟩
  | .hbm, ⟨46, _⟩ => ⟨S_, .f32⟩
  | .hbm, ⟨47, _⟩ => ⟨S32x1024, .f32⟩
  | .hbm, ⟨48, _⟩ => ⟨S32x1024, .f32⟩
  | .hbm, ⟨49, _⟩ => ⟨S32x1024, .f32⟩
  | .hbm, ⟨50, _⟩ => ⟨S1x1024, .f32⟩
  | .hbm, ⟨51, _⟩ => ⟨S1024, .f32⟩
  | .hbm, ⟨52, _⟩ => ⟨S32x1024, .f32⟩
  | .hbm, ⟨53, _⟩ => ⟨S_, .f32⟩
  | .hbm, ⟨54, _⟩ => ⟨S32, .f32⟩
  | .hbm, ⟨55, _⟩ => ⟨S32x1, .f32⟩
  | .hbm, ⟨56, _⟩ => ⟨S_, .f32⟩
  | .hbm, ⟨57, _⟩ => ⟨S32x1, .f32⟩
  | .hbm, ⟨58, _⟩ => ⟨S32x1, .f32⟩
  | .hbm, ⟨59, _⟩ => ⟨S_, .f32⟩
  | .hbm, ⟨60, _⟩ => ⟨S32x1, .f32⟩
  | .hbm, ⟨61, _⟩ => ⟨S32x1, .f32⟩
  | .hbm, ⟨62, _⟩ => ⟨S32x1, .f32⟩
  | .hbm, ⟨63, _⟩ => ⟨S32x1024, .f32⟩
  | .hbm, ⟨64, _⟩ => ⟨S32x1024, .f32⟩
  | .hbm, ⟨65, _⟩ => ⟨S1x1024, .f32⟩
  | .hbm, ⟨66, _⟩ => ⟨S32x1024, .f32⟩
  | .hbm, ⟨67, _⟩ => ⟨S32x1024, .f32⟩
  | .hbm, ⟨68, _⟩ => ⟨S32x1024, .f32⟩
  | .hbm, ⟨69, _⟩ => ⟨S1x1024, .f32⟩
  | .hbm, ⟨70, _⟩ => ⟨S1024, .f32⟩
  | .hbm, ⟨71, _⟩ => ⟨S32x1024, .f32⟩
  | .hbm, ⟨72, _⟩ => ⟨S_, .f32⟩
  | .hbm, ⟨73, _⟩ => ⟨S32, .f32⟩
  | .hbm, ⟨74, _⟩ => ⟨S32x1, .f32⟩
  | .hbm, ⟨75, _⟩ => ⟨S_, .f32⟩
  | .hbm, ⟨76, _⟩ => ⟨S32x1, .f32⟩
  | .hbm, ⟨77, _⟩ => ⟨S32x1, .f32⟩
  | .hbm, ⟨78, _⟩ => ⟨S_, .f32⟩
  | .hbm, ⟨79, _⟩ => ⟨S32x1, .f32⟩
  | .hbm, ⟨80, _⟩ => ⟨S32x1, .f32⟩
  | .hbm, ⟨81, _⟩ => ⟨S32x1, .f32⟩
  | .hbm, ⟨82, _⟩ => ⟨S32x1024, .f32⟩
  | .hbm, ⟨83, _⟩ => ⟨S32x1024, .f32⟩
  | .hbm, ⟨84, _⟩ => ⟨S1x1024, .f32⟩
  | .hbm, ⟨85, _⟩ => ⟨S32x1024, .f32⟩
  | .hbm, ⟨86, _⟩ => ⟨S32x1024, .f32⟩
  | .hbm, ⟨87, _⟩ => ⟨S1x1024x4096, .f32⟩
  | .hbm, ⟨88, _⟩ => ⟨S1024x4096, .f32⟩
  | .hbm, ⟨89, _⟩ => ⟨S1x4096x1024, .f32⟩
  | .hbm, ⟨90, _⟩ => ⟨S4096x1024, .f32⟩
  | .hbm, ⟨91, _⟩ => ⟨S32x4096, .f32⟩
  | .hbm, ⟨92, _⟩ => ⟨S_, .f32⟩
  | .hbm, ⟨93, _⟩ => ⟨S32x4096, .f32⟩
  | .hbm, ⟨94, _⟩ => ⟨S32x4096, .f32⟩
  | .hbm, ⟨95, _⟩ => ⟨S32x4096, .f32⟩
  | .hbm, ⟨96, _⟩ => ⟨S32x1024, .f32⟩
  | .hbm, ⟨97, _⟩ => ⟨S1x1024, .f32⟩
  | .hbm, ⟨98, _⟩ => ⟨S1024, .f32⟩
  | .hbm, ⟨99, _⟩ => ⟨S32x1024, .f32⟩
  | .hbm, ⟨100, _⟩ => ⟨S_, .f32⟩
  | .hbm, ⟨101, _⟩ => ⟨S32, .f32⟩
  | .hbm, ⟨102, _⟩ => ⟨S32x1, .f32⟩
  | .hbm, ⟨103, _⟩ => ⟨S_, .f32⟩
  | .hbm, ⟨104, _⟩ => ⟨S32x1, .f32⟩
  | .hbm, ⟨105, _⟩ => ⟨S32x1, .f32⟩
  | .hbm, ⟨106, _⟩ => ⟨S_, .f32⟩
  | .hbm, ⟨107, _⟩ => ⟨S32x1, .f32⟩
  | .hbm, ⟨108, _⟩ => ⟨S32x1, .f32⟩
  | .hbm, ⟨109, _⟩ => ⟨S32x1, .f32⟩
  | .hbm, ⟨110, _⟩ => ⟨S32x1024, .f32⟩
  | .hbm, ⟨111, _⟩ => ⟨S32x1024, .f32⟩
  | .hbm, ⟨112, _⟩ => ⟨S1x1024, .f32⟩
  | .hbm, ⟨113, _⟩ => ⟨S32x1024, .f32⟩
  | .hbm, ⟨114, _⟩ => ⟨S32x1024, .f32⟩
  | .hbm, ⟨115, _⟩ => ⟨S32x1024, .f32⟩
  | _, _ => ⟨S8x32x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_0 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_3 : Ref sig .tc := ⟨.hbm, 43, rfl⟩
abbrev main_v30 : Ref sig .tc := ⟨.hbm, 44, rfl⟩
abbrev main_v31 : Ref sig .tc := ⟨.hbm, 45, rfl⟩
abbrev main_cst_4 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_5 : Ref sig .tc := ⟨.hbm, 53, rfl⟩
abbrev main_v38 : Ref sig .tc := ⟨.hbm, 54, rfl⟩
abbrev main_v39 : Ref sig .tc := ⟨.hbm, 55, rfl⟩
abbrev main_cst_6 : Ref sig .tc := ⟨.hbm, 56, rfl⟩
abbrev main_v40 : Ref sig .tc := ⟨.hbm, 57, rfl⟩
abbrev main_v41 : Ref sig .tc := ⟨.hbm, 58, rfl⟩
abbrev main_cst_7 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_cst_8 : Ref sig .tc := ⟨.hbm, 72, rfl⟩
abbrev main_v54 : Ref sig .tc := ⟨.hbm, 73, rfl⟩
abbrev main_v55 : Ref sig .tc := ⟨.hbm, 74, rfl⟩
abbrev main_cst_9 : Ref sig .tc := ⟨.hbm, 75, rfl⟩
abbrev main_v56 : Ref sig .tc := ⟨.hbm, 76, rfl⟩
abbrev main_v57 : Ref sig .tc := ⟨.hbm, 77, rfl⟩
abbrev main_cst_10 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_call0_cst : Ref sig .tc := ⟨.hbm, 92, rfl⟩
abbrev main_call0_v0 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_cst_11 : Ref sig .tc := ⟨.hbm, 100, rfl⟩
abbrev main_v77 : Ref sig .tc := ⟨.hbm, 101, rfl⟩
abbrev main_v78 : Ref sig .tc := ⟨.hbm, 102, rfl⟩
abbrev main_cst_12 : Ref sig .tc := ⟨.hbm, 103, rfl⟩
abbrev main_v79 : Ref sig .tc := ⟨.hbm, 104, rfl⟩
abbrev main_v80 : Ref sig .tc := ⟨.hbm, 105, rfl⟩
abbrev main_cst_13 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩

abbrev nD : Nat := 1
abbrev τ : Topo := Topo.v7x

variable {F : FTy → Type} [FloatOps F]
-- ==== Kernel6.lean ====
abbrev S4x4096x1024 : Shape := ⟨3, ![4, 4096, 1024]⟩
abbrev S2x4x1024 : Shape := ⟨3, ![2, 4, 1024]⟩
abbrev S1x1024x2608 : Shape := ⟨3, ![1, 1024, 2608]⟩
abbrev S2x4x1x1024 : Shape := ⟨4, ![2, 4, 1, 1024]⟩
abbrev S1024x2608 : Shape := ⟨2, ![1024, 2608]⟩
abbrev S1024x1024 : Shape := ⟨2, ![1024, 1024]⟩
abbrev S1024x1536 : Shape := ⟨2, ![1024, 1536]⟩
abbrev S1024x48 : Shape := ⟨2, ![1024, 48]⟩
abbrev S_ : Shape := ⟨0, ![]⟩
abbrev S1024x128 : Shape := ⟨2, ![1024, 128]⟩
abbrev S16384x1024 : Shape := ⟨2, ![16384, 1024]⟩
abbrev S4096 : Shape := ⟨1, ![4096]⟩
abbrev S32 : Shape := ⟨1, ![32]⟩
abbrev S4096x1 : Shape := ⟨2, ![4096, 1]⟩
abbrev S1x32 : Shape := ⟨2, ![1, 32]⟩
abbrev S4096x32 : Shape := ⟨2, ![4096, 32]⟩
abbrev S4096x64 : Shape := ⟨2, ![4096, 64]⟩
abbrev S1x4096x1x64 : Shape := ⟨4, ![1, 4096, 1, 64]⟩
abbrev S1x4096x2x64 : Shape := ⟨4, ![1, 4096, 2, 64]⟩
abbrev S4096x128 : Shape := ⟨2, ![4096, 128]⟩
abbrev S1x1x1x1024 : Shape := ⟨4, ![1, 1, 1, 1024]⟩
abbrev S1x1024 : Shape := ⟨2, ![1, 1024]⟩
abbrev S32x4096 : Shape := ⟨2, ![32, 4096]⟩
abbrev S1024x16384 : Shape := ⟨2, ![1024, 16384]⟩
abbrev S128x16384 : Shape := ⟨2, ![128, 16384]⟩
abbrev S16384x512 : Shape := ⟨2, ![16384, 512]⟩
abbrev S4x512x4096 : Shape := ⟨3, ![4, 512, 4096]⟩
abbrev S4x16384x128 : Shape := ⟨3, ![4, 16384, 128]⟩
abbrev S320x16384 : Shape := ⟨2, ![320, 16384]⟩
abbrev S512x1024 : Shape := ⟨2, ![512, 1024]⟩
abbrev S512x128 : Shape := ⟨2, ![512, 128]⟩
abbrev S32x512 : Shape := ⟨2, ![32, 512]⟩
abbrev S1024x512 : Shape := ⟨2, ![1024, 512]⟩
abbrev S128x512 : Shape := ⟨2, ![128, 512]⟩
abbrev S512x512 : Shape := ⟨2, ![512, 512]⟩
abbrev S1x512x512 : Shape := ⟨3, ![1, 512, 512]⟩
abbrev S4x512x128 : Shape := ⟨3, ![4, 512, 128]⟩
abbrev S320x512 : Shape := ⟨2, ![320, 512]⟩
abbrev S512 : Shape := ⟨1, ![512]⟩
abbrev S512x1 : Shape := ⟨2, ![512, 1]⟩
abbrev S512x1536 : Shape := ⟨2, ![512, 1536]⟩
abbrev S512x256 : Shape := ⟨2, ![512, 256]⟩
abbrev S1x128 : Shape := ⟨2, ![1, 128]⟩
abbrev S1x512x128 : Shape := ⟨3, ![1, 512, 128]⟩
abbrev S256x512 : Shape := ⟨2, ![256, 512]⟩
abbrev S16x512 : Shape := ⟨2, ![16, 512]⟩
abbrev S64x512 : Shape := ⟨2, ![64, 512]⟩
abbrev S80x512 : Shape := ⟨2, ![80, 512]⟩
abbrev S1x256x512 : Shape := ⟨3, ![1, 256, 512]⟩

abbrev nBuf : Space → Nat
  | .hbm => 59
  | .vmem => 36
  | .smem => 0
  | _ => 0

abbrev bufTy : (tb : Table) → Fin (tcTables nBuf tb) → BufTy
  | .hbm, ⟨0, _⟩ => ⟨S4x4096x1024, .f32⟩
  | .hbm, ⟨1, _⟩ => ⟨S2x4x1024, .f32⟩
  | .hbm, ⟨2, _⟩ => ⟨S1x1024x2608, .f32⟩
  | .hbm, ⟨3, _⟩ => ⟨S2x4x1x1024, .f32⟩
  | .hbm, ⟨4, _⟩ => ⟨S1024x2608, .f32⟩
  | .hbm, ⟨5, _⟩ => ⟨S1024x1024, .f32⟩
  | .hbm, ⟨6, _⟩ => ⟨S1024x1024, .bf16⟩
  | .hbm, ⟨7, _⟩ => ⟨S1024x1536, .f32⟩
  | .hbm, ⟨8, _⟩ => ⟨S1024x1536, .bf16⟩
  | .hbm, ⟨9, _⟩ => ⟨S1024x48, .f32⟩
  | .hbm, ⟨10, _⟩ => ⟨S_, .i32⟩
  | .hbm, ⟨11, _⟩ => ⟨S_, .f32⟩
  | .hbm, ⟨12, _⟩ => ⟨S1024x128, .f32⟩
  | .hbm, ⟨13, _⟩ => ⟨S1024x128, .bf16⟩
  | .hbm, ⟨14, _⟩ => ⟨S16384x1024, .f32⟩
  | .hbm, ⟨15, _⟩ => ⟨S4096, .i32⟩
  | .hbm, ⟨16, _⟩ => ⟨S32, .f32⟩
  | .hbm, ⟨17, _⟩ => ⟨S32, .f32⟩
  | .hbm, ⟨18, _⟩ => ⟨S_, .f32⟩
  | .hbm, ⟨19, _⟩ => ⟨S32, .f32⟩
  | .hbm, ⟨20, _⟩ => ⟨S32, .f32⟩
  | .hbm, ⟨21, _⟩ => ⟨S_, .f32⟩
  | .hbm, ⟨22, _⟩ => ⟨S32, .f32⟩
  | .hbm, ⟨23, _⟩ => ⟨S32, .f32⟩
  | .hbm, ⟨24, _⟩ => ⟨S4096, .f32⟩
  | .hbm, ⟨25, _⟩ => ⟨S4096x1, .f32⟩
  | .hbm, ⟨26, _⟩ => ⟨S1x32, .f32⟩
  | .hbm, ⟨27, _⟩ => ⟨S4096x32, .f32⟩
  | .hbm, ⟨28, _⟩ => ⟨S4096x32, .f32⟩
  | .hbm, ⟨29, _⟩ => ⟨S4096x32, .f32⟩
  | .hbm, ⟨30, _⟩ => ⟨S4096x32, .f32⟩
  | .hbm, ⟨31, _⟩ => ⟨S4096x32, .f32⟩
  | .hbm, ⟨32, _⟩ => ⟨S4096x64, .f32⟩
  | .hbm, ⟨33, _⟩ => ⟨S1x4096x1x64, .f32⟩
  | .hbm, ⟨34, _⟩ => ⟨S1x4096x2x64, .f32⟩
  | .hbm, ⟨35, _⟩ => ⟨S4096x128, .f32⟩
  | .hbm, ⟨36, _⟩ => ⟨S4096x32, .f32⟩
  | .hbm, ⟨37, _⟩ => ⟨S4096x64, .f32⟩
  | .hbm, ⟨38, _⟩ => ⟨S1x4096x1x64, .f32⟩
  | .hbm, ⟨39, _⟩ => ⟨S1x4096x2x64, .f32⟩
  | .hbm, ⟨40, _⟩ => ⟨S4096x128, .f32⟩
  | .hbm, ⟨41, _⟩ => ⟨S1x1x1x1024, .f32⟩
  | .hbm, ⟨42, _⟩ => ⟨S1x1024, .f32⟩
  | .hbm, ⟨43, _⟩ => ⟨S1024x1024, .bf16⟩
  | .hbm, ⟨44, _⟩ => ⟨S4096x32, .f32⟩
  | .hbm, ⟨45, _⟩ => ⟨S32x4096, .f32⟩
  | .hbm, ⟨46, _⟩ => ⟨S4096x32, .f32⟩
  | .hbm, ⟨47, _⟩ => ⟨S32x4096, .f32⟩
  | .hbm, ⟨48, _⟩ => ⟨S1024x16384, .bf16⟩
  | .hbm, ⟨49, _⟩ => ⟨S1024x16384, .bf16⟩
  | .hbm, ⟨50, _⟩ => ⟨S128x16384, .f32⟩
  | .hbm, ⟨51, _⟩ => ⟨S16384x512, .f32⟩
  | .hbm, ⟨52, _⟩ => ⟨S4x512x4096, .f32⟩
  | .hbm, ⟨53, _⟩ => ⟨S4x512x4096, .f32⟩
  | .hbm, ⟨54, _⟩ => ⟨S4x512x4096, .f32⟩
  | .hbm, ⟨55, _⟩ => ⟨S4x16384x128, .bf16⟩
  | .hbm, ⟨56, _⟩ => ⟨S4x16384x128, .bf16⟩
  | .hbm, ⟨57, _⟩ => ⟨S320x16384, .bf16⟩
  | .hbm, ⟨58, _⟩ => ⟨S320x16384, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1536, .bf16⟩
  | .local _ .vmem, ⟨5, _⟩ => ⟨S1024x128, .bf16⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S32x512, .f32⟩
  | .local _ .vmem, ⟨11, _⟩ => ⟨S32x512, .f32⟩
  | .local _ .vmem, ⟨12, _⟩ => ⟨S32x512, .f32⟩
  | .local _ .vmem, ⟨13, _⟩ => ⟨S32x512, .f32⟩
  | .local _ .vmem, ⟨14, _⟩ => ⟨S1024x512, .bf16⟩
  | .local _ .vmem, ⟨15, _⟩ => ⟨S1024x512, .bf16⟩
  | .local _ .vmem, ⟨16, _⟩ => ⟨S1024x512, .bf16⟩
  | .local _ .vmem, ⟨17, _⟩ => ⟨S1024x512, .bf16⟩
  | .local _ .vmem, ⟨18, _⟩ => ⟨S128x512, .f32⟩
  | .local _ .vmem, ⟨19, _⟩ => ⟨S128x512, .f32⟩
  | .local _ .vmem, ⟨20, _⟩ => ⟨S512x512, .f32⟩
  | .local _ .vmem, ⟨21, _⟩ => ⟨S512x512, .f32⟩
  | .local _ .vmem, ⟨22, _⟩ => ⟨S1x512x512, .f32⟩
  | .local _ .vmem, ⟨23, _⟩ => ⟨S1x512x512, .f32⟩
  | .local _ .vmem, ⟨24, _⟩ => ⟨S1x512x512, .f32⟩
  | .local _ .vmem, ⟨25, _⟩ => ⟨S1x512x512, .f32⟩
  | .local _ .vmem, ⟨26, _⟩ => ⟨S1x512x512, .f32⟩
  | .local _ .vmem, ⟨27, _⟩ => ⟨S1x512x512, .f32⟩
  | .local _ .vmem, ⟨28, _⟩ => ⟨S4x512x128, .bf16⟩
  | .local _ .vmem, ⟨29, _⟩ => ⟨S4x512x128, .bf16⟩
  | .local _ .vmem, ⟨30, _⟩ => ⟨S4x512x128, .bf16⟩
  | .local _ .vmem, ⟨31, _⟩ => ⟨S4x512x128, .bf16⟩
  | .local _ .vmem, ⟨32, _⟩ => ⟨S320x512, .bf16⟩
  | .local _ .vmem, ⟨33, _⟩ => ⟨S320x512, .bf16⟩
  | .local _ .vmem, ⟨34, _⟩ => ⟨S320x512, .bf16⟩
  | .local _ .vmem, ⟨35, _⟩ => ⟨S320x512, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_call0_v0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41_0 : Ref sig .tc := ⟨.hbm, 48, rfl⟩
abbrev main_v41_1 : Ref sig .tc := ⟨.hbm, 49, rfl⟩
abbrev main_v41_2 : Ref sig .tc := ⟨.hbm, 50, rfl⟩
abbrev main_v41_3 : Ref sig .tc := ⟨.hbm, 51, rfl⟩
abbrev main_v41_4 : Ref sig .tc := ⟨.hbm, 52, rfl⟩
abbrev main_v41_5 : Ref sig .tc := ⟨.hbm, 53, rfl⟩
abbrev main_v41_6 : Ref sig .tc := ⟨.hbm, 54, rfl⟩
abbrev main_v41_7 : Ref sig .tc := ⟨.hbm, 55, rfl⟩
abbrev main_v41_8 : Ref sig .tc := ⟨.hbm, 56, rfl⟩
abbrev main_v41_9 : Ref sig .tc := ⟨.hbm, 57, rfl⟩
abbrev main_v41_10 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_stg17_0 : Ref sig .tc := ⟨.vmem, 30, rfl⟩
abbrev cc0_stg17_1 : Ref sig .tc := ⟨.vmem, 31, rfl⟩
abbrev cc0_stg18_0 : Ref sig .tc := ⟨.vmem, 32, rfl⟩
abbrev cc0_stg18_1 : Ref sig .tc := ⟨.vmem, 33, rfl⟩
abbrev cc0_stg19_0 : Ref sig .tc := ⟨.vmem, 34, rfl⟩
abbrev cc0_stg19_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29
abbrev cc0_sem17_0 : DmaSem sig := 30
abbrev cc0_sem17_1 : DmaSem sig := 31
abbrev cc0_sem18_0 : DmaSem sig := 32
abbrev cc0_sem18_1 : DmaSem sig := 33
abbrev cc0_sem19_0 : DmaSem sig := 34
abbrev cc0_sem19_1 : DmaSem sig := 35

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![c0_i32_3.toNat, v9.toNat]

def cc0_transform_8 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![c0_i32_3.toNat, v9.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_14 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_15 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_19 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S32x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S32x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x512x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x512x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x512x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S4x512x128 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S4x512x128 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S320x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S320x512 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== Reference6Ideal.lean ====
abbrev S4x4096x1024 : Shape := ⟨3, ![4, 4096, 1024]⟩
abbrev S2x4x1024 : Shape := ⟨3, ![2, 4, 1024]⟩
abbrev S1x1024x2608 : Shape := ⟨3, ![1, 1024, 2608]⟩
abbrev S1024x2608 : Shape := ⟨2, ![1024, 2608]⟩
abbrev S1x1x1024 : Shape := ⟨3, ![1, 1, 1024]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S4096 : Shape := ⟨1, ![4096]⟩
abbrev S1x4096 : Shape := ⟨2, ![1, 4096]⟩
abbrev S16384 : Shape := ⟨1, ![16384]⟩
abbrev S1024x1024 : Shape := ⟨2, ![1024, 1024]⟩
abbrev S16384x16x64 : Shape := ⟨3, ![16384, 16, 64]⟩
abbrev S1024x256 : Shape := ⟨2, ![1024, 256]⟩
abbrev S4x4096x256 : Shape := ⟨3, ![4, 4096, 256]⟩
abbrev S16384x4x64 : Shape := ⟨3, ![16384, 4, 64]⟩
abbrev S32 : Shape := ⟨1, ![32]⟩
abbrev S16384x1 : Shape := ⟨2, ![16384, 1]⟩
abbrev S1x32 : Shape := ⟨2, ![1, 32]⟩
abbrev S16384x32 : Shape := ⟨2, ![16384, 32]⟩
abbrev S16384x1x32 : Shape := ⟨3, ![16384, 1, 32]⟩
abbrev S16384x4x32 : Shape := ⟨3, ![16384, 4, 32]⟩
abbrev S16384x256 : Shape := ⟨2, ![16384, 256]⟩
abbrev S16384x512 : Shape := ⟨2, ![16384, 512]⟩
abbrev S1024x48 : Shape := ⟨2, ![1024, 48]⟩
abbrev S4x4096x48 : Shape := ⟨3, ![4, 4096, 48]⟩
abbrev S16384x48 : Shape := ⟨2, ![16384, 48]⟩
abbrev S16384x128 : Shape := ⟨2, ![16384, 128]⟩
abbrev S16384x1024 : Shape := ⟨2, ![16384, 1024]⟩
abbrev S1024x16384 : Shape := ⟨2, ![1024, 16384]⟩
abbrev S16384x16x32 : Shape := ⟨3, ![16384, 16, 32]⟩
abbrev S128x16384 : Shape := ⟨2, ![128, 16384]⟩
abbrev S4x4096x512 : Shape := ⟨3, ![4, 4096, 512]⟩
abbrev S4x512x4096 : Shape := ⟨3, ![4, 512, 4096]⟩

abbrev nBuf : Space → Nat
  | .hbm => 182
  | .vmem => 0
  | .smem => 0
  | _ => 0

abbrev hbmTy0_0 (i : Nat) : BufTy := match i % 128 with
  | 0 => ⟨S4x4096x1024, .f32⟩
  | 1 => ⟨S2x4x1024, .f32⟩
  | 2 => ⟨S1x1024x2608, .f32⟩
  | 3 => ⟨S1024x2608, .f32⟩
  | 4 => ⟨S1x1x1024, .f32⟩
  | 5 => ⟨S1024, .f32⟩
  | 6 => ⟨S4x4096x1024, .f32⟩
  | 7 => ⟨S_, .f32⟩
  | 8 => ⟨S4x4096, .f32⟩
  | 9 => ⟨S4x4096x1, .f32⟩
  | 10 => ⟨S_, .f32⟩
  | 11 => ⟨S4x4096x1, .f32⟩
  | 12 => ⟨S4x4096x1, .f32⟩
  | 13 => ⟨S_, .f32⟩
  | 14 => ⟨S4x4096x1, .f32⟩
  | 15 => ⟨S4x4096x1, .f32⟩
  | 16 => ⟨S4x4096x1, .f32⟩
  | 17 => ⟨S4x4096x1024, .f32⟩
  | 18 => ⟨S4x4096x1024, .f32⟩
  | 19 => ⟨S1x1x1024, .f32⟩
  | 20 => ⟨S4x4096x1024, .f32⟩
  | 21 => ⟨S4x4096x1024, .f32⟩
  | 22 => ⟨S4096, .i32⟩
  | 23 => ⟨S1x4096, .i32⟩
  | 24 => ⟨S4x4096, .i32⟩
  | 25 => ⟨S16384, .i32⟩
  | 26 => ⟨S1024x1024, .f32⟩
  | 27 => ⟨S4x4096x1024, .f32⟩
  | 28 => ⟨S16384x16x64, .f32⟩
  | 29 => ⟨S1024x256, .f32⟩
  | 30 => ⟨S4x4096x256, .f32⟩
  | 31 => ⟨S16384x4x64, .f32⟩
  | 32 => ⟨S1024x256, .f32⟩
  | 33 => ⟨S4x4096x256, .f32⟩
  | 34 => ⟨S16384x4x64, .f32⟩
  | 35 => ⟨S1024x256, .f32⟩
  | 36 => ⟨S4x4096x256, .f32⟩
  | 37 => ⟨S16384x4x64, .f32⟩
  | 38 => ⟨S32, .f32⟩
  | 39 => ⟨S32, .f32⟩
  | 40 => ⟨S_, .f32⟩
  | 41 => ⟨S32, .f32⟩
  | 42 => ⟨S32, .f32⟩
  | 43 => ⟨S_, .f32⟩
  | 44 => ⟨S32, .f32⟩
  | 45 => ⟨S32, .f32⟩
  | 46 => ⟨S16384, .f32⟩
  | 47 => ⟨S16384x1, .f32⟩
  | 48 => ⟨S1x32, .f32⟩
  | 49 => ⟨S16384x32, .f32⟩
  | 50 => ⟨S16384x32, .f32⟩
  | 51 => ⟨S16384x32, .f32⟩
  | 52 => ⟨S16384x32, .f32⟩
  | 53 => ⟨S16384x1x32, .f32⟩
  | 54 => ⟨S16384x32, .f32⟩
  | 55 => ⟨S16384x1x32, .f32⟩
  | 56 => ⟨S16384x4x32, .f32⟩
  | 57 => ⟨S16384x4x32, .f32⟩
  | 58 => ⟨S16384x4x32, .f32⟩
  | 59 => ⟨S16384x4x32, .f32⟩
  | 60 => ⟨S16384x4x32, .f32⟩
  | 61 => ⟨S16384x4x32, .f32⟩
  | 62 => ⟨S16384x4x32, .f32⟩
  | 63 => ⟨S16384x4x32, .f32⟩
  | 64 => ⟨S16384x4x32, .f32⟩
  | 65 => ⟨S16384x4x32, .f32⟩
  | 66 => ⟨S16384x4x32, .f32⟩
  | 67 => ⟨S16384x4x32, .f32⟩
  | 68 => ⟨S16384x4x64, .f32⟩
  | 69 => ⟨S1024x256, .f32⟩
  | 70 => ⟨S4x4096x256, .f32⟩
  | 71 => ⟨S16384x4x64, .f32⟩
  | 72 => ⟨S1024x256, .f32⟩
  | 73 => ⟨S4x4096x256, .f32⟩
  | 74 => ⟨S16384x4x64, .f32⟩
  | 75 => ⟨S32, .f32⟩
  | 76 => ⟨S32, .f32⟩
  | 77 => ⟨S_, .f32⟩
  | 78 => ⟨S32, .f32⟩
  | 79 => ⟨S32, .f32⟩
  | 80 => ⟨S_, .f32⟩
  | 81 => ⟨S32, .f32⟩
  | 82 => ⟨S32, .f32⟩
  | 83 => ⟨S16384, .f32⟩
  | 84 => ⟨S16384x1, .f32⟩
  | 85 => ⟨S1x32, .f32⟩
  | 86 => ⟨S16384x32, .f32⟩
  | 87 => ⟨S16384x32, .f32⟩
  | 88 => ⟨S16384x32, .f32⟩
  | 89 => ⟨S16384x32, .f32⟩
  | 90 => ⟨S16384x1x32, .f32⟩
  | 91 => ⟨S16384x32, .f32⟩
  | 92 => ⟨S16384x1x32, .f32⟩
  | 93 => ⟨S16384x4x32, .f32⟩
  | 94 => ⟨S16384x4x32, .f32⟩
  | 95 => ⟨S16384x4x32, .f32⟩
  | 96 => ⟨S16384x4x32, .f32⟩
  | 97 => ⟨S16384x4x32, .f32⟩
  | 98 => ⟨S16384x4x32, .f32⟩
  | 99 => ⟨S16384x4x32, .f32⟩
  | 100 => ⟨S16384x4x32, .f32⟩
  | 101 => ⟨S16384x4x32, .f32⟩
  | 102 => ⟨S16384x4x32, .f32⟩
  | 103 => ⟨S16384x4x32, .f32⟩
  | 104 => ⟨S16384x4x32, .f32⟩
  | 105 => ⟨S16384x4x64, .f32⟩
  | 106 => ⟨S1024x256, .f32⟩
  | 107 => ⟨S4x4096x256, .f32⟩
  | 108 => ⟨S16384x4x64, .f32⟩
  | 109 => ⟨S16384x256, .f32⟩
  | 110 => ⟨S16384x256, .f32⟩
  | 111 => ⟨S16384x512, .f32⟩
  | 112 => ⟨S16384x256, .f32⟩
  | 113 => ⟨S16384x256, .f32⟩
  | 114 => ⟨S16384x512, .f32⟩
  | 115 => ⟨S16384x256, .f32⟩
  | 116 => ⟨S16384x256, .f32⟩
  | 117 => ⟨S16384x512, .f32⟩
  | 118 => ⟨S1024x48, .f32⟩
  | 119 => ⟨S4x4096x48, .f32⟩
  | 120 => ⟨S16384x48, .f32⟩
  | 121 => ⟨S_, .i32⟩
  | 122 => ⟨S_, .f32⟩
  | 123 => ⟨S16384x128, .f32⟩
  | 124 => ⟨S16384x128, .f32⟩
  | 125 => ⟨S16384x128, .f32⟩
  | 126 => ⟨S_, .f32⟩
  | 127 => ⟨S16384x128, .f32⟩
  | _ => ⟨S4x4096x1024, .f32⟩

abbrev hbmTy0_1 (i : Nat) : BufTy := match i % 128 with
  | 0 => ⟨S16384x128, .f32⟩
  | 1 => ⟨S_, .f32⟩
  | 2 => ⟨S16384x128, .f32⟩
  | 3 => ⟨S16384x128, .f32⟩
  | 4 => ⟨S16384x1024, .f32⟩
  | 5 => ⟨S_, .f32⟩
  | 6 => ⟨S16384x1024, .f32⟩
  | 7 => ⟨S16384x1024, .f32⟩
  | 8 => ⟨S16384x1024, .bf16⟩
  | 9 => ⟨S1024x16384, .bf16⟩
  | 10 => ⟨S32, .f32⟩
  | 11 => ⟨S32, .f32⟩
  | 12 => ⟨S_, .f32⟩
  | 13 => ⟨S32, .f32⟩
  | 14 => ⟨S32, .f32⟩
  | 15 => ⟨S_, .f32⟩
  | 16 => ⟨S32, .f32⟩
  | 17 => ⟨S32, .f32⟩
  | 18 => ⟨S16384, .f32⟩
  | 19 => ⟨S16384x1, .f32⟩
  | 20 => ⟨S1x32, .f32⟩
  | 21 => ⟨S16384x32, .f32⟩
  | 22 => ⟨S16384x32, .f32⟩
  | 23 => ⟨S16384x32, .f32⟩
  | 24 => ⟨S16384x32, .f32⟩
  | 25 => ⟨S16384x1x32, .f32⟩
  | 26 => ⟨S16384x32, .f32⟩
  | 27 => ⟨S16384x1x32, .f32⟩
  | 28 => ⟨S16384x16x32, .f32⟩
  | 29 => ⟨S16384x16x32, .f32⟩
  | 30 => ⟨S16384x16x32, .f32⟩
  | 31 => ⟨S16384x16x32, .f32⟩
  | 32 => ⟨S16384x16x32, .f32⟩
  | 33 => ⟨S16384x16x32, .f32⟩
  | 34 => ⟨S16384x16x32, .f32⟩
  | 35 => ⟨S16384x16x32, .f32⟩
  | 36 => ⟨S16384x16x32, .f32⟩
  | 37 => ⟨S16384x16x32, .f32⟩
  | 38 => ⟨S16384x16x32, .f32⟩
  | 39 => ⟨S16384x16x32, .f32⟩
  | 40 => ⟨S16384x16x64, .f32⟩
  | 41 => ⟨S16384x1024, .f32⟩
  | 42 => ⟨S_, .f32⟩
  | 43 => ⟨S16384x1024, .f32⟩
  | 44 => ⟨S16384x1024, .f32⟩
  | 45 => ⟨S16384x1024, .bf16⟩
  | 46 => ⟨S1024x16384, .bf16⟩
  | 47 => ⟨S128x16384, .f32⟩
  | 48 => ⟨S4x4096x512, .f32⟩
  | 49 => ⟨S4x512x4096, .f32⟩
  | 50 => ⟨S4x4096x512, .f32⟩
  | 51 => ⟨S4x512x4096, .f32⟩
  | 52 => ⟨S4x4096x512, .f32⟩
  | 53 => ⟨S4x512x4096, .f32⟩
  | _ => ⟨S4x4096x1024, .f32⟩

abbrev hbmTy (i : Nat) : BufTy := match i / 128 with
  | 0 => hbmTy0_0 i
  | 1 => hbmTy0_1 i
  | _ => ⟨S4x4096x1024, .f32⟩

abbrev bufTy : (tb : Table) → Fin (tcTables nBuf tb) → BufTy
  | .hbm, ⟨i, _⟩ => hbmTy i
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_cst_2 : Ref sig .tc := ⟨.hbm, 40, rfl⟩
abbrev main_v34 : Ref sig .tc := ⟨.hbm, 41, rfl⟩
abbrev main_v35 : Ref sig .tc := ⟨.hbm, 42, rfl⟩
abbrev main_cst_3 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_cst_4 : Ref sig .tc := ⟨.hbm, 77, rfl⟩
abbrev main_v69 : Ref sig .tc := ⟨.hbm, 78, rfl⟩
abbrev main_v70 : Ref sig .tc := ⟨.hbm, 79, rfl⟩
abbrev main_cst_5 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩
abbrev main_v105 : Ref sig .tc := ⟨.hbm, 115, rfl⟩
abbrev main_v106 : Ref sig .tc := ⟨.hbm, 116, rfl⟩
abbrev main_v107 : Ref sig .tc := ⟨.hbm, 117, rfl⟩
abbrev main_v108 : Ref sig .tc := ⟨.hbm, 118, rfl⟩
abbrev main_v109 : Ref sig .tc := ⟨.hbm, 119, rfl⟩
abbrev main_v110 : Ref sig .tc := ⟨.hbm, 120, rfl⟩
abbrev main_c : Ref sig .tc := ⟨.hbm, 121, rfl⟩
abbrev main_call0_v0 : Ref sig .tc := ⟨.hbm, 122, rfl⟩
abbrev main_v111 : Ref sig .tc := ⟨.hbm, 123, rfl⟩
abbrev main_v112 : Ref sig .tc := ⟨.hbm, 124, rfl⟩
abbrev main_v113 : Ref sig .tc := ⟨.hbm, 125, rfl⟩
abbrev main_cst_6 : Ref sig .tc := ⟨.hbm, 126, rfl⟩
abbrev main_v114 : Ref sig .tc := ⟨.hbm, 127, rfl⟩
abbrev main_v115 : Ref sig .tc := ⟨.hbm, 128, rfl⟩
abbrev main_cst_7 : Ref sig .tc := ⟨.hbm, 129, rfl⟩
abbrev main_v116 : Ref sig .tc := ⟨.hbm, 130, rfl⟩
abbrev main_v117 : Ref sig .tc := ⟨.hbm, 131, rfl⟩
abbrev main_v118 : Ref sig .tc := ⟨.hbm, 132, rfl⟩
abbrev main_cst_8 : Ref sig .tc := ⟨.hbm, 133, rfl⟩
abbrev main_v119 : Ref sig .tc := ⟨.hbm, 134, rfl⟩
abbrev main_v120 : Ref sig .tc := ⟨.hbm, 135, rfl⟩
abbrev main_v121 : Ref sig .tc := ⟨.hbm, 136, rfl⟩
abbrev main_v122 : Ref sig .tc := ⟨.hbm, 137, rfl⟩
abbrev main_v123 : Ref sig .tc := ⟨.hbm, 138, rfl⟩
abbrev main_v124 : Ref sig .tc := ⟨.hbm, 139, rfl⟩
abbrev main_cst_9 : Ref sig .tc := ⟨.hbm, 140, rfl⟩
abbrev main_v125 : Ref sig .tc := ⟨.hbm, 141, rfl⟩
abbrev main_v126 : Ref sig .tc := ⟨.hbm, 142, rfl⟩
abbrev main_cst_10 : Ref sig .tc := ⟨.hbm, 143, rfl⟩
abbrev main_v127 : Ref sig .tc := ⟨.hbm, 144, rfl⟩
abbrev main_v128 : Ref sig .tc := ⟨.hbm, 145, rfl⟩
abbrev main_v129 : Ref sig .tc := ⟨.hbm, 146, rfl⟩
abbrev main_v130 : Ref sig .tc := ⟨.hbm, 147, rfl⟩
abbrev main_v131 : Ref sig .tc := ⟨.hbm, 148, rfl⟩
abbrev main_v132 : Ref sig .tc := ⟨.hbm, 149, rfl⟩
abbrev main_v133 : Ref sig .tc := ⟨.hbm, 150, rfl⟩
abbrev main_v134 : Ref sig .tc := ⟨.hbm, 151, rfl⟩
abbrev main_v135 : Ref sig .tc := ⟨.hbm, 152, rfl⟩
abbrev main_v136 : Ref sig .tc := ⟨.hbm, 153, rfl⟩
abbrev main_v137 : Ref sig .tc := ⟨.hbm, 154, rfl⟩
abbrev main_v138 : Ref sig .tc := ⟨.hbm, 155, rfl⟩
abbrev main_v139 : Ref sig .tc := ⟨.hbm, 156, rfl⟩
abbrev main_v140 : Ref sig .tc := ⟨.hbm, 157, rfl⟩
abbrev main_v141 : Ref sig .tc := ⟨.hbm, 158, rfl⟩
abbrev main_v142 : Ref sig .tc := ⟨.hbm, 159, rfl⟩
abbrev main_v143 : Ref sig .tc := ⟨.hbm, 160, rfl⟩
abbrev main_v144 : Ref sig .tc := ⟨.hbm, 161, rfl⟩
abbrev main_v145 : Ref sig .tc := ⟨.hbm, 162, rfl⟩
abbrev main_v146 : Ref sig .tc := ⟨.hbm, 163, rfl⟩
abbrev main_v147 : Ref sig .tc := ⟨.hbm, 164, rfl⟩
abbrev main_v148 : Ref sig .tc := ⟨.hbm, 165, rfl⟩
abbrev main_v149 : Ref sig .tc := ⟨.hbm, 166, rfl⟩
abbrev main_v150 : Ref sig .tc := ⟨.hbm, 167, rfl⟩
abbrev main_v151 : Ref sig .tc := ⟨.hbm, 168, rfl⟩
abbrev main_v152 : Ref sig .tc := ⟨.hbm, 169, rfl⟩
abbrev main_cst_11 : Ref sig .tc := ⟨.hbm, 170, rfl⟩
abbrev main_v153 : Ref sig .tc := ⟨.hbm, 171, rfl⟩
abbrev main_v154 : Ref sig .tc := ⟨.hbm, 172, rfl⟩
abbrev main_v155 : Ref sig .tc := ⟨.hbm, 173, rfl⟩
abbrev main_v156 : Ref sig .tc := ⟨.hbm, 174, rfl⟩
abbrev main_v157 : Ref sig .tc := ⟨.hbm, 175, rfl⟩
abbrev main_v158 : Ref sig .tc := ⟨.hbm, 176, rfl⟩
abbrev main_v159 : Ref sig .tc := ⟨.hbm, 177, rfl⟩
abbrev main_v160 : Ref sig .tc := ⟨.hbm, 178, rfl⟩
abbrev main_v161 : Ref sig .tc := ⟨.hbm, 179, rfl⟩
abbrev main_v162 : Ref sig .tc := ⟨.hbm, 180, rfl⟩
abbrev main_v163 : Ref sig .tc := ⟨.hbm, 181, rfl⟩

abbrev nD : Nat := 1
abbrev τ : Topo := Topo.v7x

variable {F : FTy → Type} [FloatOps F]
-- ==== Kernel7.lean ====
abbrev S32x1x1024 : Shape := ⟨3, ![32, 1, 1024]⟩
abbrev S2x4x1024 : Shape := ⟨3, ![2, 4, 1024]⟩
abbrev S1x1024x2608 : Shape := ⟨3, ![1, 1024, 2608]⟩
abbrev S2x4x1x1024 : Shape := ⟨4, ![2, 4, 1, 1024]⟩
abbrev S1024x2608 : Shape := ⟨2, ![1024, 2608]⟩
abbrev S1024x1024 : Shape := ⟨2, ![1024, 1024]⟩
abbrev S1024x1536 : Shape := ⟨2, ![1024, 1536]⟩
abbrev S1024x48 : Shape := ⟨2, ![1024, 48]⟩
abbrev S_ : Shape := ⟨0, ![]⟩
abbrev S1024x128 : Shape := ⟨2, ![1024, 128]⟩
abbrev S32x1024 : Shape := ⟨2, ![32, 1024]⟩
abbrev S32 : Shape := ⟨1, ![32]⟩
abbrev S32x1 : Shape := ⟨2, ![32, 1]⟩
abbrev S1x32 : Shape := ⟨2, ![1, 32]⟩
abbrev S32x32 : Shape := ⟨2, ![32, 32]⟩
abbrev S32x64 : Shape := ⟨2, ![32, 64]⟩
abbrev S1x32x1x64 : Shape := ⟨4, ![1, 32, 1, 64]⟩
abbrev S1x32x2x64 : Shape := ⟨4, ![1, 32, 2, 64]⟩
abbrev S32x128 : Shape := ⟨2, ![32, 128]⟩
abbrev S1x1x1x1024 : Shape := ⟨4, ![1, 1, 1, 1024]⟩
abbrev S1x1024 : Shape := ⟨2, ![1, 1024]⟩
abbrev S32x512 : Shape := ⟨2, ![32, 512]⟩
abbrev S32x1536 : Shape := ⟨2, ![32, 1536]⟩
abbrev S32x256 : Shape := ⟨2, ![32, 256]⟩
abbrev S1x128 : Shape := ⟨2, ![1, 128]⟩

abbrev nBuf : Space → Nat
  | .hbm => 50
  | .vmem => 13
  | .smem => 0
  | _ => 0

abbrev bufTy : (tb : Table) → Fin (tcTables nBuf tb) → BufTy
  | .hbm, ⟨0, _⟩ => ⟨S32x1x1024, .f32⟩
  | .hbm, ⟨1, _⟩ => ⟨S2x4x1024, .f32⟩
  | .hbm, ⟨2, _⟩ => ⟨S1x1024x2608, .f32⟩
  | .hbm, ⟨3, _⟩ => ⟨S2x4x1x1024, .f32⟩
  | .hbm, ⟨4, _⟩ => ⟨S1024x2608, .f32⟩
  | .hbm, ⟨5, _⟩ => ⟨S1024x1024, .f32⟩
  | .hbm, ⟨6, _⟩ => ⟨S1024x1024, .bf16⟩
  | .hbm, ⟨7, _⟩ => ⟨S1024x1536, .f32⟩
  | .hbm, ⟨8, _⟩ => ⟨S1024x1536, .bf16⟩
  | .hbm, ⟨9, _⟩ => ⟨S1024x48, .f32⟩
  | .hbm, ⟨10, _⟩ => ⟨S_, .i32⟩
  | .hbm, ⟨11, _⟩ => ⟨S_, .f32⟩
  | .hbm, ⟨12, _⟩ => ⟨S1024x128, .f32⟩
  | .hbm, ⟨13, _⟩ => ⟨S1024x128, .bf16⟩
  | .hbm, ⟨14, _⟩ => ⟨S32x1024, .f32⟩
  | .hbm, ⟨15, _⟩ => ⟨S_, .i32⟩
  | .hbm, ⟨16, _⟩ => ⟨S32, .i32⟩
  | .hbm, ⟨17, _⟩ => ⟨S32, .f32⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S_, .f32⟩
  | .hbm, ⟨23, _⟩ => ⟨S32, .f32⟩
  | .hbm, ⟨24, _⟩ => ⟨S32, .f32⟩
  | .hbm, ⟨25, _⟩ => ⟨S32, .f32⟩
  | .hbm, ⟨26, _⟩ => ⟨S32x1, .f32⟩
  | .hbm, ⟨27, _⟩ => ⟨S1x32, .f32⟩
  | .hbm, ⟨28, _⟩ => ⟨S32x32, .f32⟩
  | .hbm, ⟨29, _⟩ => ⟨S32x32, .f32⟩
  | .hbm, ⟨30, _⟩ => ⟨S32x32, .f32⟩
  | .hbm, ⟨31, _⟩ => ⟨S32x32, .f32⟩
  | .hbm, ⟨32, _⟩ => ⟨S32x32, .f32⟩
  | .hbm, ⟨33, _⟩ => ⟨S32x64, .f32⟩
  | .hbm, ⟨34, _⟩ => ⟨S1x32x1x64, .f32⟩
  | .hbm, ⟨35, _⟩ => ⟨S1x32x2x64, .f32⟩
  | .hbm, ⟨36, _⟩ => ⟨S32x128, .f32⟩
  | .hbm, ⟨37, _⟩ => ⟨S32x32, .f32⟩
  | .hbm, ⟨38, _⟩ => ⟨S32x64, .f32⟩
  | .hbm, ⟨39, _⟩ => ⟨S1x32x1x64, .f32⟩
  | .hbm, ⟨40, _⟩ => ⟨S1x32x2x64, .f32⟩
  | .hbm, ⟨41, _⟩ => ⟨S32x128, .f32⟩
  | .hbm, ⟨42, _⟩ => ⟨S1x1x1x1024, .f32⟩
  | .hbm, ⟨43, _⟩ => ⟨S1x1024, .f32⟩
  | .hbm, ⟨44, _⟩ => ⟨S32x1024, .bf16⟩
  | .hbm, ⟨45, _⟩ => ⟨S32x1024, .bf16⟩
  | .hbm, ⟨46, _⟩ => ⟨S32x128, .f32⟩
  | .hbm, ⟨47, _⟩ => ⟨S32x512, .f32⟩
  | .hbm, ⟨48, _⟩ => ⟨S32x512, .f32⟩
  | .hbm, ⟨49, _⟩ => ⟨S32x512, .f32⟩
  | .local _ .vmem, ⟨0, _⟩ => ⟨S32x1024, .f32⟩
  | .local _ .vmem, ⟨1, _⟩ => ⟨S1x1024, .f32⟩
  | .local _ .vmem, ⟨2, _⟩ => ⟨S1024x1024, .bf16⟩
  | .local _ .vmem, ⟨3, _⟩ => ⟨S1024x1536, .bf16⟩
  | .local _ .vmem, ⟨4, _⟩ => ⟨S1024x128, .bf16⟩
  | .local _ .vmem, ⟨5, _⟩ => ⟨S32x128, .f32⟩
  | .local _ .vmem, ⟨6, _⟩ => ⟨S32x128, .f32⟩
  | .local _ .vmem, ⟨7, _⟩ => ⟨S32x1024, .bf16⟩
  | .local _ .vmem, ⟨8, _⟩ => ⟨S32x1024, .bf16⟩
  | .local _ .vmem, ⟨9, _⟩ => ⟨S32x128, .f32⟩
  | .local _ .vmem, ⟨10, _⟩ => ⟨S32x512, .f32⟩
  | .local _ .vmem, ⟨11, _⟩ => ⟨S32x512, .f32⟩
  | .local _ .vmem, ⟨12, _⟩ => ⟨S32x512, .f32⟩
  | _, _ => ⟨S32x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_call0_v0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36_0 : Ref sig .tc := ⟨.hbm, 44, rfl⟩
abbrev main_v36_1 : Ref sig .tc := ⟨.hbm, 45, rfl⟩
abbrev main_v36_2 : Ref sig .tc := ⟨.hbm, 46, rfl⟩
abbrev main_v36_3 : Ref sig .tc := ⟨.hbm, 47, rfl⟩
abbrev main_v36_4 : Ref sig .tc := ⟨.hbm, 48, rfl⟩
abbrev main_v36_5 : Ref sig .tc := ⟨.hbm, 49, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S32x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S32x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S32x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S32x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S32x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]
-- ==== Reference7Ideal.lean ====
abbrev S32x1x1024 : Shape := ⟨3, ![32, 1, 1024]⟩
abbrev S2x4x1024 : Shape := ⟨3, ![2, 4, 1024]⟩
abbrev S1x1024x2608 : Shape := ⟨3, ![1, 1024, 2608]⟩
abbrev S32x1024 : Shape := ⟨2, ![32, 1024]⟩
abbrev S1024x2608 : Shape := ⟨2, ![1024, 2608]⟩
abbrev S1x1x1024 : Shape := ⟨3, ![1, 1, 1024]⟩
abbrev S1024 : Shape := ⟨1, ![1024]⟩
abbrev S_ : Shape := ⟨0, ![]⟩
abbrev S32 : Shape := ⟨1, ![32]⟩
abbrev S32x1 : Shape := ⟨2, ![32, 1]⟩
abbrev S1x1024 : Shape := ⟨2, ![1, 1024]⟩
abbrev S1024x1024 : Shape := ⟨2, ![1024, 1024]⟩
abbrev S32x16x64 : Shape := ⟨3, ![32, 16, 64]⟩
abbrev S1024x256 : Shape := ⟨2, ![1024, 256]⟩
abbrev S32x256 : Shape := ⟨2, ![32, 256]⟩
abbrev S32x4x64 : Shape := ⟨3, ![32, 4, 64]⟩
abbrev S1x32 : Shape := ⟨2, ![1, 32]⟩
abbrev S32x32 : Shape := ⟨2, ![32, 32]⟩
abbrev S32x1x32 : Shape := ⟨3, ![32, 1, 32]⟩
abbrev S32x4x32 : Shape := ⟨3, ![32, 4, 32]⟩
abbrev S1024x48 : Shape := ⟨2, ![1024, 48]⟩
abbrev S32x48 : Shape := ⟨2, ![32, 48]⟩
abbrev S32x128 : Shape := ⟨2, ![32, 128]⟩
abbrev S32x16x32 : Shape := ⟨3, ![32, 16, 32]⟩
abbrev S32x512 : Shape := ⟨2, ![32, 512]⟩

abbrev nBuf : Space → Nat
  | .hbm => 171
  | .vmem => 0
  | .smem => 0
  | _ => 0

abbrev hbmTy0_0 (i : Nat) : BufTy := match i % 128 with
  | 0 => ⟨S32x1x1024, .f32⟩
  | 1 => ⟨S2x4x1024, .f32⟩
  | 2 => ⟨S1x1024x2608, .f32⟩
  | 3 => ⟨S32x1024, .f32⟩
  | 4 => ⟨S1024x2608, .f32⟩
  | 5 => ⟨S1x1x1024, .f32⟩
  | 6 => ⟨S1024, .f32⟩
  | 7 => ⟨S32x1024, .f32⟩
  | 8 => ⟨S_, .f32⟩
  | 9 => ⟨S32, .f32⟩
  | 10 => ⟨S32x1, .f32⟩
  | 11 => ⟨S_, .f32⟩
  | 12 => ⟨S32x1, .f32⟩
  | 13 => ⟨S32x1, .f32⟩
  | 14 => ⟨S_, .f32⟩
  | 15 => ⟨S32x1, .f32⟩
  | 16 => ⟨S32x1, .f32⟩
  | 17 => ⟨S32x1, .f32⟩
  | 18 => ⟨S32x1024, .f32⟩
  | 19 => ⟨S32x1024, .f32⟩
  | 20 => ⟨S1x1024, .f32⟩
  | 21 => ⟨S32x1024, .f32⟩
  | 22 => ⟨S32x1024, .f32⟩
  | 23 => ⟨S_, .i32⟩
  | 24 => ⟨S32, .i32⟩
  | 25 => ⟨S1024x1024, .f32⟩
  | 26 => ⟨S32x1024, .f32⟩
  | 27 => ⟨S32x16x64, .f32⟩
  | 28 => ⟨S1024x256, .f32⟩
  | 29 => ⟨S32x256, .f32⟩
  | 30 => ⟨S32x4x64, .f32⟩
  | 31 => ⟨S1024x256, .f32⟩
  | 32 => ⟨S32x256, .f32⟩
  | 33 => ⟨S32x4x64, .f32⟩
  | 34 => ⟨S1024x256, .f32⟩
  | 35 => ⟨S32x256, .f32⟩
  | 36 => ⟨S32x4x64, .f32⟩
  | 37 => ⟨S32, .f32⟩
  | 38 => ⟨S32, .f32⟩
  | 39 => ⟨S_, .f32⟩
  | 40 => ⟨S32, .f32⟩
  | 41 => ⟨S32, .f32⟩
  | 42 => ⟨S_, .f32⟩
  | 43 => ⟨S32, .f32⟩
  | 44 => ⟨S32, .f32⟩
  | 45 => ⟨S32, .f32⟩
  | 46 => ⟨S32x1, .f32⟩
  | 47 => ⟨S1x32, .f32⟩
  | 48 => ⟨S32x32, .f32⟩
  | 49 => ⟨S32x32, .f32⟩
  | 50 => ⟨S32x32, .f32⟩
  | 51 => ⟨S32x32, .f32⟩
  | 52 => ⟨S32x1x32, .f32⟩
  | 53 => ⟨S32x32, .f32⟩
  | 54 => ⟨S32x1x32, .f32⟩
  | 55 => ⟨S32x4x32, .f32⟩
  | 56 => ⟨S32x4x32, .f32⟩
  | 57 => ⟨S32x4x32, .f32⟩
  | 58 => ⟨S32x4x32, .f32⟩
  | 59 => ⟨S32x4x32, .f32⟩
  | 60 => ⟨S32x4x32, .f32⟩
  | 61 => ⟨S32x4x32, .f32⟩
  | 62 => ⟨S32x4x32, .f32⟩
  | 63 => ⟨S32x4x32, .f32⟩
  | 64 => ⟨S32x4x32, .f32⟩
  | 65 => ⟨S32x4x32, .f32⟩
  | 66 => ⟨S32x4x32, .f32⟩
  | 67 => ⟨S32x4x64, .f32⟩
  | 68 => ⟨S1024x256, .f32⟩
  | 69 => ⟨S32x256, .f32⟩
  | 70 => ⟨S32x4x64, .f32⟩
  | 71 => ⟨S1024x256, .f32⟩
  | 72 => ⟨S32x256, .f32⟩
  | 73 => ⟨S32x4x64, .f32⟩
  | 74 => ⟨S32, .f32⟩
  | 75 => ⟨S32, .f32⟩
  | 76 => ⟨S_, .f32⟩
  | 77 => ⟨S32, .f32⟩
  | 78 => ⟨S32, .f32⟩
  | 79 => ⟨S_, .f32⟩
  | 80 => ⟨S32, .f32⟩
  | 81 => ⟨S32, .f32⟩
  | 82 => ⟨S32, .f32⟩
  | 83 => ⟨S32x1, .f32⟩
  | 84 => ⟨S1x32, .f32⟩
  | 85 => ⟨S32x32, .f32⟩
  | 86 => ⟨S32x32, .f32⟩
  | 87 => ⟨S32x32, .f32⟩
  | 88 => ⟨S32x32, .f32⟩
  | 89 => ⟨S32x1x32, .f32⟩
  | 90 => ⟨S32x32, .f32⟩
  | 91 => ⟨S32x1x32, .f32⟩
  | 92 => ⟨S32x4x32, .f32⟩
  | 93 => ⟨S32x4x32, .f32⟩
  | 94 => ⟨S32x4x32, .f32⟩
  | 95 => ⟨S32x4x32, .f32⟩
  | 96 => ⟨S32x4x32, .f32⟩
  | 97 => ⟨S32x4x32, .f32⟩
  | 98 => ⟨S32x4x32, .f32⟩
  | 99 => ⟨S32x4x32, .f32⟩
  | 100 => ⟨S32x4x32, .f32⟩
  | 101 => ⟨S32x4x32, .f32⟩
  | 102 => ⟨S32x4x32, .f32⟩
  | 103 => ⟨S32x4x32, .f32⟩
  | 104 => ⟨S32x4x64, .f32⟩
  | 105 => ⟨S1024x256, .f32⟩
  | 106 => ⟨S32x256, .f32⟩
  | 107 => ⟨S32x4x64, .f32⟩
  | 108 => ⟨S1024x48, .f32⟩
  | 109 => ⟨S32x48, .f32⟩
  | 110 => ⟨S_, .i32⟩
  | 111 => ⟨S_, .f32⟩
  | 112 => ⟨S32x128, .f32⟩
  | 113 => ⟨S32x128, .f32⟩
  | 114 => ⟨S32x128, .f32⟩
  | 115 => ⟨S_, .f32⟩
  | 116 => ⟨S32x128, .f32⟩
  | 117 => ⟨S32x128, .f32⟩
  | 118 => ⟨S_, .f32⟩
  | 119 => ⟨S32x128, .f32⟩
  | 120 => ⟨S32x128, .f32⟩
  | 121 => ⟨S32x1024, .f32⟩
  | 122 => ⟨S_, .f32⟩
  | 123 => ⟨S32x1024, .f32⟩
  | 124 => ⟨S32x1024, .f32⟩
  | 125 => ⟨S32x1024, .bf16⟩
  | 126 => ⟨S32, .f32⟩
  | 127 => ⟨S32, .f32⟩
  | _ => ⟨S32x1x1024, .f32⟩

abbrev hbmTy0_1 (i : Nat) : BufTy := match i % 128 with
  | 0 => ⟨S_, .f32⟩
  | 1 => ⟨S32, .f32⟩
  | 2 => ⟨S32, .f32⟩
  | 3 => ⟨S_, .f32⟩
  | 4 => ⟨S32, .f32⟩
  | 5 => ⟨S32, .f32⟩
  | 6 => ⟨S32, .f32⟩
  | 7 => ⟨S32x1, .f32⟩
  | 8 => ⟨S1x32, .f32⟩
  | 9 => ⟨S32x32, .f32⟩
  | 10 => ⟨S32x32, .f32⟩
  | 11 => ⟨S32x32, .f32⟩
  | 12 => ⟨S32x32, .f32⟩
  | 13 => ⟨S32x1x32, .f32⟩
  | 14 => ⟨S32x32, .f32⟩
  | 15 => ⟨S32x1x32, .f32⟩
  | 16 => ⟨S32x16x32, .f32⟩
  | 17 => ⟨S32x16x32, .f32⟩
  | 18 => ⟨S32x16x32, .f32⟩
  | 19 => ⟨S32x16x32, .f32⟩
  | 20 => ⟨S32x16x32, .f32⟩
  | 21 => ⟨S32x16x32, .f32⟩
  | 22 => ⟨S32x16x32, .f32⟩
  | 23 => ⟨S32x16x32, .f32⟩
  | 24 => ⟨S32x16x32, .f32⟩
  | 25 => ⟨S32x16x32, .f32⟩
  | 26 => ⟨S32x16x32, .f32⟩
  | 27 => ⟨S32x16x32, .f32⟩
  | 28 => ⟨S32x16x64, .f32⟩
  | 29 => ⟨S32x1024, .f32⟩
  | 30 => ⟨S_, .f32⟩
  | 31 => ⟨S32x1024, .f32⟩
  | 32 => ⟨S32x1024, .f32⟩
  | 33 => ⟨S32x1024, .bf16⟩
  | 34 => ⟨S32x256, .f32⟩
  | 35 => ⟨S32x256, .f32⟩
  | 36 => ⟨S32x512, .f32⟩
  | 37 => ⟨S32x256, .f32⟩
  | 38 => ⟨S32x256, .f32⟩
  | 39 => ⟨S32x512, .f32⟩
  | 40 => ⟨S32x256, .f32⟩
  | 41 => ⟨S32x256, .f32⟩
  | 42 => ⟨S32x512, .f32⟩
  | _ => ⟨S32x1x1024, .f32⟩

abbrev hbmTy (i : Nat) : BufTy := match i / 128 with
  | 0 => hbmTy0_0 i
  | 1 => hbmTy0_1 i
  | _ => ⟨S32x1x1024, .f32⟩

abbrev bufTy : (tb : Table) → Fin (tcTables nBuf tb) → BufTy
  | .hbm, ⟨i, _⟩ => hbmTy i
  | _, _ => ⟨S32x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_c : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_cst_2 : Ref sig .tc := ⟨.hbm, 39, rfl⟩
abbrev main_v32 : Ref sig .tc := ⟨.hbm, 40, rfl⟩
abbrev main_v33 : Ref sig .tc := ⟨.hbm, 41, rfl⟩
abbrev main_cst_3 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_cst_4 : Ref sig .tc := ⟨.hbm, 76, rfl⟩
abbrev main_v67 : Ref sig .tc := ⟨.hbm, 77, rfl⟩
abbrev main_v68 : Ref sig .tc := ⟨.hbm, 78, rfl⟩
abbrev main_cst_5 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩
abbrev main_v97 : Ref sig .tc := ⟨.hbm, 108, rfl⟩
abbrev main_v98 : Ref sig .tc := ⟨.hbm, 109, rfl⟩
abbrev main_c_6 : Ref sig .tc := ⟨.hbm, 110, rfl⟩
abbrev main_call0_v0 : Ref sig .tc := ⟨.hbm, 111, rfl⟩
abbrev main_v99 : Ref sig .tc := ⟨.hbm, 112, rfl⟩
abbrev main_v100 : Ref sig .tc := ⟨.hbm, 113, rfl⟩
abbrev main_v101 : Ref sig .tc := ⟨.hbm, 114, rfl⟩
abbrev main_cst_7 : Ref sig .tc := ⟨.hbm, 115, rfl⟩
abbrev main_v102 : Ref sig .tc := ⟨.hbm, 116, rfl⟩
abbrev main_v103 : Ref sig .tc := ⟨.hbm, 117, rfl⟩
abbrev main_cst_8 : Ref sig .tc := ⟨.hbm, 118, rfl⟩
abbrev main_v104 : Ref sig .tc := ⟨.hbm, 119, rfl⟩
abbrev main_v105 : Ref sig .tc := ⟨.hbm, 120, rfl⟩
abbrev main_v106 : Ref sig .tc := ⟨.hbm, 121, rfl⟩
abbrev main_cst_9 : Ref sig .tc := ⟨.hbm, 122, rfl⟩
abbrev main_v107 : Ref sig .tc := ⟨.hbm, 123, rfl⟩
abbrev main_v108 : Ref sig .tc := ⟨.hbm, 124, rfl⟩
abbrev main_v109 : Ref sig .tc := ⟨.hbm, 125, rfl⟩
abbrev main_v110 : Ref sig .tc := ⟨.hbm, 126, rfl⟩
abbrev main_v111 : Ref sig .tc := ⟨.hbm, 127, rfl⟩
abbrev main_cst_10 : Ref sig .tc := ⟨.hbm, 128, rfl⟩
abbrev main_v112 : Ref sig .tc := ⟨.hbm, 129, rfl⟩
abbrev main_v113 : Ref sig .tc := ⟨.hbm, 130, rfl⟩
abbrev main_cst_11 : Ref sig .tc := ⟨.hbm, 131, rfl⟩
abbrev main_v114 : Ref sig .tc := ⟨.hbm, 132, rfl⟩
abbrev main_v115 : Ref sig .tc := ⟨.hbm, 133, rfl⟩
abbrev main_v116 : Ref sig .tc := ⟨.hbm, 134, rfl⟩
abbrev main_v117 : Ref sig .tc := ⟨.hbm, 135, rfl⟩
abbrev main_v118 : Ref sig .tc := ⟨.hbm, 136, rfl⟩
abbrev main_v119 : Ref sig .tc := ⟨.hbm, 137, rfl⟩
abbrev main_v120 : Ref sig .tc := ⟨.hbm, 138, rfl⟩
abbrev main_v121 : Ref sig .tc := ⟨.hbm, 139, rfl⟩
abbrev main_v122 : Ref sig .tc := ⟨.hbm, 140, rfl⟩
abbrev main_v123 : Ref sig .tc := ⟨.hbm, 141, rfl⟩
abbrev main_v124 : Ref sig .tc := ⟨.hbm, 142, rfl⟩
abbrev main_v125 : Ref sig .tc := ⟨.hbm, 143, rfl⟩
abbrev main_v126 : Ref sig .tc := ⟨.hbm, 144, rfl⟩
abbrev main_v127 : Ref sig .tc := ⟨.hbm, 145, rfl⟩
abbrev main_v128 : Ref sig .tc := ⟨.hbm, 146, rfl⟩
abbrev main_v129 : Ref sig .tc := ⟨.hbm, 147, rfl⟩
abbrev main_v130 : Ref sig .tc := ⟨.hbm, 148, rfl⟩
abbrev main_v131 : Ref sig .tc := ⟨.hbm, 149, rfl⟩
abbrev main_v132 : Ref sig .tc := ⟨.hbm, 150, rfl⟩
abbrev main_v133 : Ref sig .tc := ⟨.hbm, 151, rfl⟩
abbrev main_v134 : Ref sig .tc := ⟨.hbm, 152, rfl⟩
abbrev main_v135 : Ref sig .tc := ⟨.hbm, 153, rfl⟩
abbrev main_v136 : Ref sig .tc := ⟨.hbm, 154, rfl⟩
abbrev main_v137 : Ref sig .tc := ⟨.hbm, 155, rfl⟩
abbrev main_v138 : Ref sig .tc := ⟨.hbm, 156, rfl⟩
abbrev main_v139 : Ref sig .tc := ⟨.hbm, 157, rfl⟩
abbrev main_cst_12 : Ref sig .tc := ⟨.hbm, 158, rfl⟩
abbrev main_v140 : Ref sig .tc := ⟨.hbm, 159, rfl⟩
abbrev main_v141 : Ref sig .tc := ⟨.hbm, 160, rfl⟩
abbrev main_v142 : Ref sig .tc := ⟨.hbm, 161, rfl⟩
abbrev main_v143 : Ref sig .tc := ⟨.hbm, 162, rfl⟩
abbrev main_v144 : Ref sig .tc := ⟨.hbm, 163, rfl⟩
abbrev main_v145 : Ref sig .tc := ⟨.hbm, 164, rfl⟩
abbrev main_v146 : Ref sig .tc := ⟨.hbm, 165, rfl⟩
abbrev main_v147 : Ref sig .tc := ⟨.hbm, 166, rfl⟩
abbrev main_v148 : Ref sig .tc := ⟨.hbm, 167, rfl⟩
abbrev main_v149 : Ref sig .tc := ⟨.hbm, 168, rfl⟩
abbrev main_v150 : Ref sig .tc := ⟨.hbm, 169, rfl⟩
abbrev main_v151 : Ref sig .tc := ⟨.hbm, 170, rfl⟩

abbrev nD : Nat := 1
abbrev τ : Topo := Topo.v7x

variable {F : FTy → Type} [FloatOps F]
-- ==== Proof.Spec.lean ====
module

public import Idealize.ShloMosaic.Lib.Pipeline.ValueKit
public import Idealize.ShloMosaic.Lib.Pointwise

@[expose] public section

noncomputable section

namespace Cert.Spec

open Idealize.ShloMosaic

/-- A row of 1024 features. -/
abbrev Row := Fin 1024 → EReal

/-- Root-mean-square normalisation of one row: `x / sqrt(mean x² + ε) · g`. -/
def rms (x g : Row) : Row := fun j =>
  x j * Ideal.rsqrt (Ideal.div (∑ k : Fin 1024, x k * x k) (Ideal.ofBits .f32 0x44800000#32)
    + Ideal.ofBits .f32 0x358637BD#32) * g j

/-- The square of the positive part. -/
def relu2 (a : EReal) : EReal := max a 0 * max a 0

/-- The hidden layer of the MLP: the squared positive part of the row times the first weight matrix. -/
def hidden (x : Row) (w1 : Fin 1024 → Fin 4096 → EReal) : Fin 4096 → EReal := fun f =>
  relu2 (∑ i : Fin 1024, x i * w1 i f)

/-- The squared-ReLU MLP of one row. -/
def mlp (x : Row) (w1 : Fin 1024 → Fin 4096 → EReal) (w2 : Fin 4096 → Fin 1024 → EReal) : Row := fun j =>
  ∑ f : Fin 4096, hidden x w1 f * w2 f j

/-- The residual stream after the mixer: `x + rms y`. -/
def mid (x y g1 : Row) : Row := fun j => x j + rms y g1 j

/-- The residual stream after the layer: `h + rms (mlp (rms h))` for `h = x + rms y`. -/
def tail (x y g1 g2 g3 : Row) (w1 : Fin 1024 → Fin 4096 → EReal) (w2 : Fin 4096 → Fin 1024 → EReal) : Row :=
  fun j => mid x y g1 j + rms (mlp (rms (mid x y g1) g2) w1 w2) g3 j

/-- The tanh form of GELU, the constants as printed. -/
def gelu (z : EReal) : EReal :=
  z * (Ideal.ofBits .f32 0x3F000000#32 * (1 + Ideal.tanh (Ideal.ofBits .f32 0x3F4C422A#32
    * (z + Ideal.ofBits .f32 0x3D372713#32 * (z * (z * z))))))

/-- The same with the cube multiplied from the left. -/
theorem gelu_eq (z : EReal) : gelu z = z * (Ideal.ofBits .f32 0x3F000000#32 * (1 + Ideal.tanh
    (Ideal.ofBits .f32 0x3F4C422A#32 * (z + Ideal.ofBits .f32 0x3D372713#32 * ((z * z) * z))))) := by
  rw [gelu, mul_comm z (z * z)]

/-- The S5 mixer's output row: `z · sigmoid(z W + b)` for `z = gelu(y + d·u)`. -/
def glu (yc u d b : Row) (w : Fin 1024 → Fin 1024 → EReal) : Row := fun j =>
  gelu (yc j + d j * u j) * Ideal.logistic ((∑ k : Fin 1024, gelu (yc k + d k * u k) * w k j) + b j)

/-- A sum over 4096 as the kernel adds it: four runs of 1024, in order. -/
theorem sum_four (f : Fin 4096 → EReal) :
    (((∑ k : Fin 1024, f ⟨(k : ℕ), by omega⟩) + ∑ k : Fin 1024, f ⟨1024 + (k : ℕ), by omega⟩)
        + ∑ k : Fin 1024, f ⟨2048 + (k : ℕ), by omega⟩) + ∑ k : Fin 1024, f ⟨3072 + (k : ℕ), by omega⟩
      = ∑ k : Fin 4096, f k := by
  rw [Fin.sum_univ_tiles 4 1024 rfl f, Fin.sum_univ_four]
  simp only [Fin.val_zero, Fin.val_one, Fin.val_two, Nat.zero_mul, Nat.zero_add, Nat.one_mul]
  rfl

end Cert.Spec

end
-- ==== Proof.S5Step.lean ====
/-
The S5 layer's single step: what the one grid point leaves in its three blocks, entry by entry.
-/
module

public import proofs.«01_k».proof.Proof.Spec
public import proofs.«01_k».proof.Proof.Gen.KernelIdeal.Value
public import Idealize.ShloMosaic.Lib.Claim

@[expose] public section

set_option maxRecDepth 16384

noncomputable section

namespace Cert.KernelIdeal.Pay

open Idealize.ShloMosaic Idealize.ShloMosaic.TcCoe Idealize.SL.Sem
open Cert.KernelIdeal Cert.KernelIdeal.Gen Cert.Spec

variable (x0 : Vec Ideal S8x32x128 .bf16) (x1 x2 : Vec Ideal S8x32x512 .f32) (x3 x4 : Vec Ideal S8x128x512 .bf16)
  (x5 x6 : Vec Ideal S8x512x128 .bf16) (x7 x8 : Vec Ideal S8x1x512 .f32)

/-- The real part of the new state: `a h + B u`, unit `k`, sample `r`, state `s`. -/
def hRe (k : Fin 8) (r : Fin 32) (s : Fin 512) : EReal :=
  (x7 (ix3 k 0 s) * x1 (ix3 k r s) - x8 (ix3 k 0 s) * x2 (ix3 k r s)) + ∑ l : Fin 128, x0 (ix3 k r l) * x3 (ix3 k l s)

/-- The imaginary part of the new state. -/
def hIm (k : Fin 8) (r : Fin 32) (s : Fin 512) : EReal :=
  (x7 (ix3 k 0 s) * x2 (ix3 k r s) + x8 (ix3 k 0 s) * x1 (ix3 k r s)) + ∑ l : Fin 128, x0 (ix3 k r l) * x4 (ix3 k l s)

/-- The output: the real part of `C h`. -/
def yOut (k : Fin 8) (r : Fin 32) (j : Fin 128) : EReal :=
  (∑ s : Fin 512, hRe x0 x1 x2 x3 x7 x8 k r s * x5 (ix3 k s j)) + ∑ s : Fin 512, hIm x0 x1 x2 x4 x7 x8 k r s * x6 (ix3 k s j)

/-- The eight stores of the state's real part. -/
theorem out10_at (y : S8x32x512.Idx) : out0_10 x0 x1 x2 x3 x4 x5 x6 x7 x8 y = hRe x0 x1 x2 x3 x7 x8 (y 0) (y 1) (y 2) := by
  unfold_out out0_10
  canon_tiles x h
  all_goals
    open_payloads
    pointwise [hRe]
    refine congrArg₂ (· + ·) (congrArg₂ (· - ·) (congrArg₂ (· * ·) (congrArg x7 ?_) (congrArg x1 ?_)) (congrArg₂ (· * ·) (congrArg x8 ?_) (congrArg x2 ?_))) (Finset.sum_congr rfl fun l _ => congrArg₂ (· * ·) (congrArg x0 ?_) (congrArg x3 ?_)) <;> blk_ext

/-- The eight stores of the state's imaginary part. -/
theorem out11_at (y : S8x32x512.Idx) : out0_11 x0 x1 x2 x3 x4 x5 x6 x7 x8 y = hIm x0 x1 x2 x4 x7 x8 (y 0) (y 1) (y 2) := by
  unfold_out out0_11
  canon_tiles x h
  all_goals
    open_payloads
    pointwise [hIm]
    refine congrArg₂ (· + ·) (congrArg₂ (· + ·) (congrArg₂ (· * ·) (congrArg x7 ?_) (congrArg x2 ?_)) (congrArg₂ (· * ·) (congrArg x8 ?_) (congrArg x1 ?_))) (Finset.sum_congr rfl fun l _ => congrArg₂ (· * ·) (congrArg x0 ?_) (congrArg x4 ?_)) <;> blk_ext

set_option maxHeartbeats 4000000 in
/-- The eight stores of the output. -/
theorem out9_at (y : S8x32x128.Idx) : out0_9 x0 x1 x2 x3 x4 x5 x6 x7 x8 y = yOut x0 x1 x2 x3 x4 x5 x6 x7 x8 (y 0) (y 1) (y 2) := by
  unfold_out out0_9
  canon_tiles x h
  all_goals
    open_payloads
    pointwise [yOut, hRe, hIm]
    refine congrArg₂ (· + ·) (Finset.sum_congr rfl fun s _ => congrArg₂ (· * ·) (congrArg₂ (· + ·) (congrArg₂ (· - ·) (congrArg₂ (· * ·) (congrArg x7 ?_) (congrArg x1 ?_)) (congrArg₂ (· * ·) (congrArg x8 ?_) (congrArg x2 ?_))) (Finset.sum_congr rfl fun l _ => congrArg₂ (· * ·) (congrArg x0 ?_) (congrArg x3 ?_))) (congrArg x5 ?_))
      (Finset.sum_congr rfl fun s _ => congrArg₂ (· * ·) (congrArg₂ (· + ·) (congrArg₂ (· + ·) (congrArg₂ (· * ·) (congrArg x7 ?_) (congrArg x2 ?_)) (congrArg₂ (· * ·) (congrArg x8 ?_) (congrArg x1 ?_))) (Finset.sum_congr rfl fun l _ => congrArg₂ (· * ·) (congrArg x0 ?_) (congrArg x4 ?_))) (congrArg x6 ?_)) <;> blk_ext

end Cert.KernelIdeal.Pay
-- ==== Proof.S5StepSpec.lean ====
/-
The S5 layer's single step as mathematics: the discretised operators of a group of 64 states, the new state and
the output, and the sum over a unit of eight groups in which all groups but one meet a zero.
-/
module

public import proofs.«01_k».proof.Proof.Spec

@[expose] public section

noncomputable section

namespace Cert.S5

open Idealize.ShloMosaic

variable (ar ai : Fin 64 → Fin 64 → EReal) (ldt : Fin 64 → EReal)
  (br bi : Fin 64 → Fin 64 → Fin 16 → EReal) (cr ci : Fin 64 → Fin 16 → Fin 64 → EReal)

/-- The modulus of `exp (a dt)`. -/
def mag (g n : Fin 64) : EReal := Ideal.exp (ar g n * Ideal.exp (ldt g))

/-- The real part of `abar = exp (a dt)`. -/
def aRe (g n : Fin 64) : EReal := mag ar ldt g n * Ideal.cos (ai g n * Ideal.exp (ldt g))

/-- The imaginary part of `abar`. -/
def aIm (g n : Fin 64) : EReal := mag ar ldt g n * Ideal.sin (ai g n * Ideal.exp (ldt g))

/-- The squared modulus of `a`. -/
def sq (g n : Fin 64) : EReal := ar g n * ar g n + ai g n * ai g n

/-- The real part of `(abar - 1) / a`. -/
def qRe (g n : Fin 64) : EReal :=
  Ideal.div ((aRe ar ai ldt g n - Ideal.ofBits .f32 0x3F800000#32) * ar g n + aIm ar ai ldt g n * ai g n) (sq ar ai g n)

/-- The imaginary part of `(abar - 1) / a`. -/
def qIm (g n : Fin 64) : EReal :=
  Ideal.div (aIm ar ai ldt g n * ar g n - (aRe ar ai ldt g n - Ideal.ofBits .f32 0x3F800000#32) * ai g n) (sq ar ai g n)

/-- The real part of the discretised input matrix. -/
def bRe (g n : Fin 64) (d : Fin 16) : EReal := qRe ar ai ldt g n * br g n d - qIm ar ai ldt g n * bi g n d

/-- The imaginary part of the discretised input matrix. -/
def bIm (g n : Fin 64) (d : Fin 16) : EReal := qRe ar ai ldt g n * bi g n d + qIm ar ai ldt g n * br g n d

/-- The real part of the new state of group `g`, from the old one (`hr`, `hi`) and the group's 16 inputs. -/
def hRe (hr hi : Fin 64 → Fin 64 → EReal) (v : Fin 64 → Fin 16 → EReal) (g n : Fin 64) : EReal :=
  aRe ar ai ldt g n * hr g n - aIm ar ai ldt g n * hi g n + ∑ d : Fin 16, v g d * bRe ar ai ldt br bi g n d

/-- The imaginary part of the new state. -/
def hIm (hr hi : Fin 64 → Fin 64 → EReal) (v : Fin 64 → Fin 16 → EReal) (g n : Fin 64) : EReal :=
  aRe ar ai ldt g n * hi g n + aIm ar ai ldt g n * hr g n + ∑ d : Fin 16, v g d * bIm ar ai ldt br bi g n d

/-- The output: the real part of `C h`. -/
def yRe (hr hi : Fin 64 → Fin 64 → EReal) (v : Fin 64 → Fin 16 → EReal) (g : Fin 64) (d : Fin 16) : EReal :=
  (∑ n : Fin 64, hRe ar ai ldt br bi hr hi v g n * cr g d n) + ∑ n : Fin 64, hIm ar ai ldt br bi hr hi v g n * -ci g d n

/-- A sum over `8 · n` terms, of which only those of block `q` are not zero, is the sum over that block. -/
theorem sum_block {n N : ℕ} (hN : 8 * n = N) (f : Fin N → EReal) (q : Fin 8) (g : Fin n → EReal)
    (h : ∀ (p : Fin 8) (e : Fin n) (hl : p.val * n + e.val < N), f ⟨p.val * n + e.val, hl⟩ = if p = q then g e else 0) :
    ∑ l : Fin N, f l = ∑ e : Fin n, g e := by
  rw [Fin.sum_univ_tiles 8 n hN f, Finset.sum_eq_single q]
  · exact Finset.sum_congr rfl fun e _ => (h q e _).trans (if_pos rfl)
  · intro p _ hp
    exact Finset.sum_eq_zero fun e _ => (h p e _).trans (if_neg hp)
  · intro hq
    exact absurd (Finset.mem_univ q) hq

end Cert.S5
-- ==== Proof.S5StepWin.lean ====
/-
The S5 layer's single step: the call's input windows as functions of the argument arrays.
-/
module

public import proofs.«01_k».proof.Proof.S5Step
public import proofs.«01_k».proof.Proof.S5StepSpec

@[expose] public section

set_option maxRecDepth 16384

noncomputable section

namespace Cert.KernelIdeal.Val

open Idealize.ShloMosaic Idealize.ShloMosaic.TcCoe Idealize.SL.Sem
open Cert.KernelIdeal Cert.KernelIdeal.Gen
open Idealize.ShloMosaic.Pipeline (Dat)

/-- An entry of the identity matrix, as the host writes it: two row numbers compared, the bit converted. -/
theorem eye_val (a b : ℕ) (ha : a < 8) (hb : b < 8) :
    FloatOps.uitofp (F := Ideal) FTy.f32 (IntOp.cmpi CmpIPredicate.eq (IntOp.addi (BitVec.ofNat 32 a) 0#32) (BitVec.ofNat 32 b))
      = if a = b then (1 : EReal) else 0 := by
  have key : ∀ a b : Fin 8, IntOp.cmpi CmpIPredicate.eq (IntOp.addi (BitVec.ofNat 32 a.val) 0#32) (BitVec.ofNat 32 b.val)
      = if a = b then 1#1 else 0#1 := by decide +kernel
  have e := key ⟨a, ha⟩ ⟨b, hb⟩
  simp only [Fin.mk.injEq] at e
  rw [e]
  split_ifs
  · show (((1#1 : BitVec 1).toNat : ℝ) : EReal) = 1
    norm_num
  · show (((0#1 : BitVec 1).toNat : ℝ) : EReal) = 0
    norm_num

variable (m : (ℓ : Loc nD τ sig) → Buf (Elt Ideal) ℓ)

/-- The index maps of the windows: one grid point, every window whole. -/
theorem idx : ∀ t : Fin cfg0.N, win0_0.index t = ![0, 0, 0] ∧ win0_1.index t = ![0, 0, 0] ∧ win0_2.index t = ![0, 0, 0]
    ∧ win0_3.index t = ![0, 0, 0] ∧ win0_4.index t = ![0, 0, 0] ∧ win0_5.index t = ![0, 0, 0] ∧ win0_6.index t = ![0, 0, 0]
    ∧ win0_7.index t = ![0, 0, 0] ∧ win0_8.index t = ![0, 0, 0] ∧ win0_9.index t = ![0, 0, 0] ∧ win0_10.index t = ![0, 0, 0]
    ∧ win0_11.index t = ![0, 0, 0] :=
  (by decide +kernel : ∀ t : Fin grid0.N, _)

/-- The group that lane `s` of unit `k` belongs to: 64 states each. -/
abbrev grp (k : Fin 8) (s : Fin 512) : Fin 64 := ⟨k.val * 8 + s.val / 64, by omega⟩

/-- The state a lane holds within its group. -/
abbrev st (s : Fin 512) : Fin 64 := ⟨s.val % 64, by omega⟩

/-- The argument arrays, as functions of group, state and input. -/
abbrev ar (c : Dev nD) : Fin 64 → Fin 64 → EReal := fun g n => m ((c : Thread nD τ).loc main_arg2) (ix3 0 g n)
abbrev ai (c : Dev nD) : Fin 64 → Fin 64 → EReal := fun g n => m ((c : Thread nD τ).loc main_arg3) (ix3 0 g n)
abbrev ldt (c : Dev nD) : Fin 64 → EReal := fun g => m ((c : Thread nD τ).loc main_arg4) (ix2 0 g)
abbrev br (c : Dev nD) : Fin 64 → Fin 64 → Fin 16 → EReal := fun g n d => m ((c : Thread nD τ).loc main_arg5) (ix4 0 g n d)
abbrev bi (c : Dev nD) : Fin 64 → Fin 64 → Fin 16 → EReal := fun g n d => m ((c : Thread nD τ).loc main_arg6) (ix4 0 g n d)
abbrev cr (c : Dev nD) : Fin 64 → Fin 16 → Fin 64 → EReal := fun g d n => m ((c : Thread nD τ).loc main_arg7) (ix4 0 g d n)
abbrev ci (c : Dev nD) : Fin 64 → Fin 16 → Fin 64 → EReal := fun g d n => m ((c : Thread nD τ).loc main_arg8) (ix4 0 g d n)
abbrev h0 (c : Dev nD) (p : Fin 2) (r : Fin 32) : Fin 64 → Fin 64 → EReal := fun g n => m ((c : Thread nD τ).loc main_arg1) (ix5 0 r p g n)
abbrev inp (c : Dev nD) (r : Fin 32) : Fin 64 → Fin 16 → EReal := fun g d => m ((c : Thread nD τ).loc main_arg0) (ix2 r ⟨g.val * 16 + d.val, by omega⟩)

/-- A value on the block diagonal, zero off it. -/
def diag (p q : ℕ) (v : EReal) : EReal := if p = q then v else 0

theorem diag_congr {p q : ℕ} {v w : EReal} (h : p = q → v = w) : diag p q v = diag p q w := by
  unfold diag
  split_ifs with e
  · exact h e
  · rfl

theorem eye_mul (x : EReal) (a b : ℕ) (ha : a < 8) (hb : b < 8) :
    x * FloatOps.uitofp (F := Ideal) FTy.f32 (IntOp.cmpi CmpIPredicate.eq (IntOp.addi (BitVec.ofNat 32 a) 0#32) (BitVec.ofNat 32 b))
      = diag a b x := by
  rw [eye_val a b ha hb]
  unfold diag
  split_ifs
  · exact mul_one x
  · exact mul_zero x

theorem diag_neg (p q : ℕ) (x : EReal) : -diag p q x = diag p q (-x) := by
  unfold diag
  split_ifs
  · rfl
  · exact neg_zero

theorem whole0 (c : Dev nD) (t : Fin cfg0.N) (k : Fin 8) (r : Fin 32) (l : Fin 128) : iblk m c 0 t (ix3 k r l) = V m c main_v98 (ix3 k r l) := by
  blk_ext [iblk, idx t]

theorem blk0 (c : Dev nD) (t : Fin cfg0.N) (k : Fin 8) (r : Fin 32) (l : Fin 128) : iblk m c 0 t (ix3 k r l)
    = inp m c r ⟨k.val * 8 + l.val / 16, by omega⟩ ⟨l.val % 16, by omega⟩ := by
  rw [whole0]
  entry_read
  pointwise
  blk_ext

theorem whole1 (c : Dev nD) (t : Fin cfg0.N) (k : Fin 8) (r : Fin 32) (s : Fin 512) : iblk m c 1 t (ix3 k r s) = V m c main_v103 (ix3 k r s) := by
  blk_ext [iblk, idx t]

theorem blk1 (c : Dev nD) (t : Fin cfg0.N) (k : Fin 8) (r : Fin 32) (s : Fin 512) : iblk m c 1 t (ix3 k r s)
    = h0 m c 0 r (grp k s) (st s) := by
  rw [whole1]
  entry_read
  pointwise

theorem whole2 (c : Dev nD) (t : Fin cfg0.N) (k : Fin 8) (r : Fin 32) (s : Fin 512) : iblk m c 2 t (ix3 k r s) = V m c main_v105 (ix3 k r s) := by
  blk_ext [iblk, idx t]

theorem blk2 (c : Dev nD) (t : Fin cfg0.N) (k : Fin 8) (r : Fin 32) (s : Fin 512) : iblk m c 2 t (ix3 k r s)
    = h0 m c 1 r (grp k s) (st s) := by
  rw [whole2]
  entry_read
  pointwise

theorem whole7 (c : Dev nD) (t : Fin cfg0.N) (k : Fin 8) (s : Fin 512) : iblk m c 7 t (ix3 k 0 s) = V m c main_v89 (ix3 k 0 s) := by
  blk_ext [iblk, idx t]

theorem blk7 (c : Dev nD) (t : Fin cfg0.N) (k : Fin 8) (s : Fin 512) : iblk m c 7 t (ix3 k 0 s)
    = Cert.S5.aRe (ar m c) (ai m c) (ldt m c) (grp k s) (st s) := by
  rw [whole7]
  entry_read
  pointwise [Cert.S5.aRe, Cert.S5.mag]

theorem whole8 (c : Dev nD) (t : Fin cfg0.N) (k : Fin 8) (s : Fin 512) : iblk m c 8 t (ix3 k 0 s) = V m c main_v90 (ix3 k 0 s) := by
  blk_ext [iblk, idx t]

theorem blk8 (c : Dev nD) (t : Fin cfg0.N) (k : Fin 8) (s : Fin 512) : iblk m c 8 t (ix3 k 0 s)
    = Cert.S5.aIm (ar m c) (ai m c) (ldt m c) (grp k s) (st s) := by
  rw [whole8]
  entry_read
  pointwise [Cert.S5.aIm, Cert.S5.mag]

theorem whole3 (c : Dev nD) (t : Fin cfg0.N) (k : Fin 8) (l : Fin 128) (s : Fin 512) : iblk m c 3 t (ix3 k l s) = V m c main_v91 (ix3 k l s) := by
  blk_ext [iblk, idx t]

theorem blk3 (c : Dev nD) (t : Fin cfg0.N) (k : Fin 8) (l : Fin 128) (s : Fin 512) : iblk m c 3 t (ix3 k l s)
    = diag (l.val / 16) (s.val / 64)
      (Cert.S5.bRe (ar m c) (ai m c) (ldt m c) (br m c) (bi m c) (grp k s) (st s) ⟨l.val % 16, by omega⟩) := by
  rw [whole3]
  entry_read
  pointwise [Cert.S5.bRe, Cert.S5.qRe, Cert.S5.qIm, Cert.S5.sq, Cert.S5.aRe, Cert.S5.aIm, Cert.S5.mag]
  refine (eye_mul _ _ _ (by omega) (by omega)).trans (diag_congr fun h => ?_)
  simp only [h]

theorem whole4 (c : Dev nD) (t : Fin cfg0.N) (k : Fin 8) (l : Fin 128) (s : Fin 512) : iblk m c 4 t (ix3 k l s) = V m c main_v92 (ix3 k l s) := by
  blk_ext [iblk, idx t]

theorem blk4 (c : Dev nD) (t : Fin cfg0.N) (k : Fin 8) (l : Fin 128) (s : Fin 512) : iblk m c 4 t (ix3 k l s)
    = diag (l.val / 16) (s.val / 64)
      (Cert.S5.bIm (ar m c) (ai m c) (ldt m c) (br m c) (bi m c) (grp k s) (st s) ⟨l.val % 16, by omega⟩) := by
  rw [whole4]
  entry_read
  pointwise [Cert.S5.bIm, Cert.S5.qRe, Cert.S5.qIm, Cert.S5.sq, Cert.S5.aRe, Cert.S5.aIm, Cert.S5.mag]
  refine (eye_mul _ _ _ (by omega) (by omega)).trans (diag_congr fun h => ?_)
  simp only [h]

theorem whole5 (c : Dev nD) (t : Fin cfg0.N) (k : Fin 8) (s : Fin 512) (l : Fin 128) : iblk m c 5 t (ix3 k s l) = V m c main_v93 (ix3 k s l) := by
  blk_ext [iblk, idx t]

theorem blk5 (c : Dev nD) (t : Fin cfg0.N) (k : Fin 8) (s : Fin 512) (l : Fin 128) : iblk m c 5 t (ix3 k s l)
    = diag (s.val / 64) (l.val / 16) (cr m c (grp k s) ⟨l.val % 16, by omega⟩ (st s)) := by
  rw [whole5]
  entry_read
  pointwise
  refine (eye_mul _ _ _ (by omega) (by omega)).trans ?_
  rfl

theorem whole6 (c : Dev nD) (t : Fin cfg0.N) (k : Fin 8) (s : Fin 512) (l : Fin 128) : iblk m c 6 t (ix3 k s l) = V m c main_v95 (ix3 k s l) := by
  blk_ext [iblk, idx t]

theorem blk6 (c : Dev nD) (t : Fin cfg0.N) (k : Fin 8) (s : Fin 512) (l : Fin 128) : iblk m c 6 t (ix3 k s l)
    = diag (s.val / 64) (l.val / 16) (-ci m c (grp k s) ⟨l.val % 16, by omega⟩ (st s)) := by
  rw [whole6]
  entry_read
  pointwise
  refine (congrArg Neg.neg (eye_mul _ _ _ (by omega) (by omega))).trans ?_
  exact diag_neg _ _ _

end Cert.KernelIdeal.Val
-- ==== Proof.S5StepFin.lean ====
/-
The S5 layer's single step: the three result arrays as functions of the argument arrays.
-/
module

public import proofs.«01_k».proof.Proof.S5StepWin

@[expose] public section

set_option maxRecDepth 16384

noncomputable section

namespace Cert.KernelIdeal.Val

open Idealize.ShloMosaic Idealize.ShloMosaic.TcCoe Idealize.SL.Sem
open Cert.KernelIdeal Cert.KernelIdeal.Gen
open Idealize.ShloMosaic.Pipeline (Dat)

variable (m : (ℓ : Loc nD τ sig) → Buf (Elt Ideal) ℓ)

/-- The new state's real part, lane by lane: the products off the group's block are with zeros. -/
theorem hRe_eq (c : Dev nD) (t : Fin cfg0.N) (k : Fin 8) (r : Fin 32) (s : Fin 512) :
    Pay.hRe (iblk m c 0 t) (iblk m c 1 t) (iblk m c 2 t) (iblk m c 3 t) (iblk m c 7 t) (iblk m c 8 t) k r s = Cert.S5.hRe (ar m c) (ai m c) (ldt m c) (br m c) (bi m c) (h0 m c 0 r) (h0 m c 1 r) (inp m c r) (grp k s) (st s) := by
  unfold Pay.hRe Cert.S5.hRe
  rw [blk7, blk8, blk1, blk2]
  refine congrArg₂ (· + ·) rfl ?_
  refine Cert.S5.sum_block (n := 16) (by norm_num) _ ⟨s.val / 64, by omega⟩
    (fun d => inp m c r (grp k s) d * Cert.S5.bRe (ar m c) (ai m c) (ldt m c) (br m c) (bi m c) (grp k s) (st s) d) ?_
  intro p e hl
  rw [blk0, blk3]
  unfold diag
  have hp : (p.val * 16 + e.val) / 16 = p.val := by omega
  have he : (p.val * 16 + e.val) % 16 = e.val := by omega
  simp only [hp, he]
  by_cases h : p.val = s.val / 64
  · rw [if_pos h, if_pos (Fin.ext h)]
    simp only [h]
  · rw [if_neg h, if_neg (fun e => h (congrArg Fin.val e)), mul_zero]

/-- The new state's imaginary part. -/
theorem hIm_eq (c : Dev nD) (t : Fin cfg0.N) (k : Fin 8) (r : Fin 32) (s : Fin 512) :
    Pay.hIm (iblk m c 0 t) (iblk m c 1 t) (iblk m c 2 t) (iblk m c 4 t) (iblk m c 7 t) (iblk m c 8 t) k r s = Cert.S5.hIm (ar m c) (ai m c) (ldt m c) (br m c) (bi m c) (h0 m c 0 r) (h0 m c 1 r) (inp m c r) (grp k s) (st s) := by
  unfold Pay.hIm Cert.S5.hIm
  rw [blk7, blk8, blk1, blk2]
  refine congrArg₂ (· + ·) rfl ?_
  refine Cert.S5.sum_block (n := 16) (by norm_num) _ ⟨s.val / 64, by omega⟩
    (fun d => inp m c r (grp k s) d * Cert.S5.bIm (ar m c) (ai m c) (ldt m c) (br m c) (bi m c) (grp k s) (st s) d) ?_
  intro p e hl
  rw [blk0, blk4]
  unfold diag
  have hp : (p.val * 16 + e.val) / 16 = p.val := by omega
  have he : (p.val * 16 + e.val) % 16 = e.val := by omega
  simp only [hp, he]
  by_cases h : p.val = s.val / 64
  · rw [if_pos h, if_pos (Fin.ext h)]
    simp only [h]
  · rw [if_neg h, if_neg (fun e => h (congrArg Fin.val e)), mul_zero]

/-- One of the two sums of the output: of the unit's 512 states only the group's 64 meet an entry of `C`. -/
theorem out_sum (k : Fin 8) (j : Fin 128) (h : Fin 64 → Fin 64 → EReal) (w : Fin 64 → Fin 16 → Fin 64 → EReal) :
    (∑ s : Fin 512, h (grp k s) (st s) * diag (s.val / 64) (j.val / 16) (w (grp k s) ⟨j.val % 16, by omega⟩ (st s)))
      = ∑ n : Fin 64, h ⟨k.val * 8 + j.val / 16, by omega⟩ n
          * w ⟨k.val * 8 + j.val / 16, by omega⟩ ⟨j.val % 16, by omega⟩ n := by
  refine Cert.S5.sum_block (n := 64) (by norm_num) _ ⟨j.val / 16, by omega⟩ _ ?_
  intro p e hl
  unfold diag
  have hp : (p.val * 64 + e.val) / 64 = p.val := by omega
  have he : (p.val * 64 + e.val) % 64 = e.val := by omega
  simp only [grp, st, hp, he]
  by_cases h : p.val = j.val / 16
  · rw [if_pos h, if_pos (Fin.ext h)]
    simp only [h]
  · rw [if_neg h, if_neg (fun e => h (congrArg Fin.val e)), mul_zero]

/-- The output, lane by lane. -/
theorem yOut_eq (c : Dev nD) (t : Fin cfg0.N) (k : Fin 8) (r : Fin 32) (j : Fin 128) :
    Pay.yOut (iblk m c 0 t) (iblk m c 1 t) (iblk m c 2 t) (iblk m c 3 t) (iblk m c 4 t) (iblk m c 5 t) (iblk m c 6 t) (iblk m c 7 t) (iblk m c 8 t) k r j
      = Cert.S5.yRe (ar m c) (ai m c) (ldt m c) (br m c) (bi m c) (cr m c) (ci m c) (h0 m c 0 r) (h0 m c 1 r) (inp m c r) ⟨k.val * 8 + j.val / 16, by omega⟩ ⟨j.val % 16, by omega⟩ := by
  unfold Pay.yOut Cert.S5.yRe
  simp only [hRe_eq, hIm_eq, blk5, blk6]
  exact congrArg₂ (· + ·) (out_sum k j (fun g n => Cert.S5.hRe (ar m c) (ai m c) (ldt m c) (br m c) (bi m c) (h0 m c 0 r) (h0 m c 1 r) (inp m c r) g n) (cr m c))
    (out_sum k j (fun g n => Cert.S5.hIm (ar m c) (ai m c) (ldt m c) (br m c) (bi m c) (h0 m c 0 r) (h0 m c 1 r) (inp m c r) g n) (fun g d n => -ci m c g d n))

/-- The array a result holds, at unit `k`, sample `r`, lane `s`. -/
def yArr (c : Dev nD) (k : Fin 8) (r : Fin 32) (s : Fin 128) : EReal :=
  Cert.S5.yRe (ar m c) (ai m c) (ldt m c) (br m c) (bi m c) (cr m c) (ci m c) (h0 m c 0 r) (h0 m c 1 r) (inp m c r) ⟨k.val * 8 + s.val / 16, by omega⟩ ⟨s.val % 16, by omega⟩

/-- The array a result holds, at unit `k`, sample `r`, lane `s`. -/
def rArr (c : Dev nD) (k : Fin 8) (r : Fin 32) (s : Fin 512) : EReal :=
  Cert.S5.hRe (ar m c) (ai m c) (ldt m c) (br m c) (bi m c) (h0 m c 0 r) (h0 m c 1 r) (inp m c r) (grp k s) (st s)

/-- The array a result holds, at unit `k`, sample `r`, lane `s`. -/
def iArr (c : Dev nD) (k : Fin 8) (r : Fin 32) (s : Fin 512) : EReal :=
  Cert.S5.hIm (ar m c) (ai m c) (ldt m c) (br m c) (bi m c) (h0 m c 0 r) (h0 m c 1 r) (inp m c r) (grp k s) (st s)

set_option maxHeartbeats 1000000 in
/-- Result 1 of the call after the run. -/
theorem final9 (c : Dev nD) : (dats m 0 c).arrAt 9 (cfgs 0).N = fun i : S8x32x128.Idx => yArr m c (i 0) (i 1) (i 2) := by
  refine (dats m 0 c).arrAt_eq_of_covers 9 _ (by decide +kernel) fun t _ y => ?_
  blk_simp
  rw [after0_9]
  idx_vars y
  have hi : ((View.whole main_v106_0).slice (win0_9.rect t)).emb (ix3 y0 y1 y2) = ix3 y0 y1 y2 := by blk_ext [idx t]
  refine (Pay.out9_at _ _ _ _ _ _ _ _ _ _).trans ?_
  refine (yOut_eq m c t y0 y1 y2 : _ = yArr m c y0 y1 y2).trans ?_
  exact (congrArg (fun i : S8x32x128.Idx => yArr m c (i 0) (i 1) (i 2)) hi).symm

set_option maxHeartbeats 1000000 in
/-- Result 2 of the call after the run. -/
theorem final10 (c : Dev nD) : (dats m 0 c).arrAt 10 (cfgs 0).N = fun i : S8x32x512.Idx => rArr m c (i 0) (i 1) (i 2) := by
  refine (dats m 0 c).arrAt_eq_of_covers 10 _ (by decide +kernel) fun t _ y => ?_
  blk_simp
  rw [after0_10]
  idx_vars y
  have hi : ((View.whole main_v106_1).slice (win0_10.rect t)).emb (ix3 y0 y1 y2) = ix3 y0 y1 y2 := by blk_ext [idx t]
  refine (Pay.out10_at _ _ _ _ _ _ _ _ _ _).trans ?_
  refine (hRe_eq m c t y0 y1 y2 : _ = rArr m c y0 y1 y2).trans ?_
  exact (congrArg (fun i : S8x32x512.Idx => rArr m c (i 0) (i 1) (i 2)) hi).symm

set_option maxHeartbeats 1000000 in
/-- Result 3 of the call after the run. -/
theorem final11 (c : Dev nD) : (dats m 0 c).arrAt 11 (cfgs 0).N = fun i : S8x32x512.Idx => iArr m c (i 0) (i 1) (i 2) := by
  refine (dats m 0 c).arrAt_eq_of_covers 11 _ (by decide +kernel) fun t _ y => ?_
  blk_simp
  rw [after0_11]
  idx_vars y
  have hi : ((View.whole main_v106_2).slice (win0_11.rect t)).emb (ix3 y0 y1 y2) = ix3 y0 y1 y2 := by blk_ext [idx t]
  refine (Pay.out11_at _ _ _ _ _ _ _ _ _ _).trans ?_
  refine (hIm_eq m c t y0 y1 y2 : _ = iArr m c y0 y1 y2).trans ?_
  exact (congrArg (fun i : S8x32x512.Idx => iArr m c (i 0) (i 1) (i 2)) hi).symm

end Cert.KernelIdeal.Val
-- ==== Proof.S5StepRef.lean ====
/-
The reference of the S5 layer's single step, entry by entry.
-/
module

public import proofs.«01_k».proof.Proof.S5StepSpec
public import proofs.«01_k».proof.Proof.Gen.ReferenceIdeal.Read

@[expose] public section

set_option maxRecDepth 16384

noncomputable section

namespace Cert.ReferenceIdeal.Rows

open Idealize.ShloMosaic Idealize.ShloMosaic.TcCoe Idealize.SL.Sem
open Cert.ReferenceIdeal Cert.ReferenceIdeal.Read

variable (x0 : FVec Ideal S32x1024 .f32) (x1 : FVec Ideal S1x32x2x64x64 .f32) (x2 x3 : FVec Ideal S1x64x64 .f32)
  (x4 : FVec Ideal S1x64 .f32) (x5 x6 : FVec Ideal S1x64x64x16 .f32) (x7 x8 : FVec Ideal S1x64x16x64 .f32)

/-- The discretised transition, its real and imaginary part, and the discretised input matrix. -/
theorem aRe_at (g n : Fin 64) : val_main_v12 (F := Ideal) x2 x3 x4 (ix2 g n)
    = Cert.S5.aRe (fun g n => x2 (ix3 0 g n)) (fun g n => x3 (ix3 0 g n)) (fun g => x4 (ix2 0 g)) g n := by
  pointwise! [val_main_v12, val_main_v11, val_main_v10, val_main_v9, val_main_v8, val_main_v7, val_main_v6, val_main_v5, val_main_v4, val_main_v3, val_main_v2, val_main_v1, val_main_v0, Cert.S5.aRe, Cert.S5.mag]

theorem aIm_at (g n : Fin 64) : val_main_v16 (F := Ideal) x2 x3 x4 (ix2 g n)
    = Cert.S5.aIm (fun g n => x2 (ix3 0 g n)) (fun g n => x3 (ix3 0 g n)) (fun g => x4 (ix2 0 g)) g n := by
  pointwise! [val_main_v16, val_main_v15, val_main_v14, val_main_v13, val_main_v12, val_main_v11, val_main_v10, val_main_v9, val_main_v8, val_main_v7, val_main_v6, val_main_v5, val_main_v4, val_main_v3, val_main_v2, val_main_v1, val_main_v0, Cert.S5.aIm, Cert.S5.mag]

theorem bRe_at (g n : Fin 64) (d : Fin 16) : val_main_v40 (F := Ideal) x2 x3 x4 x5 x6 (ix3 g n d)
    = Cert.S5.bRe (fun g n => x2 (ix3 0 g n)) (fun g n => x3 (ix3 0 g n)) (fun g => x4 (ix2 0 g))
      (fun g n d => x5 (ix4 0 g n d)) (fun g n d => x6 (ix4 0 g n d)) g n d := by
  pointwise! [val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, Cert.S5.bRe, Cert.S5.bIm, Cert.S5.qRe, Cert.S5.qIm, Cert.S5.sq, Cert.S5.aRe, Cert.S5.aIm, Cert.S5.mag]

theorem bIm_at (g n : Fin 64) (d : Fin 16) : val_main_v49 (F := Ideal) x2 x3 x4 x5 x6 (ix3 g n d)
    = Cert.S5.bIm (fun g n => x2 (ix3 0 g n)) (fun g n => x3 (ix3 0 g n)) (fun g => x4 (ix2 0 g))
      (fun g n d => x5 (ix4 0 g n d)) (fun g n d => x6 (ix4 0 g n d)) g n d := by
  pointwise! [val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, Cert.S5.bRe, Cert.S5.bIm, Cert.S5.qRe, Cert.S5.qIm, Cert.S5.sq, Cert.S5.aRe, Cert.S5.aIm, Cert.S5.mag]

/-- The new state's real part. -/
theorem hRe_at (r : Fin 32) (g n : Fin 64) : val_main_v63 (F := Ideal) x0 x1 x2 x3 x4 x5 x6 (ix3 r g n)
    = Cert.S5.hRe (fun g n => x2 (ix3 0 g n)) (fun g n => x3 (ix3 0 g n)) (fun g => x4 (ix2 0 g))
      (fun g n d => x5 (ix4 0 g n d)) (fun g n d => x6 (ix4 0 g n d)) (fun g n => x1 (ix5 0 r 0 g n)) (fun g n => x1 (ix5 0 r 1 g n))
      (fun g d => x0 (ix2 r ⟨g.val * 16 + d.val, by omega⟩)) g n := by
  unfold Cert.S5.hRe
  simp only [← aRe_at, ← aIm_at, ← bRe_at]
  pointwise! [val_main_v63, val_main_v62, val_main_v61, val_main_v60, val_main_v59, val_main_v58, val_main_v57, val_main_v56, val_main_v55, val_main_v54, val_main_v53, val_main_v52, val_main_v51, val_main_v50, val_main_v0]

/-- The new state's imaginary part. -/
theorem hIm_at (r : Fin 32) (g n : Fin 64) : val_main_v73 (F := Ideal) x0 x1 x2 x3 x4 x5 x6 (ix3 r g n)
    = Cert.S5.hIm (fun g n => x2 (ix3 0 g n)) (fun g n => x3 (ix3 0 g n)) (fun g => x4 (ix2 0 g))
      (fun g n d => x5 (ix4 0 g n d)) (fun g n d => x6 (ix4 0 g n d)) (fun g n => x1 (ix5 0 r 0 g n)) (fun g n => x1 (ix5 0 r 1 g n))
      (fun g d => x0 (ix2 r ⟨g.val * 16 + d.val, by omega⟩)) g n := by
  unfold Cert.S5.hIm
  simp only [← aRe_at, ← aIm_at, ← bIm_at]
  pointwise! [val_main_v73, val_main_v72, val_main_v71, val_main_v70, val_main_v69, val_main_v68, val_main_v67, val_main_v66, val_main_v65, val_main_v64, val_main_v53, val_main_v52, val_main_v51, val_main_v50, val_main_v0]

/-- The output. -/
theorem y_at (r : Fin 32) (g : Fin 64) (d : Fin 16) : val_main_v81 (F := Ideal) x0 x1 x2 x3 x4 x5 x6 x7 x8 (ix3 r g d)
    = Cert.S5.yRe (fun g n => x2 (ix3 0 g n)) (fun g n => x3 (ix3 0 g n)) (fun g => x4 (ix2 0 g))
      (fun g n d => x5 (ix4 0 g n d)) (fun g n d => x6 (ix4 0 g n d)) (fun g d n => x7 (ix4 0 g d n)) (fun g d n => x8 (ix4 0 g d n))
      (fun g n => x1 (ix5 0 r 0 g n)) (fun g n => x1 (ix5 0 r 1 g n)) (fun g d => x0 (ix2 r ⟨g.val * 16 + d.val, by omega⟩)) g d := by
  unfold Cert.S5.yRe
  simp only [← hRe_at, ← hIm_at]
  pointwise! [val_main_v81, val_main_v80, val_main_v79, val_main_v78, val_main_v77, val_main_v76, val_main_v75, val_main_v74]

/-- The layouts of the three results: unit of eight groups, sample, lane. -/
theorem res_h (r : Fin 32) (k : Fin 8) (s : Fin 512) : val_main_v85 (F := Ideal) x0 x1 x2 x3 x4 x5 x6 (ix3 k r s)
    = val_main_v63 (F := Ideal) x0 x1 x2 x3 x4 x5 x6 (ix3 r ⟨k.val * 8 + s.val / 64, by omega⟩ ⟨s.val % 64, by omega⟩) := by
  pointwise! [val_main_v85, val_main_v84]

theorem res_hi (r : Fin 32) (k : Fin 8) (s : Fin 512) : val_main_v87 (F := Ideal) x0 x1 x2 x3 x4 x5 x6 (ix3 k r s)
    = val_main_v73 (F := Ideal) x0 x1 x2 x3 x4 x5 x6 (ix3 r ⟨k.val * 8 + s.val / 64, by omega⟩ ⟨s.val % 64, by omega⟩) := by
  pointwise! [val_main_v87, val_main_v86]

theorem res_y (r : Fin 32) (k : Fin 8) (j : Fin 128) : val_main_v83 (F := Ideal) x0 x1 x2 x3 x4 x5 x6 x7 x8 (ix3 k r j)
    = val_main_v81 (F := Ideal) x0 x1 x2 x3 x4 x5 x6 x7 x8 (ix3 r ⟨k.val * 8 + j.val / 16, by omega⟩ ⟨j.val % 16, by omega⟩) := by
  pointwise! [val_main_v83, val_main_v82]

end Cert.ReferenceIdeal.Rows
-- ==== Proof.S5StepClaim.lean ====
/-
The S5 layer's single step and its reference end with the same three arrays.
-/
module

public import proofs.«01_k».proof.Proof.S5StepFin
public import proofs.«01_k».proof.Proof.S5StepRef
public import proofs.«01_k».proof.Defs
public import proofs.«01_k».proof.Proof.Gen.ReferenceIdeal.Run
public import Idealize.ShloMosaic.Lib.Claim

@[expose] public section

set_option maxRecDepth 16384

noncomputable section

namespace Cert.S5StepClaim

open Idealize.ShloMosaic Idealize.ShloMosaic.TcCoe Idealize.SL.Sem

variable (m : (ℓ : Loc KernelIdeal.nD KernelIdeal.τ KernelIdeal.sig) → Buf (Elt Ideal) ℓ) (c : Dev KernelIdeal.nD)

/-- The reference's result, read from the kernel's arguments, is the kernel's array. -/
theorem ref_y : ReferenceIdeal.Read.val_main_v83 (F := Ideal) (m ((c : Thread KernelIdeal.nD KernelIdeal.τ).loc KernelIdeal.main_arg0)) (m ((c : Thread KernelIdeal.nD KernelIdeal.τ).loc KernelIdeal.main_arg1)) (m ((c : Thread KernelIdeal.nD KernelIdeal.τ).loc KernelIdeal.main_arg2)) (m ((c : Thread KernelIdeal.nD KernelIdeal.τ).loc KernelIdeal.main_arg3)) (m ((c : Thread KernelIdeal.nD KernelIdeal.τ).loc KernelIdeal.main_arg4)) (m ((c : Thread KernelIdeal.nD KernelIdeal.τ).loc KernelIdeal.main_arg5)) (m ((c : Thread KernelIdeal.nD KernelIdeal.τ).loc KernelIdeal.main_arg6)) (m ((c : Thread KernelIdeal.nD KernelIdeal.τ).loc KernelIdeal.main_arg7)) (m ((c : Thread KernelIdeal.nD KernelIdeal.τ).loc KernelIdeal.main_arg8))
      = fun i : KernelIdeal.S8x32x128.Idx => KernelIdeal.Val.yArr m c (i 0) (i 1) (i 2) := by
  funext i
  idx_vars i
  exact (ReferenceIdeal.Rows.res_y _ _ _ _ _ _ _ _ _ _ _ _).trans (ReferenceIdeal.Rows.y_at _ _ _ _ _ _ _ _ _ _ _ _)

/-- The reference's result, read from the kernel's arguments, is the kernel's array. -/
theorem ref_re : ReferenceIdeal.Read.val_main_v85 (F := Ideal) (m ((c : Thread KernelIdeal.nD KernelIdeal.τ).loc KernelIdeal.main_arg0)) (m ((c : Thread KernelIdeal.nD KernelIdeal.τ).loc KernelIdeal.main_arg1)) (m ((c : Thread KernelIdeal.nD KernelIdeal.τ).loc KernelIdeal.main_arg2)) (m ((c : Thread KernelIdeal.nD KernelIdeal.τ).loc KernelIdeal.main_arg3)) (m ((c : Thread KernelIdeal.nD KernelIdeal.τ).loc KernelIdeal.main_arg4)) (m ((c : Thread KernelIdeal.nD KernelIdeal.τ).loc KernelIdeal.main_arg5)) (m ((c : Thread KernelIdeal.nD KernelIdeal.τ).loc KernelIdeal.main_arg6))
      = fun i : KernelIdeal.S8x32x512.Idx => KernelIdeal.Val.rArr m c (i 0) (i 1) (i 2) := by
  funext i
  idx_vars i
  exact (ReferenceIdeal.Rows.res_h _ _ _ _ _ _ _ _ _ _).trans (ReferenceIdeal.Rows.hRe_at _ _ _ _ _ _ _ _ _ _)

/-- The reference's result, read from the kernel's arguments, is the kernel's array. -/
theorem ref_im : ReferenceIdeal.Read.val_main_v87 (F := Ideal) (m ((c : Thread KernelIdeal.nD KernelIdeal.τ).loc KernelIdeal.main_arg0)) (m ((c : Thread KernelIdeal.nD KernelIdeal.τ).loc KernelIdeal.main_arg1)) (m ((c : Thread KernelIdeal.nD KernelIdeal.τ).loc KernelIdeal.main_arg2)) (m ((c : Thread KernelIdeal.nD KernelIdeal.τ).loc KernelIdeal.main_arg3)) (m ((c : Thread KernelIdeal.nD KernelIdeal.τ).loc KernelIdeal.main_arg4)) (m ((c : Thread KernelIdeal.nD KernelIdeal.τ).loc KernelIdeal.main_arg5)) (m ((c : Thread KernelIdeal.nD KernelIdeal.τ).loc KernelIdeal.main_arg6))
      = fun i : KernelIdeal.S8x32x512.Idx => KernelIdeal.Val.iArr m c (i 0) (i 1) (i 2) := by
  funext i
  idx_vars i
  exact (ReferenceIdeal.Rows.res_hi _ _ _ _ _ _ _ _ _ _).trans (ReferenceIdeal.Rows.hIm_at _ _ _ _ _ _ _ _ _ _)

set_option maxHeartbeats 4000000 in
/-- Both programs leave the same three arrays. -/
theorem algebraic : Cert.algebraic_KernelIdeal_ReferenceIdeal := by
  pair_intro
  · run_from Cert.KernelIdeal.Gen.run_main m g
  · run_from Cert.ReferenceIdeal.Value.run m' g'
    · obtain ⟨h0, h1, h2, h3, h4, h5, h6, h7, h8⟩ := hagree c
      refine Eq.trans (b := ReferenceIdeal.Read.val_main_v83 (F := Ideal) (m' ((c.tc : Thread ReferenceIdeal.nD ReferenceIdeal.τ).loc ReferenceIdeal.main_arg0)) (m' ((c.tc : Thread ReferenceIdeal.nD ReferenceIdeal.τ).loc ReferenceIdeal.main_arg1)) (m' ((c.tc : Thread ReferenceIdeal.nD ReferenceIdeal.τ).loc ReferenceIdeal.main_arg2)) (m' ((c.tc : Thread ReferenceIdeal.nD ReferenceIdeal.τ).loc ReferenceIdeal.main_arg3)) (m' ((c.tc : Thread ReferenceIdeal.nD ReferenceIdeal.τ).loc ReferenceIdeal.main_arg4)) (m' ((c.tc : Thread ReferenceIdeal.nD ReferenceIdeal.τ).loc ReferenceIdeal.main_arg5)) (m' ((c.tc : Thread ReferenceIdeal.nD ReferenceIdeal.τ).loc ReferenceIdeal.main_arg6)) (m' ((c.tc : Thread ReferenceIdeal.nD ReferenceIdeal.τ).loc ReferenceIdeal.main_arg7)) (m' ((c.tc : Thread ReferenceIdeal.nD ReferenceIdeal.τ).loc ReferenceIdeal.main_arg8))) ?_ ?_
      · exact ReferenceIdeal.Read.val_main_v83_eq m' c
      rw [h0, h1, h2, h3, h4, h5, h6, h7, h8, ref_y]
      exact (KernelIdeal.Val.final9 m c).symm
    · obtain ⟨h0, h1, h2, h3, h4, h5, h6, h7, h8⟩ := hagree c
      refine Eq.trans (b := ReferenceIdeal.Read.val_main_v85 (F := Ideal) (m' ((c.tc : Thread ReferenceIdeal.nD ReferenceIdeal.τ).loc ReferenceIdeal.main_arg0)) (m' ((c.tc : Thread ReferenceIdeal.nD ReferenceIdeal.τ).loc ReferenceIdeal.main_arg1)) (m' ((c.tc : Thread ReferenceIdeal.nD ReferenceIdeal.τ).loc ReferenceIdeal.main_arg2)) (m' ((c.tc : Thread ReferenceIdeal.nD ReferenceIdeal.τ).loc ReferenceIdeal.main_arg3)) (m' ((c.tc : Thread ReferenceIdeal.nD ReferenceIdeal.τ).loc ReferenceIdeal.main_arg4)) (m' ((c.tc : Thread ReferenceIdeal.nD ReferenceIdeal.τ).loc ReferenceIdeal.main_arg5)) (m' ((c.tc : Thread ReferenceIdeal.nD ReferenceIdeal.τ).loc ReferenceIdeal.main_arg6))) ?_ ?_
      · exact ReferenceIdeal.Read.val_main_v85_eq m' c
      rw [h0, h1, h2, h3, h4, h5, h6, ref_re]
      exact (KernelIdeal.Val.final10 m c).symm
    · obtain ⟨h0, h1, h2, h3, h4, h5, h6, h7, h8⟩ := hagree c
      refine Eq.trans (b := ReferenceIdeal.Read.val_main_v87 (F := Ideal) (m' ((c.tc : Thread ReferenceIdeal.nD ReferenceIdeal.τ).loc ReferenceIdeal.main_arg0)) (m' ((c.tc : Thread ReferenceIdeal.nD ReferenceIdeal.τ).loc ReferenceIdeal.main_arg1)) (m' ((c.tc : Thread ReferenceIdeal.nD ReferenceIdeal.τ).loc ReferenceIdeal.main_arg2)) (m' ((c.tc : Thread ReferenceIdeal.nD ReferenceIdeal.τ).loc ReferenceIdeal.main_arg3)) (m' ((c.tc : Thread ReferenceIdeal.nD ReferenceIdeal.τ).loc ReferenceIdeal.main_arg4)) (m' ((c.tc : Thread ReferenceIdeal.nD ReferenceIdeal.τ).loc ReferenceIdeal.main_arg5)) (m' ((c.tc : Thread ReferenceIdeal.nD ReferenceIdeal.τ).loc ReferenceIdeal.main_arg6))) ?_ ?_
      · exact ReferenceIdeal.Read.val_main_v87_eq m' c
      rw [h0, h1, h2, h3, h4, h5, h6, ref_im]
      exact (KernelIdeal.Val.final11 m c).symm

end Cert.S5StepClaim
-- ==== Proof.S5TailPay.lean ====
module

public import proofs.«01_k».proof.Proof.Spec
public import proofs.«01_k».proof.Proof.Gen.Kernel2Ideal.Skeleton

@[expose] public section

set_option maxRecDepth 16384

noncomputable section

open Idealize.ShloMosaic Idealize.ShloMosaic.TcCoe Idealize.SL.Sem

namespace Cert.Kernel2Ideal.Pay

open Cert.Kernel2Ideal Cert.Kernel2Ideal.Gen Cert.Spec

/-- The mixer's block, row by row, is the gated linear unit of the row. -/
theorem glu_at (v0 : Vec Ideal S512x1024 .f32) (v2 : Vec Ideal S1x1024 .f32) (v4 : Vec Ideal S512x1024 .f32)
    (v22 : Vec Ideal S1024x1024 .bf16) (v25 : Vec Ideal S1x1024 .f32) (r : Fin 512) (j : Fin 1024) :
    k0_pay3 v0 v2 v4 v22 v25 (ix2 r j)
      = glu (fun k => v0 (ix2 r k)) (fun k => v4 (ix2 r k)) (fun k => v2 (ix2 0 k)) (fun k => v25 (ix2 0 k))
          (fun k l => v22 (ix2 k l)) j := by
  pointwise [k0_pay3, glu, gelu]

/-- The residual stream after the mixer, row by row. -/
theorem mid_at (v0 : Vec Ideal S512x1024 .f32) (v2 : Vec Ideal S1x1024 .f32) (v4 : Vec Ideal S512x1024 .f32)
    (v22 : Vec Ideal S1024x1024 .bf16) (v25 : Vec Ideal S1x1024 .f32) (v31 : Vec Ideal S512x1024 .f32)
    (v32 : Vec Ideal S1x1024 .f32) (r : Fin 512) (j : Fin 1024) :
    k0_pay7 (k0_pay3 v0 v2 v4 v22 v25) v31 (k0_pay4 v32) (k0_pay5 v0 v2 v4 v22 v25) (k0_pay6 (F := Ideal)) (ix2 r j)
      = mid (fun k => v31 (ix2 r k))
          (glu (fun k => v0 (ix2 r k)) (fun k => v4 (ix2 r k)) (fun k => v2 (ix2 0 k)) (fun k => v25 (ix2 0 k))
            (fun k l => v22 (ix2 k l))) (fun k => v32 (ix2 0 k)) j := by
  pointwise [k0_pay7, k0_pay4, k0_pay5, k0_pay6, glu_at, mid, rms]

/-- The MLP's normalised input, row by row, over any block of the residual stream. -/
theorem norm_at (v30 : FVec Ideal S512x1024 .f32) (v31 : Vec Ideal S512x1024 .f32) (v33 : FVec Ideal S1x1024 .f32)
    (v36 v37 : FVec Ideal S512x1 .f32) (v47 : Vec Ideal S1x1024 .f32) (r : Fin 512) (j : Fin 1024) :
    k0_pay8 v30 v31 v33 v36 v37 v47 (ix2 r j)
      = rms (fun k => k0_pay7 v30 v31 v33 v36 v37 (ix2 r k)) (fun k => v47 (ix2 0 k)) j := by
  pointwise [k0_pay8, rms]

/-- The first quarter of the MLP. -/
theorem part0_at (v30 : FVec Ideal S512x1024 .f32) (v31 : Vec Ideal S512x1024 .f32) (v33 : FVec Ideal S1x1024 .f32)
    (v36 v37 : FVec Ideal S512x1 .f32) (v47 : Vec Ideal S1x1024 .f32) (a b : Vec Ideal S1024x1024 .bf16)
    (r : Fin 512) (j : Fin 1024) :
    k0_pay9 v30 v31 v33 v36 v37 v47 a b (ix2 r j)
      = ∑ k : Fin 1024, relu2 (∑ i : Fin 1024, k0_pay8 v30 v31 v33 v36 v37 v47 (ix2 r i) * a (ix2 i k)) * b (ix2 k j) := by
  pointwise [k0_pay9, relu2]

/-- The second quarter, added to what was accumulated. -/
theorem part1_at (v30 : FVec Ideal S512x1024 .f32) (v31 : Vec Ideal S512x1024 .f32) (v33 : FVec Ideal S1x1024 .f32)
    (v36 v37 : FVec Ideal S512x1 .f32) (v47 : Vec Ideal S1x1024 .f32) (a b : Vec Ideal S1024x1024 .bf16)
    (acc : Vec Ideal S512x1024 .f32) (r : Fin 512) (j : Fin 1024) :
    k0_pay11 (k0_pay10 v30 v31 v33 v36 v37 v47 a) (Scalar.ofBits .f32 0x00000000#32) b acc (ix2 r j)
      = acc (ix2 r j) + ∑ k : Fin 1024,
          relu2 (∑ i : Fin 1024, k0_pay8 v30 v31 v33 v36 v37 v47 (ix2 r i) * a (ix2 i k)) * b (ix2 k j) := by
  pointwise [k0_pay11, k0_pay10, relu2]

/-- The third quarter, added to what was accumulated. -/
theorem part2_at (v61 : FVec Ideal S512x1024 .bf16) (a b : Vec Ideal S1024x1024 .bf16)
    (acc : Vec Ideal S512x1024 .f32) (r : Fin 512) (j : Fin 1024) :
    k0_pay12 v61 a b acc (ix2 r j)
      = acc (ix2 r j) + ∑ k : Fin 1024, relu2 (∑ i : Fin 1024, v61 (ix2 r i) * a (ix2 i k)) * b (ix2 k j) := by
  pointwise [k0_pay12, relu2]

/-- The last quarter, added to what was accumulated. -/
theorem part3_at (v61 : FVec Ideal S512x1024 .bf16) (a b : Vec Ideal S1024x1024 .bf16)
    (acc : Vec Ideal S512x1024 .f32) (r : Fin 512) (j : Fin 1024) :
    k0_pay1 (k0_pay13 v61 a) b acc (ix2 r j)
      = acc (ix2 r j) + ∑ k : Fin 1024, relu2 (∑ i : Fin 1024, v61 (ix2 r i) * a (ix2 i k)) * b (ix2 k j) := by
  pointwise [k0_pay1, k0_pay13, relu2]

/-- The layer's result, row by row: the residual stream plus the normalised MLP output. -/
theorem out_at (v46 : FVec Ideal S512x1024 .f32) (acc : Vec Ideal S512x1024 .f32) (v121 : Vec Ideal S1x1024 .f32)
    (r : Fin 512) (j : Fin 1024) :
    k0_pay2 v46 acc v121 (ix2 r j)
      = v46 (ix2 r j) + rms (fun k => acc (ix2 r k)) (fun k => v121 (ix2 0 k)) j := by
  pointwise [k0_pay2, rms]

/-- The whole block, row by row: the layer's tail of the row, for weight quarters that are the runs of 1024 columns of
    `W1` and rows of `W2`. -/
theorem block_at (x0 x1 x5 : Vec Ideal S512x1024 .f32) (x2 x4 x6 x7 x10 : Vec Ideal S1x1024 .f32)
    (x3 a0 a1 a2 a3 b0 b1 b2 b3 : Vec Ideal S1024x1024 .bf16)
    (W1 : Fin 1024 → Fin 4096 → EReal) (W2 : Fin 4096 → Fin 1024 → EReal)
    (ha0 : ∀ i k : Fin 1024, a0 (ix2 i k) = W1 i ⟨(k : ℕ), by omega⟩)
    (ha1 : ∀ i k : Fin 1024, a1 (ix2 i k) = W1 i ⟨1024 + (k : ℕ), by omega⟩)
    (ha2 : ∀ i k : Fin 1024, a2 (ix2 i k) = W1 i ⟨2048 + (k : ℕ), by omega⟩)
    (ha3 : ∀ i k : Fin 1024, a3 (ix2 i k) = W1 i ⟨3072 + (k : ℕ), by omega⟩)
    (hb0 : ∀ k j : Fin 1024, b0 (ix2 k j) = W2 ⟨(k : ℕ), by omega⟩ j)
    (hb1 : ∀ k j : Fin 1024, b1 (ix2 k j) = W2 ⟨1024 + (k : ℕ), by omega⟩ j)
    (hb2 : ∀ k j : Fin 1024, b2 (ix2 k j) = W2 ⟨2048 + (k : ℕ), by omega⟩ j)
    (hb3 : ∀ k j : Fin 1024, b3 (ix2 k j) = W2 ⟨3072 + (k : ℕ), by omega⟩ j)
    (r : Fin 512) (j : Fin 1024) :
    k0_pay2 (k0_pay7 (k0_pay3 x0 x2 x1 x3 x4) x5 (k0_pay4 x6) (k0_pay5 x0 x2 x1 x3 x4) k0_pay6)
      (k0_pay1 (k0_pay13 (k0_pay8 (k0_pay3 x0 x2 x1 x3 x4) x5 (k0_pay4 x6) (k0_pay5 x0 x2 x1 x3 x4) k0_pay6 x7) a3) b3
        (k0_pay12 (k0_pay8 (k0_pay3 x0 x2 x1 x3 x4) x5 (k0_pay4 x6) (k0_pay5 x0 x2 x1 x3 x4) k0_pay6 x7) a2 b2
          (k0_pay11 (k0_pay10 (k0_pay3 x0 x2 x1 x3 x4) x5 (k0_pay4 x6) (k0_pay5 x0 x2 x1 x3 x4) k0_pay6 x7 a1)
            (FloatOps.ofBits FTy.f32 0#32) b1
            (k0_pay9 (k0_pay3 x0 x2 x1 x3 x4) x5 (k0_pay4 x6) (k0_pay5 x0 x2 x1 x3 x4) k0_pay6 x7 a0 b0))))
      x10 (ix2 r j)
    = tail (fun k => x5 (ix2 r k))
        (glu (fun k => x0 (ix2 r k)) (fun k => x1 (ix2 r k)) (fun k => x2 (ix2 0 k)) (fun k => x4 (ix2 0 k))
          (fun k l => x3 (ix2 k l)))
        (fun k => x6 (ix2 0 k)) (fun k => x7 (ix2 0 k)) (fun k => x10 (ix2 0 k)) W1 W2 j := by
  have hsum : ∀ l : Fin 1024,
      k0_pay1 (k0_pay13 (k0_pay8 (k0_pay3 x0 x2 x1 x3 x4) x5 (k0_pay4 x6) (k0_pay5 x0 x2 x1 x3 x4) k0_pay6 x7) a3) b3
        (k0_pay12 (k0_pay8 (k0_pay3 x0 x2 x1 x3 x4) x5 (k0_pay4 x6) (k0_pay5 x0 x2 x1 x3 x4) k0_pay6 x7) a2 b2
          (k0_pay11 (k0_pay10 (k0_pay3 x0 x2 x1 x3 x4) x5 (k0_pay4 x6) (k0_pay5 x0 x2 x1 x3 x4) k0_pay6 x7 a1)
            (FloatOps.ofBits FTy.f32 0#32) b1
            (k0_pay9 (k0_pay3 x0 x2 x1 x3 x4) x5 (k0_pay4 x6) (k0_pay5 x0 x2 x1 x3 x4) k0_pay6 x7 a0 b0))) (ix2 r l)
      = mlp (fun i => k0_pay8 (k0_pay3 x0 x2 x1 x3 x4) x5 (k0_pay4 x6) (k0_pay5 x0 x2 x1 x3 x4) k0_pay6 x7 (ix2 r i))
          W1 W2 l := by
    intro l
    rw [part3_at, part2_at, part1_at, part0_at]
    simp only [ha0, ha1, ha2, ha3, hb0, hb1, hb2, hb3]
    generalize k0_pay8 (k0_pay3 x0 x2 x1 x3 x4) x5 (k0_pay4 x6) (k0_pay5 x0 x2 x1 x3 x4) k0_pay6 x7 = X
    exact sum_four fun f => relu2 (∑ i : Fin 1024, X (ix2 r i) * W1 i f) * W2 f l
  refine (out_at _ _ _ r j).trans ?_
  have hm := mid_at x0 x2 x1 x3 x4 x5 x6 r
  have hn : (fun i => k0_pay8 (k0_pay3 x0 x2 x1 x3 x4) x5 (k0_pay4 x6) (k0_pay5 x0 x2 x1 x3 x4) k0_pay6 x7 (ix2 r i))
      = rms (mid (fun k => x5 (ix2 r k))
        (glu (fun k => x0 (ix2 r k)) (fun k => x1 (ix2 r k)) (fun k => x2 (ix2 0 k)) (fun k => x4 (ix2 0 k))
          (fun k l => x3 (ix2 k l))) (fun k => x6 (ix2 0 k))) (fun k => x7 (ix2 0 k)) :=
    funext fun i => (norm_at _ _ _ _ _ x7 r i).trans (congrArg (fun f => rms f (fun k => x7 (ix2 0 k)) i) (funext hm))
  refine congrArg₂ (· + ·) (hm j) (congrArg (fun f => rms f (fun k => x10 (ix2 0 k)) j) (funext fun l => ?_))
  exact (hsum l).trans (congrArg (fun f => mlp f W1 W2 l) hn)

end Cert.Kernel2Ideal.Pay

end
-- ==== Proof.S5Tail.lean ====
module

public import proofs.«01_k».proof.Proof.S5TailPay
public import proofs.«01_k».proof.Proof.Gen.Kernel2Ideal.Value
public import Idealize.ShloMosaic.Lib.Claim

@[expose] public section

set_option maxRecDepth 16384

noncomputable section

open Idealize.ShloMosaic Idealize.ShloMosaic.TcCoe Idealize.SL.Sem

namespace Cert.Kernel2Ideal.Val

open Cert.Kernel2Ideal Cert.Kernel2Ideal.Gen Cert.Kernel2Ideal.Pay Cert.Spec
open Idealize.ShloMosaic.Pipeline (Dat)

variable (m : (ℓ : Loc nD τ sig) → Buf (Elt Ideal) ℓ)

/-- The index maps of the windows, at every grid point: the row blocks move with the point, the weights stay. -/
theorem idx : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![t.val, 0] ∧ win0_6.index t = ![0, 0]
    ∧ win0_7.index t = ![0, 0] ∧ win0_8.index t = ![0, 0] ∧ win0_9.index t = ![0, 0] ∧ win0_10.index t = ![0, 0]
    ∧ win0_11.index t = ![t.val, 0] :=
  (by decide +kernel : ∀ t : Fin grid0.N, _)

/-- What a grid point leaves in its block is the layer's tail of the block's rows. -/
theorem point (c : Dev nD) (t : Fin cfg0.N) (r : Fin 512) (j : Fin 1024) :
    outsAt0 m c t (ix2 r j)
      = tail (fun k => iblk m c 5 t (ix2 r k))
        (glu (fun k => iblk m c 0 t (ix2 r k)) (fun k => iblk m c 1 t (ix2 r k)) (fun k => iblk m c 2 t (ix2 0 k))
          (fun k => iblk m c 4 t (ix2 0 k)) (fun k l => iblk m c 3 t (ix2 k l)))
        (fun k => iblk m c 6 t (ix2 0 k)) (fun k => iblk m c 7 t (ix2 0 k)) (fun k => iblk m c 10 t (ix2 0 k))
        (fun i f => iblk m c 8 t (ix2 i f)) (fun f l => iblk m c 9 t (ix2 f l)) j := by
  unfold outsAt0
  frame_out
  refine block_at _ _ _ _ _ _ _ _ _ _ _ _ _ _ _ _ _ _ _ ?_ ?_ ?_ ?_ ?_ ?_ ?_ ?_ r j <;> intro i k <;> pointwise

/-- Row `t * 512 + r` of the prompt's flattened rows. -/
abbrev rowOf (t : Fin cfg0.N) (r : Fin 512) : Fin 16384 :=
  ⟨t.val * 512 + r.val, by have := lt_of_lt_of_eq t.isLt N_0; omega⟩

/-- The layer's tail of one flattened prompt row, over the argument arrays. -/
def rowTail (x0 : FVec Ideal S4x4096x1024 .f32) (x1 x2 : FVec Ideal S16384x1024 .f32) (x3 : FVec Ideal S2x4x1024 .f32)
    (x4 : FVec Ideal S2x1024x4096 .f32) (x5 : FVec Ideal S2x4096x1024 .f32) (x6 : FVec Ideal S1x1024 .f32)
    (x7 : FVec Ideal S1x1024x1024 .f32) (x8 : FVec Ideal S1x1024 .f32) (R : Fin 16384) : Row :=
  tail (fun k => x2 (ix2 R k))
    (glu (fun k => x0 (ix3 ⟨R.val / 4096, by omega⟩ ⟨R.val % 4096, by omega⟩ k)) (fun k => x1 (ix2 R k))
      (fun k => x6 (ix2 0 k)) (fun k => x8 (ix2 0 k)) (fun k l => x7 (ix3 0 k l)))
    (fun k => x3 (ix3 1 1 k)) (fun k => x3 (ix3 1 2 k)) (fun k => x3 (ix3 1 3 k))
    (fun k f => x4 (ix3 1 k f)) (fun f k => x5 (ix3 1 f k))

theorem blk0 (c : Dev nD) (t : Fin cfg0.N) (r : Fin 512) (k : Fin 1024) : iblk m c 0 t (ix2 r k)
    = m ((c : Thread nD τ).loc main_arg0) (ix3 ⟨(t.val * 512 + r.val) / 4096, by have := lt_of_lt_of_eq t.isLt N_0; omega⟩ ⟨(t.val * 512 + r.val) % 4096, by omega⟩ k) := by
  blk_simp [iblk, idx t]
  entry_read
  pointwise
  blk_ext [idx t]

theorem blk1 (c : Dev nD) (t : Fin cfg0.N) (r : Fin 512) (k : Fin 1024) : iblk m c 1 t (ix2 r k)
    = m ((c : Thread nD τ).loc main_arg1) (ix2 (rowOf t r) k) := by
  blk_ext [iblk, V, idx t]

theorem blk2 (c : Dev nD) (t : Fin cfg0.N) (k : Fin 1024) : iblk m c 2 t (ix2 0 k)
    = m ((c : Thread nD τ).loc main_arg6) (ix2 0 k) := by
  blk_simp [iblk, idx t]
  entry_read
  pointwise
  blk_ext [idx t]

theorem blk3 (c : Dev nD) (t : Fin cfg0.N) (k l : Fin 1024) : iblk m c 3 t (ix2 k l)
    = m ((c : Thread nD τ).loc main_arg7) (ix3 0 k l) := by
  blk_simp [iblk, idx t]
  entry_read
  pointwise
  blk_ext [idx t]

theorem blk4 (c : Dev nD) (t : Fin cfg0.N) (k : Fin 1024) : iblk m c 4 t (ix2 0 k)
    = m ((c : Thread nD τ).loc main_arg8) (ix2 0 k) := by
  blk_simp [iblk, idx t]
  entry_read
  pointwise
  blk_ext [idx t]

theorem blk5 (c : Dev nD) (t : Fin cfg0.N) (r : Fin 512) (k : Fin 1024) : iblk m c 5 t (ix2 r k)
    = m ((c : Thread nD τ).loc main_arg2) (ix2 (rowOf t r) k) := by
  blk_ext [iblk, V, idx t]

theorem blk6 (c : Dev nD) (t : Fin cfg0.N) (k : Fin 1024) : iblk m c 6 t (ix2 0 k)
    = m ((c : Thread nD τ).loc main_arg3) (ix3 1 1 k) := by
  blk_simp [iblk, idx t]
  entry_read
  pointwise
  blk_ext [idx t]

theorem blk7 (c : Dev nD) (t : Fin cfg0.N) (k : Fin 1024) : iblk m c 7 t (ix2 0 k)
    = m ((c : Thread nD τ).loc main_arg3) (ix3 1 2 k) := by
  blk_simp [iblk, idx t]
  entry_read
  pointwise
  blk_ext [idx t]

theorem blk8 (c : Dev nD) (t : Fin cfg0.N) (k : Fin 1024) (f : Fin 4096) : iblk m c 8 t (ix2 k f)
    = m ((c : Thread nD τ).loc main_arg4) (ix3 1 k f) := by
  blk_simp [iblk, idx t]
  entry_read
  pointwise
  blk_ext [idx t]

theorem blk9 (c : Dev nD) (t : Fin cfg0.N) (f : Fin 4096) (k : Fin 1024) : iblk m c 9 t (ix2 f k)
    = m ((c : Thread nD τ).loc main_arg5) (ix3 1 f k) := by
  blk_simp [iblk, idx t]
  entry_read
  pointwise
  blk_ext [idx t]

theorem blk10 (c : Dev nD) (t : Fin cfg0.N) (k : Fin 1024) : iblk m c 10 t (ix2 0 k)
    = m ((c : Thread nD τ).loc main_arg3) (ix3 1 3 k) := by
  blk_simp [iblk, idx t]
  entry_read
  pointwise
  blk_ext [idx t]

/-- The result array after the run: every row is the layer's tail of that row. -/
theorem final (c : Dev nD) : (dats m 0 c).arrAt 11 (cfgs 0).N
    = fun i : S16384x1024.Idx => rowTail (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7))
        (m ((c : Thread nD τ).loc main_arg8)) (i 0) (i 1) := by
  refine (dats m 0 c).arrAt_eq_of_covers 11 _ (by decide +kernel) fun t _ y => ?_
  blk_simp
  rw [after0_11]
  idx_vars y
  rw [point]
  simp only [blk0, blk1, blk2, blk3, blk4, blk5, blk6, blk7, blk8, blk9, blk10]
  have hi : ((View.whole main_v20).slice (win0_11.rect t)).emb (ix2 y0 y1) = ix2 (rowOf t y0) y1 := by
    blk_ext [idx t]
  rw [hi]
  rfl

end Cert.Kernel2Ideal.Val

end
-- ==== Proof.S5TailRef.lean ====
/-
The reference of the state-space layer's tail, read row by row: the gated feed-through, the residual and
its normalization, the relu² layer, and the last normalization.
-/
module

public import proofs.«01_k».proof.Proof.Gen.Reference2Ideal.Read
public import proofs.«01_k».proof.Proof.Spec

@[expose] public section

set_option maxRecDepth 16384

noncomputable section

namespace Cert.Reference2Ideal.Rows

open Idealize.ShloMosaic Idealize.ShloMosaic.TcCoe Idealize.SL.Sem
open Cert.Spec Cert.Reference2Ideal.Read

variable (x0 : FVec Ideal S4x4096x1024 .f32) (x1 x2 : FVec Ideal S16384x1024 .f32) (x3 : FVec Ideal S2x4x1024 .f32)
  (x4 : FVec Ideal S2x1024x4096 .f32) (x5 : FVec Ideal S2x4096x1024 .f32) (x6 : FVec Ideal S1x1024 .f32)
  (x7 : FVec Ideal S1x1024x1024 .f32) (x8 : FVec Ideal S1x1024 .f32)

/-- The gated feed-through of one row. -/
theorem glu_at (R : Fin 16384) (j : Fin 1024) : val_main_v33 (F := Ideal) x0 x1 x6 x7 x8 (ix2 R j)
    = glu (fun k => x0 (ix3 ⟨R.val / 4096, by omega⟩ ⟨R.val % 4096, by omega⟩ k)) (fun k => x1 (ix2 R k))
      (fun k => x6 (ix2 0 k)) (fun k => x8 (ix2 0 k)) (fun k l => x7 (ix3 0 k l)) j := by
  simp only [glu, gelu_eq, Ideal.logistic]
  pointwise! [val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4]

/-- The residual row after the sublayer. -/
theorem mid_at (R : Fin 16384) (j : Fin 1024) : val_main_v49 (F := Ideal) x0 x1 x2 x3 x6 x7 x8 (ix2 R j)
    = mid (fun k => x2 (ix2 R k)) (fun k => val_main_v33 (F := Ideal) x0 x1 x6 x7 x8 (ix2 R k)) (fun k => x3 (ix3 1 1 k)) j := by
  pointwise! [val_main_v49, val_main_v48, val_main_v47, val_main_v46, val_main_v45, val_main_v44, val_main_v43, val_main_v42, val_main_v41, val_main_v40, val_main_v39, val_main_v38, val_main_v37, val_main_v36, val_main_v35, val_main_v34, val_main_cst_5, val_main_cst_6, val_main_cst_7, val_main_v0, val_main_v1, mid, rms]

/-- The normalized row. -/
theorem norm_at (R : Fin 16384) (j : Fin 1024) : val_main_v64 (F := Ideal) x0 x1 x2 x3 x6 x7 x8 (ix2 R j)
    = rms (fun k => val_main_v49 (F := Ideal) x0 x1 x2 x3 x6 x7 x8 (ix2 R k)) (fun k => x3 (ix3 1 2 k)) j := by
  pointwise! [val_main_v64, val_main_v63, val_main_v62, val_main_v61, val_main_v60, val_main_v59, val_main_v58, val_main_v57, val_main_v56, val_main_v55, val_main_v54, val_main_v53, val_main_v52, val_main_v51, val_main_v50, val_main_cst_8, val_main_cst_9, val_main_cst_10, val_main_v0, val_main_v1, rms]

/-- The relu² layer of one row. -/
theorem mlp_at (R : Fin 16384) (j : Fin 1024) : val_main_v72 (F := Ideal) x0 x1 x2 x3 x4 x5 x6 x7 x8 (ix2 R j)
    = mlp (fun k => val_main_v64 (F := Ideal) x0 x1 x2 x3 x6 x7 x8 (ix2 R k)) (fun k f => x4 (ix3 1 k f)) (fun f k => x5 (ix3 1 f k)) j := by
  pointwise! [val_main_v72, val_main_v71, val_main_v70, val_main_v69, val_main_v68, val_main_v67, val_main_v66, val_main_v65, val_main_call0_v0, val_main_call0_cst, mlp, Spec.hidden, relu2]

/-- The result row. -/
theorem out_at (R : Fin 16384) (j : Fin 1024) : val_main_v88 (F := Ideal) x0 x1 x2 x3 x4 x5 x6 x7 x8 (ix2 R j)
    = mid (fun k => val_main_v49 (F := Ideal) x0 x1 x2 x3 x6 x7 x8 (ix2 R k)) (fun k => val_main_v72 (F := Ideal) x0 x1 x2 x3 x4 x5 x6 x7 x8 (ix2 R k)) (fun k => x3 (ix3 1 3 k)) j := by
  pointwise! [val_main_v88, val_main_v87, val_main_v86, val_main_v85, val_main_v84, val_main_v83, val_main_v82, val_main_v81, val_main_v80, val_main_v79, val_main_v78, val_main_v77, val_main_v76, val_main_v75, val_main_v74, val_main_v73, val_main_cst_11, val_main_cst_12, val_main_cst_13, val_main_v0, val_main_v1, mid, rms]

/-- The result row is the layer's tail of the row. -/
theorem row_at (R : Fin 16384) (j : Fin 1024) : val_main_v88 (F := Ideal) x0 x1 x2 x3 x4 x5 x6 x7 x8 (ix2 R j)
    = tail (fun k => x2 (ix2 R k))
    (glu (fun k => x0 (ix3 ⟨R.val / 4096, by omega⟩ ⟨R.val % 4096, by omega⟩ k)) (fun k => x1 (ix2 R k))
      (fun k => x6 (ix2 0 k)) (fun k => x8 (ix2 0 k)) (fun k l => x7 (ix3 0 k l)))
    (fun k => x3 (ix3 1 1 k)) (fun k => x3 (ix3 1 2 k)) (fun k => x3 (ix3 1 3 k))
    (fun k f => x4 (ix3 1 k f)) (fun f k => x5 (ix3 1 f k)) j := by
  rw [out_at]
  simp only [mlp_at, norm_at, mid_at, glu_at]
  rfl

end Cert.Reference2Ideal.Rows
-- ==== Proof.S5TailClaim.lean ====
/-
The state-space layer's tail and its reference end with the same array.
-/
module

public import proofs.«01_k».proof.Proof.S5Tail
public import proofs.«01_k».proof.Proof.S5TailRef
public import proofs.«01_k».proof.Defs
public import proofs.«01_k».proof.Proof.Gen.Reference2Ideal.Run
public import proofs.«01_k».proof.Proof.Gen.Kernel2.Frame
public import proofs.«01_k».proof.Proof.Gen.Kernel2
public import Idealize.ShloMosaic.Lib.Claim

@[expose] public section

set_option maxRecDepth 16384

noncomputable section

namespace Cert.S5TailClaim

open Idealize.ShloMosaic Idealize.ShloMosaic.TcCoe Idealize.SL.Sem
open Cert.Spec

/-- The reference's result is the array whose rows are the layer's tails of the rows. -/
theorem ref_eq (x0 : FVec Ideal Kernel2Ideal.S4x4096x1024 .f32) (x1 x2 : FVec Ideal Kernel2Ideal.S16384x1024 .f32)
    (x3 : FVec Ideal Kernel2Ideal.S2x4x1024 .f32) (x4 : FVec Ideal Kernel2Ideal.S2x1024x4096 .f32)
    (x5 : FVec Ideal Kernel2Ideal.S2x4096x1024 .f32) (x6 : FVec Ideal Kernel2Ideal.S1x1024 .f32)
    (x7 : FVec Ideal Kernel2Ideal.S1x1024x1024 .f32) (x8 : FVec Ideal Kernel2Ideal.S1x1024 .f32) :
    (Reference2Ideal.Read.val_main_v88 (F := Ideal) x0 x1 x2 x3 x4 x5 x6 x7 x8)
      = fun i : Kernel2Ideal.S16384x1024.Idx => Kernel2Ideal.Val.rowTail x0 x1 x2 x3 x4 x5 x6 x7 x8 (i 0) (i 1) := by
  funext i
  idx_vars i
  exact Reference2Ideal.Rows.row_at x0 x1 x2 x3 x4 x5 x6 x7 x8 _ _

/-- Both programs leave the same array. -/
theorem algebraic : Cert.algebraic_Kernel2Ideal_Reference2Ideal := by
  pair_intro
  · run_from Cert.Kernel2Ideal.Gen.run_main m g
  · run_from Cert.Reference2Ideal.Value.run m' g'
    obtain ⟨h0, h1, h2, h3, h4, h5, h6, h7, h8⟩ := hagree c
    refine Eq.trans (b := Reference2Ideal.Read.val_main_v88 (F := Ideal) (m' ((c.tc : Thread Reference2Ideal.nD Reference2Ideal.τ).loc Reference2Ideal.main_arg0)) (m' ((c.tc : Thread Reference2Ideal.nD Reference2Ideal.τ).loc Reference2Ideal.main_arg1)) (m' ((c.tc : Thread Reference2Ideal.nD Reference2Ideal.τ).loc Reference2Ideal.main_arg2)) (m' ((c.tc : Thread Reference2Ideal.nD Reference2Ideal.τ).loc Reference2Ideal.main_arg3)) (m' ((c.tc : Thread Reference2Ideal.nD Reference2Ideal.τ).loc Reference2Ideal.main_arg4)) (m' ((c.tc : Thread Reference2Ideal.nD Reference2Ideal.τ).loc Reference2Ideal.main_arg5)) (m' ((c.tc : Thread Reference2Ideal.nD Reference2Ideal.τ).loc Reference2Ideal.main_arg6)) (m' ((c.tc : Thread Reference2Ideal.nD Reference2Ideal.τ).loc Reference2Ideal.main_arg7)) (m' ((c.tc : Thread Reference2Ideal.nD Reference2Ideal.τ).loc Reference2Ideal.main_arg8))) ?_ ?_
    · exact Reference2Ideal.Read.val_main_v88_eq (StableHlo.launchContents m' c)
    rw [h0, h1, h2, h3, h4, h5, h6, h7, h8, ref_eq]
    exact (Kernel2Ideal.Val.final m c).symm

end Cert.S5TailClaim
-- ==== Proof.NsaTailPay.lean ====
/-
What one block of the attention layer's tail computes, row by row.
-/
module

public import proofs.«01_k».proof.Proof.Spec
public import proofs.«01_k».proof.Proof.Gen.Kernel3Ideal.Skeleton

@[expose] public section

set_option maxRecDepth 16384

noncomputable section

namespace Cert.Kernel3Ideal.Pay

open Idealize.ShloMosaic Idealize.ShloMosaic.TcCoe Idealize.SL.Sem
open Cert.Kernel3Ideal Cert.Kernel3Ideal.Gen Cert.Spec

/-- The output projection of one row: the row of attention outputs (a column of the transposed block) times the
    weight matrix. -/
def proj (x0 : Fin 1024 → EReal) (x1 : Fin 1024 → Fin 1024 → EReal) : Row := fun k => ∑ i : Fin 1024, x0 i * x1 i k

/-- The residual stream after the mixer, row by row. -/
theorem mid_at (x0 : Vec Ideal S1024x512 .bf16) (x1 : Vec Ideal S1024x1024 .bf16) (x2 : Vec Ideal S512x1024 .f32)
    (x3 : Vec Ideal S1x1024 .f32) (r : Fin 512) (j : Fin 1024) :
    k0_pay3 x0 x1 x2 x3 (ix2 r j)
      = mid (fun k => x2 (ix2 r k)) (proj (fun i => x0 (ix2 i r)) (fun i k => x1 (ix2 i k))) (fun k => x3 (ix2 0 k)) j := by
  pointwise [k0_pay3, mid, rms, proj]

/-- The MLP's normalised input, row by row. -/
theorem norm_at (x0 : Vec Ideal S1024x512 .bf16) (x1 : Vec Ideal S1024x1024 .bf16) (x2 : Vec Ideal S512x1024 .f32)
    (x3 x4 : Vec Ideal S1x1024 .f32) (r : Fin 512) (j : Fin 1024) :
    k0_pay4 x0 x1 x2 x3 x4 (ix2 r j)
      = rms (fun k => k0_pay3 x0 x1 x2 x3 (ix2 r k)) (fun k => x4 (ix2 0 k)) j := by
  pointwise [k0_pay4, rms]

/-- The first quarter of the MLP. -/
theorem part0_at (x0 : Vec Ideal S1024x512 .bf16) (x1 : Vec Ideal S1024x1024 .bf16) (x2 : Vec Ideal S512x1024 .f32)
    (x3 x4 : Vec Ideal S1x1024 .f32) (a b : Vec Ideal S1024x1024 .bf16) (r : Fin 512) (j : Fin 1024) :
    k0_pay6 (k0_pay5 x0 x1 x2 x3 x4 a) b (ix2 r j)
      = ∑ k : Fin 1024, relu2 (∑ i : Fin 1024, k0_pay4 x0 x1 x2 x3 x4 (ix2 r i) * a (ix2 i k)) * b (ix2 k j) := by
  pointwise [k0_pay6, k0_pay5, relu2]

/-- The second quarter, added to what was accumulated. -/
theorem part1_at (v : FVec Ideal S512x1024 .bf16) (a b : Vec Ideal S1024x1024 .bf16) (acc : Vec Ideal S512x1024 .f32)
    (r : Fin 512) (j : Fin 1024) :
    k0_pay7 v a b acc (ix2 r j)
      = acc (ix2 r j) + ∑ k : Fin 1024, relu2 (∑ i : Fin 1024, v (ix2 r i) * a (ix2 i k)) * b (ix2 k j) := by
  pointwise [k0_pay7, relu2]

/-- The third quarter, added to what was accumulated. -/
theorem part2_at (v : FVec Ideal S512x1024 .bf16) (a b : Vec Ideal S1024x1024 .bf16) (acc : Vec Ideal S512x1024 .f32)
    (r : Fin 512) (j : Fin 1024) :
    k0_pay10 (k0_pay8 v a) (k0_pay9 b) (constant S512x1024 FTy.f32 0#32) acc (ix2 r j)
      = acc (ix2 r j) + ∑ k : Fin 1024, relu2 (∑ i : Fin 1024, v (ix2 r i) * a (ix2 i k)) * b (ix2 k j) := by
  pointwise [k0_pay10, k0_pay9, k0_pay8, relu2]

/-- The last quarter, added to what was accumulated. -/
theorem part3_at (v : FVec Ideal S512x1024 .bf16) (a b : Vec Ideal S1024x1024 .bf16) (acc : Vec Ideal S512x1024 .f32)
    (r : Fin 512) (j : Fin 1024) :
    k0_pay11 v a b acc (ix2 r j)
      = acc (ix2 r j) + ∑ k : Fin 1024, relu2 (∑ i : Fin 1024, v (ix2 r i) * a (ix2 i k)) * b (ix2 k j) := by
  pointwise [k0_pay11, relu2]

/-- The layer's result: the residual stream plus the normalised MLP output. -/
theorem out_at (v acc : Vec Ideal S512x1024 .f32) (x7 : Vec Ideal S1x1024 .f32) (r : Fin 512) (j : Fin 1024) :
    k0_pay1 v (k0_pay12 acc x7) (ix2 r j)
      = v (ix2 r j) + rms (fun k => acc (ix2 r k)) (fun k => x7 (ix2 0 k)) j := by
  pointwise [k0_pay1, k0_pay12, rms]

/-- The second result: the first, normalised with the next layer's gain. -/
theorem next_at (v w : FVec Ideal S512x1024 .f32) (x8 : Vec Ideal S1x1024 .f32) (r : Fin 512) (j : Fin 1024) :
    k0_pay2 v w x8 (ix2 r j) = rms (fun k => k0_pay1 v w (ix2 r k)) (fun k => x8 (ix2 0 k)) j := by
  pointwise [k0_pay2, rms]

/-- The whole block, row by row: the layer's tail of the row, for weight quarters that are the runs of 1024 columns of
    `W1` and rows of `W2`. -/
theorem block_at (x0 : Vec Ideal S1024x512 .bf16) (x2 : Vec Ideal S512x1024 .f32) (x3 x4 x7 : Vec Ideal S1x1024 .f32)
    (x1 a0 a1 a2 a3 b0 b1 b2 b3 : Vec Ideal S1024x1024 .bf16)
    (W1 : Fin 1024 → Fin 4096 → EReal) (W2 : Fin 4096 → Fin 1024 → EReal)
    (ha0 : ∀ i k : Fin 1024, a0 (ix2 i k) = W1 i ⟨(k : ℕ), by omega⟩)
    (ha1 : ∀ i k : Fin 1024, a1 (ix2 i k) = W1 i ⟨1024 + (k : ℕ), by omega⟩)
    (ha2 : ∀ i k : Fin 1024, a2 (ix2 i k) = W1 i ⟨2048 + (k : ℕ), by omega⟩)
    (ha3 : ∀ i k : Fin 1024, a3 (ix2 i k) = W1 i ⟨3072 + (k : ℕ), by omega⟩)
    (hb0 : ∀ k j : Fin 1024, b0 (ix2 k j) = W2 ⟨(k : ℕ), by omega⟩ j)
    (hb1 : ∀ k j : Fin 1024, b1 (ix2 k j) = W2 ⟨1024 + (k : ℕ), by omega⟩ j)
    (hb2 : ∀ k j : Fin 1024, b2 (ix2 k j) = W2 ⟨2048 + (k : ℕ), by omega⟩ j)
    (hb3 : ∀ k j : Fin 1024, b3 (ix2 k j) = W2 ⟨3072 + (k : ℕ), by omega⟩ j)
    (r : Fin 512) (j : Fin 1024) :
    k0_pay1 (k0_pay3 x0 x1 x2 x3) (k0_pay12
      (k0_pay11 (k0_pay4 x0 x1 x2 x3 x4) a3 b3
        (k0_pay10 (k0_pay8 (k0_pay4 x0 x1 x2 x3 x4) a2) (k0_pay9 b2) (constant S512x1024 FTy.f32 0#32)
          (k0_pay7 (k0_pay4 x0 x1 x2 x3 x4) a1 b1 (k0_pay6 (k0_pay5 x0 x1 x2 x3 x4 a0) b0)))) x7) (ix2 r j)
    = tail (fun k => x2 (ix2 r k)) (proj (fun i => x0 (ix2 i r)) (fun i k => x1 (ix2 i k)))
        (fun k => x3 (ix2 0 k)) (fun k => x4 (ix2 0 k)) (fun k => x7 (ix2 0 k)) W1 W2 j := by
  have hsum : ∀ l : Fin 1024,
      (k0_pay11 (k0_pay4 x0 x1 x2 x3 x4) a3 b3
        (k0_pay10 (k0_pay8 (k0_pay4 x0 x1 x2 x3 x4) a2) (k0_pay9 b2) (constant S512x1024 FTy.f32 0#32)
          (k0_pay7 (k0_pay4 x0 x1 x2 x3 x4) a1 b1 (k0_pay6 (k0_pay5 x0 x1 x2 x3 x4 a0) b0)))) (ix2 r l)
      = mlp (fun i => k0_pay4 x0 x1 x2 x3 x4 (ix2 r i)) W1 W2 l := by
    intro l
    rw [part3_at, part2_at, part1_at, part0_at]
    simp only [ha0, ha1, ha2, ha3, hb0, hb1, hb2, hb3]
    generalize k0_pay4 x0 x1 x2 x3 x4 = X
    exact sum_four fun f => relu2 (∑ i : Fin 1024, X (ix2 r i) * W1 i f) * W2 f l
  refine (out_at _ _ _ r j).trans ?_
  have hm := mid_at x0 x1 x2 x3 r
  have hn : (fun i => k0_pay4 x0 x1 x2 x3 x4 (ix2 r i))
      = rms (mid (fun k => x2 (ix2 r k)) (proj (fun i => x0 (ix2 i r)) (fun i k => x1 (ix2 i k))) (fun k => x3 (ix2 0 k))) (fun k => x4 (ix2 0 k)) :=
    funext fun i => (norm_at _ _ _ _ x4 r i).trans (congrArg (fun f => rms f (fun k => x4 (ix2 0 k)) i) (funext hm))
  refine congrArg₂ (· + ·) (hm j) (congrArg (fun f => rms f (fun k => x7 (ix2 0 k)) j) (funext fun l => ?_))
  exact (hsum l).trans (congrArg (fun f => mlp f W1 W2 l) hn)

end Cert.Kernel3Ideal.Pay
-- ==== Proof.NsaTail.lean ====
/-
The attention layer's tail (prompt rows): the two result arrays after the run.
-/
module

public import proofs.«01_k».proof.Proof.NsaTailPay
public import proofs.«01_k».proof.Proof.Gen.Kernel3Ideal.Value
public import Idealize.ShloMosaic.Lib.Claim

@[expose] public section

set_option maxRecDepth 16384

noncomputable section

namespace Cert.Kernel3Ideal.Val

open Idealize.ShloMosaic Idealize.ShloMosaic.TcCoe Idealize.SL.Sem
open Cert.Kernel3Ideal Cert.Kernel3Ideal.Gen Cert.Kernel3Ideal.Pay Cert.Spec
open Idealize.ShloMosaic.Pipeline (Dat)

variable (m : (ℓ : Loc nD τ sig) → Buf (Elt Ideal) ℓ)

/-- The index maps of the windows, at every grid point: the row blocks move with the point, the weights stay. -/
theorem idx : ∀ t : Fin cfg0.N, win0_0.index t = ![0, t.val] ∧ win0_1.index t = ![0, 0] ∧ win0_2.index t = ![t.val, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![t.val, 0] ∧ win0_10.index t = ![t.val, 0] :=
  (by decide +kernel : ∀ t : Fin grid0.N, _)

/-- What a grid point leaves in its first block is the layer's tail of the block's rows. -/
theorem point (c : Dev nD) (t : Fin cfg0.N) (r : Fin 512) (j : Fin 1024) :
    (outsAt0 m c t).1 (ix2 r j)
      = tail (fun k => iblk m c 2 t (ix2 r k)) (proj (fun i => iblk m c 0 t (ix2 i r)) (fun i k => iblk m c 1 t (ix2 i k)))
        (fun k => iblk m c 3 t (ix2 0 k)) (fun k => iblk m c 4 t (ix2 0 k)) (fun k => iblk m c 7 t (ix2 0 k))
        (fun i f => iblk m c 5 t (ix2 i f)) (fun f l => iblk m c 6 t (ix2 f l)) j := by
  unfold outsAt0
  frame_out
  refine block_at _ _ _ _ _ _ _ _ _ _ _ _ _ _ _ _ ?_ ?_ ?_ ?_ ?_ ?_ ?_ ?_ r j <;> intro i k <;> pointwise

/-- The second block is the first, normalised row by row with the next layer's gain. -/
theorem pointNext (c : Dev nD) (t : Fin cfg0.N) (r : Fin 512) (j : Fin 1024) :
    (outsAt0 m c t).2 (ix2 r j)
      = rms (fun k => (outsAt0 m c t).1 (ix2 r k)) (fun k => iblk m c 8 t (ix2 0 k)) j := by
  unfold outsAt0
  frame_out
  exact next_at _ _ _ r j

/-- Row `t * 512 + r` of the prompt's flattened rows. -/
abbrev rowOf (t : Fin cfg0.N) (r : Fin 512) : Fin 16384 :=
  ⟨t.val * 512 + r.val, by have := lt_of_lt_of_eq t.isLt N_0; omega⟩

/-- The layer's tail of one flattened prompt row, over the argument arrays. -/
def rowTail (x0 : FVec Ideal S1024x16384 .bf16) (x1 : FVec Ideal S4x4096x1024 .f32) (x2 : FVec Ideal S2x4x1024 .f32)
    (x3 : FVec Ideal S2x1024x4096 .f32) (x4 : FVec Ideal S2x4096x1024 .f32) (x5 : FVec Ideal S1x1024x1024 .f32)
    (R : Fin 16384) : Row :=
  tail (fun k => x1 (ix3 ⟨R.val / 4096, by omega⟩ ⟨R.val % 4096, by omega⟩ k))
    (proj (fun i => x0 (ix2 i R)) (fun i k => x5 (ix3 0 i k)))
    (fun k => x2 (ix3 0 1 k)) (fun k => x2 (ix3 0 2 k)) (fun k => x2 (ix3 0 3 k))
    (fun k f => x3 (ix3 0 k f)) (fun f k => x4 (ix3 0 f k))

theorem blk0 (c : Dev nD) (t : Fin cfg0.N) (i : Fin 1024) (r : Fin 512) : iblk m c 0 t (ix2 i r)
    = m ((c : Thread nD τ).loc main_arg0) (ix2 i (rowOf t r)) := by
  blk_ext [iblk, V, idx t]

theorem blk1 (c : Dev nD) (t : Fin cfg0.N) (i k : Fin 1024) : iblk m c 1 t (ix2 i k)
    = m ((c : Thread nD τ).loc main_arg5) (ix3 0 i k) := by
  blk_simp [iblk, idx t]
  entry_read
  pointwise
  blk_ext [idx t]

theorem blk2 (c : Dev nD) (t : Fin cfg0.N) (r : Fin 512) (k : Fin 1024) : iblk m c 2 t (ix2 r k)
    = m ((c : Thread nD τ).loc main_arg1) (ix3 ⟨(t.val * 512 + r.val) / 4096, by have := lt_of_lt_of_eq t.isLt N_0; omega⟩ ⟨(t.val * 512 + r.val) % 4096, by omega⟩ k) := by
  blk_simp [iblk, idx t]
  entry_read
  pointwise
  blk_ext [idx t]

theorem blk3 (c : Dev nD) (t : Fin cfg0.N) (k : Fin 1024) : iblk m c 3 t (ix2 0 k)
    = m ((c : Thread nD τ).loc main_arg2) (ix3 0 1 k) := by
  blk_simp [iblk, idx t]
  entry_read
  pointwise
  blk_ext [idx t]

theorem blk4 (c : Dev nD) (t : Fin cfg0.N) (k : Fin 1024) : iblk m c 4 t (ix2 0 k)
    = m ((c : Thread nD τ).loc main_arg2) (ix3 0 2 k) := by
  blk_simp [iblk, idx t]
  entry_read
  pointwise
  blk_ext [idx t]

theorem blk5 (c : Dev nD) (t : Fin cfg0.N) (k : Fin 1024) (f : Fin 4096) : iblk m c 5 t (ix2 k f)
    = m ((c : Thread nD τ).loc main_arg3) (ix3 0 k f) := by
  blk_simp [iblk, idx t]
  entry_read
  pointwise
  blk_ext [idx t]

theorem blk6 (c : Dev nD) (t : Fin cfg0.N) (f : Fin 4096) (k : Fin 1024) : iblk m c 6 t (ix2 f k)
    = m ((c : Thread nD τ).loc main_arg4) (ix3 0 f k) := by
  blk_simp [iblk, idx t]
  entry_read
  pointwise
  blk_ext [idx t]

theorem blk7 (c : Dev nD) (t : Fin cfg0.N) (k : Fin 1024) : iblk m c 7 t (ix2 0 k)
    = m ((c : Thread nD τ).loc main_arg2) (ix3 0 3 k) := by
  blk_simp [iblk, idx t]
  entry_read
  pointwise
  blk_ext [idx t]

theorem blk8 (c : Dev nD) (t : Fin cfg0.N) (k : Fin 1024) : iblk m c 8 t (ix2 0 k)
    = m ((c : Thread nD τ).loc main_arg2) (ix3 1 0 k) := by
  blk_simp [iblk, idx t]
  entry_read
  pointwise
  blk_ext [idx t]

/-- The grid point's first block over the argument arrays. -/
theorem pointRow (c : Dev nD) (t : Fin cfg0.N) (r : Fin 512) (j : Fin 1024) :
    (outsAt0 m c t).1 (ix2 r j)
      = rowTail (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (rowOf t r) j := by
  rw [point]
  simp only [blk0, blk1, blk2, blk3, blk4, blk5, blk6, blk7]
  rfl

/-- The first result after the run: every row is the layer's tail of that row. -/
theorem final (c : Dev nD) : (dats m 0 c).arrAt 9 (cfgs 0).N
    = fun i : S16384x1024.Idx => rowTail (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (i 0) (i 1) := by
  refine (dats m 0 c).arrAt_eq_of_covers 9 _ (by decide +kernel) fun t _ y => ?_
  blk_simp
  rw [after0_9]
  idx_vars y
  rw [pointRow]
  have hi : ((View.whole main_v18_0).slice (win0_9.rect t)).emb (ix2 y0 y1) = ix2 (rowOf t y0) y1 := by
    blk_ext [idx t]
  rw [hi]
  rfl

/-- The second result after the run: every row is the layer's tail of that row, normalised. -/
theorem finalNext (c : Dev nD) : (dats m 0 c).arrAt 10 (cfgs 0).N
    = fun i : S16384x1024.Idx => rms (rowTail (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (i 0))
        (fun k => m ((c : Thread nD τ).loc main_arg2) (ix3 1 0 k)) (i 1) := by
  refine (dats m 0 c).arrAt_eq_of_covers 10 _ (by decide +kernel) fun t _ y => ?_
  blk_simp
  rw [after0_10]
  idx_vars y
  rw [pointNext]
  simp only [pointRow, blk8]
  have hi : ((View.whole main_v18_1).slice (win0_10.rect t)).emb (ix2 y0 y1) = ix2 (rowOf t y0) y1 := by
    blk_ext [idx t]
  rw [hi]
  rfl

end Cert.Kernel3Ideal.Val
-- ==== Proof.NsaTailRef.lean ====
/-
The reference of the attention layer's tail, read row by row.
-/
module

public import proofs.«01_k».proof.Proof.Gen.Reference3Ideal.Read
public import proofs.«01_k».proof.Proof.NsaTail

@[expose] public section

set_option maxRecDepth 16384

noncomputable section

namespace Cert.Reference3Ideal.Rows

open Idealize.ShloMosaic Idealize.ShloMosaic.TcCoe Idealize.SL.Sem
open Cert.Spec Cert.Reference3Ideal.Read

variable (x0 : FVec Ideal S1024x16384 .bf16) (x1 : FVec Ideal S4x4096x1024 .f32) (x2 : FVec Ideal S2x4x1024 .f32)
  (x3 : FVec Ideal S2x1024x4096 .f32) (x4 : FVec Ideal S2x4096x1024 .f32) (x5 : FVec Ideal S1x1024x1024 .f32)

/-- The output projection of one row. -/
theorem proj_at (R : Fin 16384) (j : Fin 1024) : val_main_v6 (F := Ideal) x0 x5 (ix2 R j)
    = Kernel3Ideal.Pay.proj (fun i => x0 (ix2 i R)) (fun i k => x5 (ix3 0 i k)) j := by
  pointwise! [val_main_v6, val_main_v5, val_main_v4, val_main_v3, val_main_v2, Kernel3Ideal.Pay.proj]

/-- The residual row after the sublayer. -/
theorem mid_at (R : Fin 16384) (j : Fin 1024) : val_main_v22 (F := Ideal) x0 x1 x2 x5 (ix2 R j)
    = mid (fun k => x1 (ix3 ⟨R.val / 4096, by omega⟩ ⟨R.val % 4096, by omega⟩ k)) (fun k => val_main_v6 (F := Ideal) x0 x5 (ix2 R k)) (fun k => x2 (ix3 0 1 k)) j := by
  pointwise! [val_main_v22, val_main_v21, val_main_v20, val_main_v19, val_main_v18, val_main_v17, val_main_v16, val_main_v15, val_main_v14, val_main_v13, val_main_v12, val_main_v11, val_main_v10, val_main_v9, val_main_v8, val_main_v7, val_main_cst, val_main_cst_0, val_main_cst_1, val_main_v4, val_main_v0, val_main_v1, mid, rms]

/-- The normalized row. -/
theorem norm_at (R : Fin 16384) (j : Fin 1024) : val_main_v37 (F := Ideal) x0 x1 x2 x5 (ix2 R j)
    = rms (fun k => val_main_v22 (F := Ideal) x0 x1 x2 x5 (ix2 R k)) (fun k => x2 (ix3 0 2 k)) j := by
  pointwise! [val_main_v37, val_main_v36, val_main_v35, val_main_v34, val_main_v33, val_main_v32, val_main_v31, val_main_v30, val_main_v29, val_main_v28, val_main_v27, val_main_v26, val_main_v25, val_main_v24, val_main_v23, val_main_cst_2, val_main_cst_3, val_main_cst_4, val_main_v0, val_main_v1, rms]

/-- The squared-ReLU layer of one row. -/
theorem mlp_at (R : Fin 16384) (j : Fin 1024) : val_main_v45 (F := Ideal) x0 x1 x2 x3 x4 x5 (ix2 R j)
    = mlp (fun k => val_main_v37 (F := Ideal) x0 x1 x2 x5 (ix2 R k)) (fun k f => x3 (ix3 0 k f)) (fun f k => x4 (ix3 0 f k)) j := by
  pointwise! [val_main_v45, val_main_v44, val_main_v43, val_main_v42, val_main_v41, val_main_v40, val_main_v39, val_main_v38, val_main_call0_v0, val_main_call0_cst, mlp, Spec.hidden, relu2]

/-- The first result's row. -/
theorem out_at (R : Fin 16384) (j : Fin 1024) : val_main_v61 (F := Ideal) x0 x1 x2 x3 x4 x5 (ix2 R j)
    = mid (fun k => val_main_v22 (F := Ideal) x0 x1 x2 x5 (ix2 R k)) (fun k => val_main_v45 (F := Ideal) x0 x1 x2 x3 x4 x5 (ix2 R k)) (fun k => x2 (ix3 0 3 k)) j := by
  pointwise! [val_main_v61, val_main_v60, val_main_v59, val_main_v58, val_main_v57, val_main_v56, val_main_v55, val_main_v54, val_main_v53, val_main_v52, val_main_v51, val_main_v50, val_main_v49, val_main_v48, val_main_v47, val_main_v46, val_main_cst_5, val_main_cst_6, val_main_cst_7, val_main_v0, val_main_v1, mid, rms]

/-- The second result's row. -/
theorem next_at (R : Fin 16384) (j : Fin 1024) : val_main_v76 (F := Ideal) x0 x1 x2 x3 x4 x5 (ix2 R j)
    = rms (fun k => val_main_v61 (F := Ideal) x0 x1 x2 x3 x4 x5 (ix2 R k)) (fun k => x2 (ix3 1 0 k)) j := by
  pointwise! [val_main_v76, val_main_v75, val_main_v74, val_main_v73, val_main_v72, val_main_v71, val_main_v70, val_main_v69, val_main_v68, val_main_v67, val_main_v66, val_main_v65, val_main_v64, val_main_v63, val_main_v62, val_main_cst_8, val_main_cst_9, val_main_cst_10, rms]

/-- The first result's row is the layer's tail of the row. -/
theorem row_at (R : Fin 16384) (j : Fin 1024) : val_main_v61 (F := Ideal) x0 x1 x2 x3 x4 x5 (ix2 R j)
    = Kernel3Ideal.Val.rowTail x0 x1 x2 x3 x4 x5 R j := by
  rw [out_at]
  simp only [mlp_at, norm_at, mid_at, proj_at]
  rfl

end Cert.Reference3Ideal.Rows
-- ==== Proof.NsaTailClaim.lean ====
/-
The attention layer's tail and its reference end with the same two arrays.
-/
module

public import proofs.«01_k».proof.Proof.NsaTail
public import proofs.«01_k».proof.Proof.NsaTailRef
public import proofs.«01_k».proof.Defs
public import proofs.«01_k».proof.Proof.Gen.Reference3Ideal.Run
public import Idealize.ShloMosaic.Lib.Claim

@[expose] public section

set_option maxRecDepth 16384

noncomputable section

namespace Cert.NsaTailClaim

open Idealize.ShloMosaic Idealize.ShloMosaic.TcCoe Idealize.SL.Sem
open Cert.Spec

/-- The reference's first result is the array whose rows are the layer's tails of the rows. -/
theorem ref_eq (x0 : FVec Ideal Kernel3Ideal.S1024x16384 .bf16) (x1 : FVec Ideal Kernel3Ideal.S4x4096x1024 .f32)
    (x2 : FVec Ideal Kernel3Ideal.S2x4x1024 .f32) (x3 : FVec Ideal Kernel3Ideal.S2x1024x4096 .f32)
    (x4 : FVec Ideal Kernel3Ideal.S2x4096x1024 .f32) (x5 : FVec Ideal Kernel3Ideal.S1x1024x1024 .f32) :
    (Reference3Ideal.Read.val_main_v61 (F := Ideal) x0 x1 x2 x3 x4 x5)
      = fun i : Kernel3Ideal.S16384x1024.Idx => Kernel3Ideal.Val.rowTail x0 x1 x2 x3 x4 x5 (i 0) (i 1) := by
  funext i
  idx_vars i
  exact Reference3Ideal.Rows.row_at x0 x1 x2 x3 x4 x5 _ _

/-- The reference's second result is the array of those rows, normalised. -/
theorem ref_next (x0 : FVec Ideal Kernel3Ideal.S1024x16384 .bf16) (x1 : FVec Ideal Kernel3Ideal.S4x4096x1024 .f32)
    (x2 : FVec Ideal Kernel3Ideal.S2x4x1024 .f32) (x3 : FVec Ideal Kernel3Ideal.S2x1024x4096 .f32)
    (x4 : FVec Ideal Kernel3Ideal.S2x4096x1024 .f32) (x5 : FVec Ideal Kernel3Ideal.S1x1024x1024 .f32) :
    (Reference3Ideal.Read.val_main_v76 (F := Ideal) x0 x1 x2 x3 x4 x5)
      = fun i : Kernel3Ideal.S16384x1024.Idx => rms (Kernel3Ideal.Val.rowTail x0 x1 x2 x3 x4 x5 (i 0))
          (fun k => x2 (ix3 1 0 k)) (i 1) := by
  funext i
  idx_vars i
  refine (Reference3Ideal.Rows.next_at x0 x1 x2 x3 x4 x5 _ _).trans ?_
  exact congrArg (fun f => rms f (fun k => x2 (ix3 1 0 k)) i1)
    (funext fun k => Reference3Ideal.Rows.row_at x0 x1 x2 x3 x4 x5 i0 k)

/-- Both programs leave the same two arrays. -/
theorem algebraic : Cert.algebraic_Kernel3Ideal_Reference3Ideal := by
  pair_intro
  · run_from Cert.Kernel3Ideal.Gen.run_main m g
  · run_from Cert.Reference3Ideal.Value.run m' g'
    · obtain ⟨h0, h1, h2, h3, h4, h5⟩ := hagree c
      refine Eq.trans (b := Reference3Ideal.Read.val_main_v61 (F := Ideal) (m' ((c.tc : Thread Reference3Ideal.nD Reference3Ideal.τ).loc Reference3Ideal.main_arg0)) (m' ((c.tc : Thread Reference3Ideal.nD Reference3Ideal.τ).loc Reference3Ideal.main_arg1)) (m' ((c.tc : Thread Reference3Ideal.nD Reference3Ideal.τ).loc Reference3Ideal.main_arg2)) (m' ((c.tc : Thread Reference3Ideal.nD Reference3Ideal.τ).loc Reference3Ideal.main_arg3)) (m' ((c.tc : Thread Reference3Ideal.nD Reference3Ideal.τ).loc Reference3Ideal.main_arg4)) (m' ((c.tc : Thread Reference3Ideal.nD Reference3Ideal.τ).loc Reference3Ideal.main_arg5))) ?_ ?_
      · exact Reference3Ideal.Read.val_main_v61_eq (StableHlo.launchContents m' c)
      rw [h0, h1, h2, h3, h4, h5, ref_eq]
      exact (Kernel3Ideal.Val.final m c).symm
    · obtain ⟨h0, h1, h2, h3, h4, h5⟩ := hagree c
      refine Eq.trans (b := Reference3Ideal.Read.val_main_v76 (F := Ideal) (m' ((c.tc : Thread Reference3Ideal.nD Reference3Ideal.τ).loc Reference3Ideal.main_arg0)) (m' ((c.tc : Thread Reference3Ideal.nD Reference3Ideal.τ).loc Reference3Ideal.main_arg1)) (m' ((c.tc : Thread Reference3Ideal.nD Reference3Ideal.τ).loc Reference3Ideal.main_arg2)) (m' ((c.tc : Thread Reference3Ideal.nD Reference3Ideal.τ).loc Reference3Ideal.main_arg3)) (m' ((c.tc : Thread Reference3Ideal.nD Reference3Ideal.τ).loc Reference3Ideal.main_arg4)) (m' ((c.tc : Thread Reference3Ideal.nD Reference3Ideal.τ).loc Reference3Ideal.main_arg5))) ?_ ?_
      · rw [← h2]; exact Reference3Ideal.Read.val_main_v76_eq (StableHlo.launchContents m' c)
      rw [h0, h1, h2, h3, h4, h5, ref_next]
      exact (Kernel3Ideal.Val.finalNext m c).symm

end Cert.NsaTailClaim
-- ==== Proof.NsaTailSamplePay.lean ====
/-
What one block of the attention layer's tail computes, row by row.
-/
module

public import proofs.«01_k».proof.Proof.Spec
public import proofs.«01_k».proof.Proof.Gen.Kernel4Ideal.Skeleton

@[expose] public section

set_option maxRecDepth 16384

noncomputable section

namespace Cert.Kernel4Ideal.Pay

open Idealize.ShloMosaic Idealize.ShloMosaic.TcCoe Idealize.SL.Sem
open Cert.Kernel4Ideal Cert.Kernel4Ideal.Gen Cert.Spec

/-- The output projection of one row: the row of attention outputs times the weight matrix. -/
def proj (x0 : Fin 1024 → EReal) (x1 : Fin 1024 → Fin 1024 → EReal) : Row := fun k => ∑ i : Fin 1024, x0 i * x1 i k

/-- The residual stream after the mixer, row by row. -/
theorem mid_at (x0 : Vec Ideal S32x1024 .bf16) (x1 : Vec Ideal S1024x1024 .bf16) (x2 : Vec Ideal S32x1024 .f32)
    (x3 : Vec Ideal S1x1024 .f32) (r : Fin 32) (j : Fin 1024) :
    k0_pay3 x0 x1 x2 x3 (ix2 r j)
      = mid (fun k => x2 (ix2 r k)) (proj (fun i => x0 (ix2 r i)) (fun i k => x1 (ix2 i k))) (fun k => x3 (ix2 0 k)) j := by
  pointwise [k0_pay3, mid, rms, proj]

/-- The MLP's normalised input, row by row. -/
theorem norm_at (x0 : Vec Ideal S32x1024 .bf16) (x1 : Vec Ideal S1024x1024 .bf16) (x2 : Vec Ideal S32x1024 .f32)
    (x3 x4 : Vec Ideal S1x1024 .f32) (r : Fin 32) (j : Fin 1024) :
    k0_pay4 x0 x1 x2 x3 x4 (ix2 r j)
      = rms (fun k => k0_pay3 x0 x1 x2 x3 (ix2 r k)) (fun k => x4 (ix2 0 k)) j := by
  pointwise [k0_pay4, rms]

/-- The first quarter of the MLP. -/
theorem part0_at (x0 : Vec Ideal S32x1024 .bf16) (x1 : Vec Ideal S1024x1024 .bf16) (x2 : Vec Ideal S32x1024 .f32)
    (x3 x4 : Vec Ideal S1x1024 .f32) (a b : Vec Ideal S1024x1024 .bf16) (r : Fin 32) (j : Fin 1024) :
    k0_pay6 (k0_pay4 x0 x1 x2 x3 x4) (k0_pay5 a) (constant S32x1024 FTy.f32 0#32) b (ix2 r j)
      = ∑ k : Fin 1024, relu2 (∑ i : Fin 1024, k0_pay4 x0 x1 x2 x3 x4 (ix2 r i) * a (ix2 i k)) * b (ix2 k j) := by
  pointwise [k0_pay6, k0_pay5, relu2]

/-- The second quarter, added to what was accumulated. -/
theorem part1_at (v : FVec Ideal S32x1024 .bf16) (a b : Vec Ideal S1024x1024 .bf16) (acc : Vec Ideal S32x1024 .f32)
    (r : Fin 32) (j : Fin 1024) :
    k0_pay7 v a b acc (ix2 r j)
      = acc (ix2 r j) + ∑ k : Fin 1024, relu2 (∑ i : Fin 1024, v (ix2 r i) * a (ix2 i k)) * b (ix2 k j) := by
  pointwise [k0_pay7, relu2]

/-- The third quarter, added to what was accumulated. -/
theorem part2_at (v : FVec Ideal S32x1024 .bf16) (a b : Vec Ideal S1024x1024 .bf16) (acc : Vec Ideal S32x1024 .f32)
    (r : Fin 32) (j : Fin 1024) :
    k0_pay10 (k0_pay8 v a) (k0_pay9 b) acc (ix2 r j)
      = acc (ix2 r j) + ∑ k : Fin 1024, relu2 (∑ i : Fin 1024, v (ix2 r i) * a (ix2 i k)) * b (ix2 k j) := by
  pointwise [k0_pay10, k0_pay9, k0_pay8, relu2]

/-- The last quarter, added to what was accumulated. -/
theorem part3_at (v : FVec Ideal S32x1024 .bf16) (a b : Vec Ideal S1024x1024 .bf16) (acc : Vec Ideal S32x1024 .f32)
    (r : Fin 32) (j : Fin 1024) :
    k0_pay11 v a b acc (ix2 r j)
      = acc (ix2 r j) + ∑ k : Fin 1024, relu2 (∑ i : Fin 1024, v (ix2 r i) * a (ix2 i k)) * b (ix2 k j) := by
  pointwise [k0_pay11, relu2]

/-- The layer's result: the residual stream plus the normalised MLP output. -/
theorem out_at (v acc : Vec Ideal S32x1024 .f32) (x7 : Vec Ideal S1x1024 .f32) (r : Fin 32) (j : Fin 1024) :
    k0_pay1 v (k0_pay12 acc) (k0_pay13 x7) (ix2 r j)
      = v (ix2 r j) + rms (fun k => acc (ix2 r k)) (fun k => x7 (ix2 0 k)) j := by
  pointwise [k0_pay1, k0_pay12, k0_pay13, rms]

/-- The second result: the first, normalised with the next layer's gain. -/
theorem next_at (v w z : FVec Ideal S32x1024 .f32) (x8 : Vec Ideal S1x1024 .f32) (r : Fin 32) (j : Fin 1024) :
    k0_pay2 v w z x8 (ix2 r j) = rms (fun k => k0_pay1 v w z (ix2 r k)) (fun k => x8 (ix2 0 k)) j := by
  pointwise [k0_pay2, rms]

/-- The whole block, row by row: the layer's tail of the row, for weight quarters that are the runs of 1024 columns of
    `W1` and rows of `W2`. -/
theorem block_at (x0 : Vec Ideal S32x1024 .bf16) (x2 : Vec Ideal S32x1024 .f32) (x3 x4 x7 : Vec Ideal S1x1024 .f32)
    (x1 a0 a1 a2 a3 b0 b1 b2 b3 : Vec Ideal S1024x1024 .bf16)
    (W1 : Fin 1024 → Fin 4096 → EReal) (W2 : Fin 4096 → Fin 1024 → EReal)
    (ha0 : ∀ i k : Fin 1024, a0 (ix2 i k) = W1 i ⟨(k : ℕ), by omega⟩)
    (ha1 : ∀ i k : Fin 1024, a1 (ix2 i k) = W1 i ⟨1024 + (k : ℕ), by omega⟩)
    (ha2 : ∀ i k : Fin 1024, a2 (ix2 i k) = W1 i ⟨2048 + (k : ℕ), by omega⟩)
    (ha3 : ∀ i k : Fin 1024, a3 (ix2 i k) = W1 i ⟨3072 + (k : ℕ), by omega⟩)
    (hb0 : ∀ k j : Fin 1024, b0 (ix2 k j) = W2 ⟨(k : ℕ), by omega⟩ j)
    (hb1 : ∀ k j : Fin 1024, b1 (ix2 k j) = W2 ⟨1024 + (k : ℕ), by omega⟩ j)
    (hb2 : ∀ k j : Fin 1024, b2 (ix2 k j) = W2 ⟨2048 + (k : ℕ), by omega⟩ j)
    (hb3 : ∀ k j : Fin 1024, b3 (ix2 k j) = W2 ⟨3072 + (k : ℕ), by omega⟩ j)
    (r : Fin 32) (j : Fin 1024) :
    k0_pay1 (k0_pay3 x0 x1 x2 x3) (k0_pay12
      (k0_pay11 (k0_pay4 x0 x1 x2 x3 x4) a3 b3
        (k0_pay10 (k0_pay8 (k0_pay4 x0 x1 x2 x3 x4) a2) (k0_pay9 b2)
          (k0_pay7 (k0_pay4 x0 x1 x2 x3 x4) a1 b1 (k0_pay6 (k0_pay4 x0 x1 x2 x3 x4) (k0_pay5 a0) (constant S32x1024 FTy.f32 0#32) b0))))) (k0_pay13 x7) (ix2 r j)
    = tail (fun k => x2 (ix2 r k)) (proj (fun i => x0 (ix2 r i)) (fun i k => x1 (ix2 i k)))
        (fun k => x3 (ix2 0 k)) (fun k => x4 (ix2 0 k)) (fun k => x7 (ix2 0 k)) W1 W2 j := by
  have hsum : ∀ l : Fin 1024,
      (k0_pay11 (k0_pay4 x0 x1 x2 x3 x4) a3 b3
        (k0_pay10 (k0_pay8 (k0_pay4 x0 x1 x2 x3 x4) a2) (k0_pay9 b2)
          (k0_pay7 (k0_pay4 x0 x1 x2 x3 x4) a1 b1 (k0_pay6 (k0_pay4 x0 x1 x2 x3 x4) (k0_pay5 a0) (constant S32x1024 FTy.f32 0#32) b0)))) (ix2 r l)
      = mlp (fun i => k0_pay4 x0 x1 x2 x3 x4 (ix2 r i)) W1 W2 l := by
    intro l
    rw [part3_at, part2_at, part1_at, part0_at]
    simp only [ha0, ha1, ha2, ha3, hb0, hb1, hb2, hb3]
    generalize k0_pay4 x0 x1 x2 x3 x4 = X
    exact sum_four fun f => relu2 (∑ i : Fin 1024, X (ix2 r i) * W1 i f) * W2 f l
  refine (out_at _ _ _ r j).trans ?_
  have hm := mid_at x0 x1 x2 x3 r
  have hn : (fun i => k0_pay4 x0 x1 x2 x3 x4 (ix2 r i))
      = rms (mid (fun k => x2 (ix2 r k)) (proj (fun i => x0 (ix2 r i)) (fun i k => x1 (ix2 i k))) (fun k => x3 (ix2 0 k))) (fun k => x4 (ix2 0 k)) :=
    funext fun i => (norm_at _ _ _ _ x4 r i).trans (congrArg (fun f => rms f (fun k => x4 (ix2 0 k)) i) (funext hm))
  refine congrArg₂ (· + ·) (hm j) (congrArg (fun f => rms f (fun k => x7 (ix2 0 k)) j) (funext fun l => ?_))
  exact (hsum l).trans (congrArg (fun f => mlp f W1 W2 l) hn)

end Cert.Kernel4Ideal.Pay
-- ==== Proof.NsaTailSample.lean ====
/-
The attention layer's tail (sample rows): the two result arrays after the run.
-/
module

public import proofs.«01_k».proof.Proof.NsaTailSamplePay
public import proofs.«01_k».proof.Proof.Gen.Kernel4Ideal.Value
public import Idealize.ShloMosaic.Lib.Claim

@[expose] public section

set_option maxRecDepth 16384

noncomputable section

namespace Cert.Kernel4Ideal.Val

open Idealize.ShloMosaic Idealize.ShloMosaic.TcCoe Idealize.SL.Sem
open Cert.Kernel4Ideal Cert.Kernel4Ideal.Gen Cert.Kernel4Ideal.Pay Cert.Spec
open Idealize.ShloMosaic.Pipeline (Dat)

variable (m : (ℓ : Loc nD τ sig) → Buf (Elt Ideal) ℓ)

/-- The index maps of the windows, at every grid point: the row blocks move with the point, the weights stay. -/
theorem idx : ∀ t : Fin cfg0.N, win0_0.index t = ![t.val, 0] ∧ win0_1.index t = ![0, 0] ∧ win0_2.index t = ![t.val, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![t.val, 0] ∧ win0_10.index t = ![t.val, 0] :=
  (by decide +kernel : ∀ t : Fin grid0.N, _)

/-- What a grid point leaves in its first block is the layer's tail of the block's rows. -/
theorem point (c : Dev nD) (t : Fin cfg0.N) (r : Fin 32) (j : Fin 1024) :
    (outsAt0 m c t).1 (ix2 r j)
      = tail (fun k => iblk m c 2 t (ix2 r k)) (proj (fun i => iblk m c 0 t (ix2 r i)) (fun i k => iblk m c 1 t (ix2 i k)))
        (fun k => iblk m c 3 t (ix2 0 k)) (fun k => iblk m c 4 t (ix2 0 k)) (fun k => iblk m c 7 t (ix2 0 k))
        (fun i f => iblk m c 5 t (ix2 i f)) (fun f l => iblk m c 6 t (ix2 f l)) j := by
  unfold outsAt0
  frame_out
  refine block_at _ _ _ _ _ _ _ _ _ _ _ _ _ _ _ _ ?_ ?_ ?_ ?_ ?_ ?_ ?_ ?_ r j <;> intro i k <;> pointwise

/-- The second block is the first, normalised row by row with the next layer's gain. -/
theorem pointNext (c : Dev nD) (t : Fin cfg0.N) (r : Fin 32) (j : Fin 1024) :
    (outsAt0 m c t).2 (ix2 r j)
      = rms (fun k => (outsAt0 m c t).1 (ix2 r k)) (fun k => iblk m c 8 t (ix2 0 k)) j := by
  unfold outsAt0
  frame_out
  exact next_at _ _ _ _ r j

/-- Row `r` of the batch, the one grid point's block being all of it. -/
abbrev rowOf (t : Fin cfg0.N) (r : Fin 32) : Fin 32 :=
  ⟨t.val * 32 + r.val, by have := lt_of_lt_of_eq t.isLt N_0; omega⟩

/-- The layer's tail of one sample row, over the argument arrays. -/
def rowTail (x0 : FVec Ideal S32x16x64 .bf16) (x1 : FVec Ideal S32x1x1024 .f32) (x2 : FVec Ideal S2x4x1024 .f32)
    (x3 : FVec Ideal S2x1024x4096 .f32) (x4 : FVec Ideal S2x4096x1024 .f32) (x5 : FVec Ideal S1x1024x1024 .f32)
    (R : Fin 32) : Row :=
  tail (fun k => x1 (ix3 R 0 k))
    (proj (fun i => x0 (ix3 R ⟨i.val / 64, by omega⟩ ⟨i.val % 64, by omega⟩)) (fun i k => x5 (ix3 0 i k)))
    (fun k => x2 (ix3 0 1 k)) (fun k => x2 (ix3 0 2 k)) (fun k => x2 (ix3 0 3 k))
    (fun k f => x3 (ix3 0 k f)) (fun f k => x4 (ix3 0 f k))

theorem blk0 (c : Dev nD) (t : Fin cfg0.N) (i : Fin 1024) (r : Fin 32) : iblk m c 0 t (ix2 r i)
    = m ((c : Thread nD τ).loc main_arg0) (ix3 (rowOf t r) ⟨i.val / 64, by omega⟩ ⟨i.val % 64, by omega⟩) := by
  blk_simp [iblk, idx t]
  entry_read
  pointwise
  blk_ext [idx t]

theorem blk1 (c : Dev nD) (t : Fin cfg0.N) (i k : Fin 1024) : iblk m c 1 t (ix2 i k)
    = m ((c : Thread nD τ).loc main_arg5) (ix3 0 i k) := by
  blk_simp [iblk, idx t]
  entry_read
  pointwise
  blk_ext [idx t]

theorem blk2 (c : Dev nD) (t : Fin cfg0.N) (r : Fin 32) (k : Fin 1024) : iblk m c 2 t (ix2 r k)
    = m ((c : Thread nD τ).loc main_arg1) (ix3 (rowOf t r) 0 k) := by
  blk_simp [iblk, idx t]
  entry_read
  pointwise
  blk_ext [idx t]

theorem blk3 (c : Dev nD) (t : Fin cfg0.N) (k : Fin 1024) : iblk m c 3 t (ix2 0 k)
    = m ((c : Thread nD τ).loc main_arg2) (ix3 0 1 k) := by
  blk_simp [iblk, idx t]
  entry_read
  pointwise
  blk_ext [idx t]

theorem blk4 (c : Dev nD) (t : Fin cfg0.N) (k : Fin 1024) : iblk m c 4 t (ix2 0 k)
    = m ((c : Thread nD τ).loc main_arg2) (ix3 0 2 k) := by
  blk_simp [iblk, idx t]
  entry_read
  pointwise
  blk_ext [idx t]

theorem blk5 (c : Dev nD) (t : Fin cfg0.N) (k : Fin 1024) (f : Fin 4096) : iblk m c 5 t (ix2 k f)
    = m ((c : Thread nD τ).loc main_arg3) (ix3 0 k f) := by
  blk_simp [iblk, idx t]
  entry_read
  pointwise
  blk_ext [idx t]

theorem blk6 (c : Dev nD) (t : Fin cfg0.N) (f : Fin 4096) (k : Fin 1024) : iblk m c 6 t (ix2 f k)
    = m ((c : Thread nD τ).loc main_arg4) (ix3 0 f k) := by
  blk_simp [iblk, idx t]
  entry_read
  pointwise
  blk_ext [idx t]

theorem blk7 (c : Dev nD) (t : Fin cfg0.N) (k : Fin 1024) : iblk m c 7 t (ix2 0 k)
    = m ((c : Thread nD τ).loc main_arg2) (ix3 0 3 k) := by
  blk_simp [iblk, idx t]
  entry_read
  pointwise
  blk_ext [idx t]

theorem blk8 (c : Dev nD) (t : Fin cfg0.N) (k : Fin 1024) : iblk m c 8 t (ix2 0 k)
    = m ((c : Thread nD τ).loc main_arg2) (ix3 1 0 k) := by
  blk_simp [iblk, idx t]
  entry_read
  pointwise
  blk_ext [idx t]

/-- The grid point's first block over the argument arrays. -/
theorem pointRow (c : Dev nD) (t : Fin cfg0.N) (r : Fin 32) (j : Fin 1024) :
    (outsAt0 m c t).1 (ix2 r j)
      = rowTail (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (rowOf t r) j := by
  rw [point]
  simp only [blk0, blk1, blk2, blk3, blk4, blk5, blk6, blk7]
  rfl

/-- The first result after the run: every row is the layer's tail of that row. -/
theorem final (c : Dev nD) : (dats m 0 c).arrAt 9 (cfgs 0).N
    = fun i : S32x1024.Idx => rowTail (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (i 0) (i 1) := by
  refine (dats m 0 c).arrAt_eq_of_covers 9 _ (by decide +kernel) fun t _ y => ?_
  blk_simp
  rw [after0_9]
  idx_vars y
  rw [pointRow]
  have hi : ((View.whole main_v19_0).slice (win0_9.rect t)).emb (ix2 y0 y1) = ix2 (rowOf t y0) y1 := by
    blk_ext [idx t]
  rw [hi]
  rfl

/-- The second result after the run: every row is the layer's tail of that row, normalised. -/
theorem finalNext (c : Dev nD) : (dats m 0 c).arrAt 10 (cfgs 0).N
    = fun i : S32x1024.Idx => rms (rowTail (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (i 0))
        (fun k => m ((c : Thread nD τ).loc main_arg2) (ix3 1 0 k)) (i 1) := by
  refine (dats m 0 c).arrAt_eq_of_covers 10 _ (by decide +kernel) fun t _ y => ?_
  blk_simp
  rw [after0_10]
  idx_vars y
  rw [pointNext]
  simp only [pointRow, blk8]
  have hi : ((View.whole main_v19_1).slice (win0_10.rect t)).emb (ix2 y0 y1) = ix2 (rowOf t y0) y1 := by
    blk_ext [idx t]
  rw [hi]
  rfl

end Cert.Kernel4Ideal.Val
-- ==== Proof.NsaTailSampleRef.lean ====
/-
The reference of the attention layer's tail, read row by row.
-/
module

public import proofs.«01_k».proof.Proof.Gen.Reference4Ideal.Read
public import proofs.«01_k».proof.Proof.NsaTailSample

@[expose] public section

set_option maxRecDepth 16384

noncomputable section

namespace Cert.Reference4Ideal.Rows

open Idealize.ShloMosaic Idealize.ShloMosaic.TcCoe Idealize.SL.Sem
open Cert.Spec Cert.Reference4Ideal.Read

variable (x0 : FVec Ideal S32x16x64 .bf16) (x1 : FVec Ideal S32x1x1024 .f32) (x2 : FVec Ideal S2x4x1024 .f32)
  (x3 : FVec Ideal S2x1024x4096 .f32) (x4 : FVec Ideal S2x4096x1024 .f32) (x5 : FVec Ideal S1x1024x1024 .f32)

/-- The output projection of one row. -/
theorem proj_at (R : Fin 32) (j : Fin 1024) : val_main_v6 (F := Ideal) x0 x5 (ix2 R j)
    = Kernel4Ideal.Pay.proj (fun i => x0 (ix3 R ⟨i.val / 64, by omega⟩ ⟨i.val % 64, by omega⟩)) (fun i k => x5 (ix3 0 i k)) j := by
  pointwise! [val_main_v6, val_main_v5, val_main_v4, val_main_v3, val_main_v2, Kernel4Ideal.Pay.proj]

/-- The residual row after the sublayer. -/
theorem mid_at (R : Fin 32) (j : Fin 1024) : val_main_v22 (F := Ideal) x0 x1 x2 x5 (ix2 R j)
    = mid (fun k => x1 (ix3 R 0 k)) (fun k => val_main_v6 (F := Ideal) x0 x5 (ix2 R k)) (fun k => x2 (ix3 0 1 k)) j := by
  pointwise! [val_main_v22, val_main_v21, val_main_v20, val_main_v19, val_main_v18, val_main_v17, val_main_v16, val_main_v15, val_main_v14, val_main_v13, val_main_v12, val_main_v11, val_main_v10, val_main_v9, val_main_v8, val_main_v7, val_main_cst, val_main_cst_0, val_main_cst_1, val_main_v4, val_main_v0, val_main_v1, mid, rms]

/-- The normalized row. -/
theorem norm_at (R : Fin 32) (j : Fin 1024) : val_main_v37 (F := Ideal) x0 x1 x2 x5 (ix2 R j)
    = rms (fun k => val_main_v22 (F := Ideal) x0 x1 x2 x5 (ix2 R k)) (fun k => x2 (ix3 0 2 k)) j := by
  pointwise! [val_main_v37, val_main_v36, val_main_v35, val_main_v34, val_main_v33, val_main_v32, val_main_v31, val_main_v30, val_main_v29, val_main_v28, val_main_v27, val_main_v26, val_main_v25, val_main_v24, val_main_v23, val_main_cst_2, val_main_cst_3, val_main_cst_4, val_main_v0, val_main_v1, rms]

/-- The squared-ReLU layer of one row. -/
theorem mlp_at (R : Fin 32) (j : Fin 1024) : val_main_v45 (F := Ideal) x0 x1 x2 x3 x4 x5 (ix2 R j)
    = mlp (fun k => val_main_v37 (F := Ideal) x0 x1 x2 x5 (ix2 R k)) (fun k f => x3 (ix3 0 k f)) (fun f k => x4 (ix3 0 f k)) j := by
  pointwise! [val_main_v45, val_main_v44, val_main_v43, val_main_v42, val_main_v41, val_main_v40, val_main_v39, val_main_v38, val_main_call0_v0, val_main_call0_cst, mlp, Spec.hidden, relu2]

/-- The first result's row. -/
theorem out_at (R : Fin 32) (j : Fin 1024) : val_main_v61 (F := Ideal) x0 x1 x2 x3 x4 x5 (ix2 R j)
    = mid (fun k => val_main_v22 (F := Ideal) x0 x1 x2 x5 (ix2 R k)) (fun k => val_main_v45 (F := Ideal) x0 x1 x2 x3 x4 x5 (ix2 R k)) (fun k => x2 (ix3 0 3 k)) j := by
  pointwise! [val_main_v61, val_main_v60, val_main_v59, val_main_v58, val_main_v57, val_main_v56, val_main_v55, val_main_v54, val_main_v53, val_main_v52, val_main_v51, val_main_v50, val_main_v49, val_main_v48, val_main_v47, val_main_v46, val_main_cst_5, val_main_cst_6, val_main_cst_7, val_main_v0, val_main_v1, mid, rms]

/-- The second result's row. -/
theorem next_at (R : Fin 32) (j : Fin 1024) : val_main_v76 (F := Ideal) x0 x1 x2 x3 x4 x5 (ix2 R j)
    = rms (fun k => val_main_v61 (F := Ideal) x0 x1 x2 x3 x4 x5 (ix2 R k)) (fun k => x2 (ix3 1 0 k)) j := by
  pointwise! [val_main_v76, val_main_v75, val_main_v74, val_main_v73, val_main_v72, val_main_v71, val_main_v70, val_main_v69, val_main_v68, val_main_v67, val_main_v66, val_main_v65, val_main_v64, val_main_v63, val_main_v62, val_main_cst_8, val_main_cst_9, val_main_cst_10, rms]

/-- The first result's row is the layer's tail of the row. -/
theorem row_at (R : Fin 32) (j : Fin 1024) : val_main_v61 (F := Ideal) x0 x1 x2 x3 x4 x5 (ix2 R j)
    = Kernel4Ideal.Val.rowTail x0 x1 x2 x3 x4 x5 R j := by
  rw [out_at]
  simp only [mlp_at, norm_at, mid_at, proj_at]
  rfl

end Cert.Reference4Ideal.Rows
-- ==== Proof.NsaTailSampleClaim.lean ====
/-
The attention layer's tail and its reference end with the same two arrays.
-/
module

public import proofs.«01_k».proof.Proof.NsaTailSample
public import proofs.«01_k».proof.Proof.NsaTailSampleRef
public import proofs.«01_k».proof.Defs
public import proofs.«01_k».proof.Proof.Gen.Reference4Ideal.Run
public import Idealize.ShloMosaic.Lib.Claim

@[expose] public section

set_option maxRecDepth 16384

noncomputable section

namespace Cert.NsaTailSampleClaim

open Idealize.ShloMosaic Idealize.ShloMosaic.TcCoe Idealize.SL.Sem
open Cert.Spec

/-- The reference's first result is the array whose rows are the layer's tails of the rows. -/
theorem ref_eq (x0 : FVec Ideal Kernel4Ideal.S32x16x64 .bf16) (x1 : FVec Ideal Kernel4Ideal.S32x1x1024 .f32)
    (x2 : FVec Ideal Kernel4Ideal.S2x4x1024 .f32) (x3 : FVec Ideal Kernel4Ideal.S2x1024x4096 .f32)
    (x4 : FVec Ideal Kernel4Ideal.S2x4096x1024 .f32) (x5 : FVec Ideal Kernel4Ideal.S1x1024x1024 .f32) :
    (Reference4Ideal.Read.val_main_v61 (F := Ideal) x0 x1 x2 x3 x4 x5)
      = fun i : Kernel4Ideal.S32x1024.Idx => Kernel4Ideal.Val.rowTail x0 x1 x2 x3 x4 x5 (i 0) (i 1) := by
  funext i
  idx_vars i
  exact Reference4Ideal.Rows.row_at x0 x1 x2 x3 x4 x5 _ _

/-- The reference's second result is the array of those rows, normalised. -/
theorem ref_next (x0 : FVec Ideal Kernel4Ideal.S32x16x64 .bf16) (x1 : FVec Ideal Kernel4Ideal.S32x1x1024 .f32)
    (x2 : FVec Ideal Kernel4Ideal.S2x4x1024 .f32) (x3 : FVec Ideal Kernel4Ideal.S2x1024x4096 .f32)
    (x4 : FVec Ideal Kernel4Ideal.S2x4096x1024 .f32) (x5 : FVec Ideal Kernel4Ideal.S1x1024x1024 .f32) :
    (Reference4Ideal.Read.val_main_v76 (F := Ideal) x0 x1 x2 x3 x4 x5)
      = fun i : Kernel4Ideal.S32x1024.Idx => rms (Kernel4Ideal.Val.rowTail x0 x1 x2 x3 x4 x5 (i 0))
          (fun k => x2 (ix3 1 0 k)) (i 1) := by
  funext i
  idx_vars i
  refine (Reference4Ideal.Rows.next_at x0 x1 x2 x3 x4 x5 _ _).trans ?_
  exact congrArg (fun f => rms f (fun k => x2 (ix3 1 0 k)) i1)
    (funext fun k => Reference4Ideal.Rows.row_at x0 x1 x2 x3 x4 x5 i0 k)

/-- Both programs leave the same two arrays. -/
theorem algebraic : Cert.algebraic_Kernel4Ideal_Reference4Ideal := by
  pair_intro
  · run_from Cert.Kernel4Ideal.Gen.run_main m g
  · run_from Cert.Reference4Ideal.Value.run m' g'
    · obtain ⟨h0, h1, h2, h3, h4, h5⟩ := hagree c
      refine Eq.trans (b := Reference4Ideal.Read.val_main_v61 (F := Ideal) (m' ((c.tc : Thread Reference4Ideal.nD Reference4Ideal.τ).loc Reference4Ideal.main_arg0)) (m' ((c.tc : Thread Reference4Ideal.nD Reference4Ideal.τ).loc Reference4Ideal.main_arg1)) (m' ((c.tc : Thread Reference4Ideal.nD Reference4Ideal.τ).loc Reference4Ideal.main_arg2)) (m' ((c.tc : Thread Reference4Ideal.nD Reference4Ideal.τ).loc Reference4Ideal.main_arg3)) (m' ((c.tc : Thread Reference4Ideal.nD Reference4Ideal.τ).loc Reference4Ideal.main_arg4)) (m' ((c.tc : Thread Reference4Ideal.nD Reference4Ideal.τ).loc Reference4Ideal.main_arg5))) ?_ ?_
      · exact Reference4Ideal.Read.val_main_v61_eq (StableHlo.launchContents m' c)
      rw [h0, h1, h2, h3, h4, h5, ref_eq]
      exact (Kernel4Ideal.Val.final m c).symm
    · obtain ⟨h0, h1, h2, h3, h4, h5⟩ := hagree c
      refine Eq.trans (b := Reference4Ideal.Read.val_main_v76 (F := Ideal) (m' ((c.tc : Thread Reference4Ideal.nD Reference4Ideal.τ).loc Reference4Ideal.main_arg0)) (m' ((c.tc : Thread Reference4Ideal.nD Reference4Ideal.τ).loc Reference4Ideal.main_arg1)) (m' ((c.tc : Thread Reference4Ideal.nD Reference4Ideal.τ).loc Reference4Ideal.main_arg2)) (m' ((c.tc : Thread Reference4Ideal.nD Reference4Ideal.τ).loc Reference4Ideal.main_arg3)) (m' ((c.tc : Thread Reference4Ideal.nD Reference4Ideal.τ).loc Reference4Ideal.main_arg4)) (m' ((c.tc : Thread Reference4Ideal.nD Reference4Ideal.τ).loc Reference4Ideal.main_arg5))) ?_ ?_
      · rw [← h2]; exact Reference4Ideal.Read.val_main_v76_eq (StableHlo.launchContents m' c)
      rw [h0, h1, h2, h3, h4, h5, ref_next]
      exact (Kernel4Ideal.Val.finalNext m c).symm

end Cert.NsaTailSampleClaim
-- ==== Proof.S5TailSamplePay.lean ====
module

public import proofs.«01_k».proof.Proof.Spec
public import proofs.«01_k».proof.Proof.Gen.Kernel5Ideal.Skeleton

@[expose] public section

set_option maxRecDepth 16384

noncomputable section

open Idealize.ShloMosaic Idealize.ShloMosaic.TcCoe Idealize.SL.Sem

namespace Cert.Kernel5Ideal.Pay

open Cert.Kernel5Ideal Cert.Kernel5Ideal.Gen Cert.Spec

/-- The mixer's block, row by row, is the gated linear unit of the row. -/
theorem glu_at (v0 : Vec Ideal S32x1024 .f32) (v2 : Vec Ideal S1x1024 .f32) (v4 : Vec Ideal S32x1024 .f32)
    (v22 : Vec Ideal S1024x1024 .bf16) (v25 : Vec Ideal S1x1024 .f32) (r : Fin 32) (j : Fin 1024) :
    k0_pay3 v0 v2 v4 v22 v25 (ix2 r j)
      = glu (fun k => v0 (ix2 r k)) (fun k => v4 (ix2 r k)) (fun k => v2 (ix2 0 k)) (fun k => v25 (ix2 0 k))
          (fun k l => v22 (ix2 k l)) j := by
  pointwise [k0_pay3, glu, gelu]

/-- The residual stream after the mixer, row by row. -/
theorem mid_at (v0 : Vec Ideal S32x1024 .f32) (v2 : Vec Ideal S1x1024 .f32) (v4 : Vec Ideal S32x1024 .f32)
    (v22 : Vec Ideal S1024x1024 .bf16) (v25 : Vec Ideal S1x1024 .f32) (v31 : Vec Ideal S32x1024 .f32)
    (v32 : Vec Ideal S1x1024 .f32) (r : Fin 32) (j : Fin 1024) :
    k0_pay7 (k0_pay3 v0 v2 v4 v22 v25) v31 (k0_pay4 v32) (k0_pay5 v0 v2 v4 v22 v25) (k0_pay6 (F := Ideal)) (ix2 r j)
      = mid (fun k => v31 (ix2 r k))
          (glu (fun k => v0 (ix2 r k)) (fun k => v4 (ix2 r k)) (fun k => v2 (ix2 0 k)) (fun k => v25 (ix2 0 k))
            (fun k l => v22 (ix2 k l))) (fun k => v32 (ix2 0 k)) j := by
  pointwise [k0_pay7, k0_pay4, k0_pay5, k0_pay6, glu_at, mid, rms]

/-- The MLP's normalised input, row by row, over any block of the residual stream. -/
theorem norm_at (v30 : FVec Ideal S32x1024 .f32) (v31 : Vec Ideal S32x1024 .f32) (v33 : FVec Ideal S1x1024 .f32)
    (v36 v37 : FVec Ideal S32x1 .f32) (v47 : Vec Ideal S1x1024 .f32) (r : Fin 32) (j : Fin 1024) :
    k0_pay8 v30 v31 v33 v36 v37 v47 (ix2 r j)
      = rms (fun k => k0_pay7 v30 v31 v33 v36 v37 (ix2 r k)) (fun k => v47 (ix2 0 k)) j := by
  pointwise [k0_pay8, rms]

/-- The first quarter of the MLP. -/
theorem part0_at (v30 : FVec Ideal S32x1024 .f32) (v31 : Vec Ideal S32x1024 .f32) (v33 : FVec Ideal S1x1024 .f32)
    (v36 v37 : FVec Ideal S32x1 .f32) (v47 : Vec Ideal S1x1024 .f32) (a b : Vec Ideal S1024x1024 .bf16)
    (r : Fin 32) (j : Fin 1024) :
    k0_pay9 v30 v31 v33 v36 v37 v47 a b (ix2 r j)
      = ∑ k : Fin 1024, relu2 (∑ i : Fin 1024, k0_pay8 v30 v31 v33 v36 v37 v47 (ix2 r i) * a (ix2 i k)) * b (ix2 k j) := by
  pointwise [k0_pay9, relu2]

/-- The second quarter, added to what was accumulated. -/
theorem part1_at (v30 : FVec Ideal S32x1024 .f32) (v31 : Vec Ideal S32x1024 .f32) (v33 : FVec Ideal S1x1024 .f32)
    (v36 v37 : FVec Ideal S32x1 .f32) (v47 : Vec Ideal S1x1024 .f32) (a b : Vec Ideal S1024x1024 .bf16)
    (acc : Vec Ideal S32x1024 .f32) (r : Fin 32) (j : Fin 1024) :
    k0_pay11 (k0_pay10 v30 v31 v33 v36 v37 v47 a) (Scalar.ofBits .f32 0x00000000#32) b acc (ix2 r j)
      = acc (ix2 r j) + ∑ k : Fin 1024,
          relu2 (∑ i : Fin 1024, k0_pay8 v30 v31 v33 v36 v37 v47 (ix2 r i) * a (ix2 i k)) * b (ix2 k j) := by
  pointwise [k0_pay11, k0_pay10, relu2]

/-- The third quarter, added to what was accumulated. -/
theorem part2_at (v61 : FVec Ideal S32x1024 .bf16) (a b : Vec Ideal S1024x1024 .bf16)
    (acc : Vec Ideal S32x1024 .f32) (r : Fin 32) (j : Fin 1024) :
    k0_pay12 v61 a b acc (ix2 r j)
      = acc (ix2 r j) + ∑ k : Fin 1024, relu2 (∑ i : Fin 1024, v61 (ix2 r i) * a (ix2 i k)) * b (ix2 k j) := by
  pointwise [k0_pay12, relu2]

/-- The last quarter, added to what was accumulated. -/
theorem part3_at (v61 : FVec Ideal S32x1024 .bf16) (a b : Vec Ideal S1024x1024 .bf16)
    (acc : Vec Ideal S32x1024 .f32) (r : Fin 32) (j : Fin 1024) :
    k0_pay1 (k0_pay13 v61 a) b acc (ix2 r j)
      = acc (ix2 r j) + ∑ k : Fin 1024, relu2 (∑ i : Fin 1024, v61 (ix2 r i) * a (ix2 i k)) * b (ix2 k j) := by
  pointwise [k0_pay1, k0_pay13, relu2]

/-- The layer's result, row by row: the residual stream plus the normalised MLP output. -/
theorem out_at (v46 : FVec Ideal S32x1024 .f32) (acc : Vec Ideal S32x1024 .f32) (v121 : Vec Ideal S1x1024 .f32)
    (r : Fin 32) (j : Fin 1024) :
    k0_pay2 v46 acc v121 (ix2 r j)
      = v46 (ix2 r j) + rms (fun k => acc (ix2 r k)) (fun k => v121 (ix2 0 k)) j := by
  pointwise [k0_pay2, rms]

/-- The whole block, row by row: the layer's tail of the row, for weight quarters that are the runs of 1024 columns of
    `W1` and rows of `W2`. -/
theorem block_at (x0 x1 x5 : Vec Ideal S32x1024 .f32) (x2 x4 x6 x7 x10 : Vec Ideal S1x1024 .f32)
    (x3 a0 a1 a2 a3 b0 b1 b2 b3 : Vec Ideal S1024x1024 .bf16)
    (W1 : Fin 1024 → Fin 4096 → EReal) (W2 : Fin 4096 → Fin 1024 → EReal)
    (ha0 : ∀ i k : Fin 1024, a0 (ix2 i k) = W1 i ⟨(k : ℕ), by omega⟩)
    (ha1 : ∀ i k : Fin 1024, a1 (ix2 i k) = W1 i ⟨1024 + (k : ℕ), by omega⟩)
    (ha2 : ∀ i k : Fin 1024, a2 (ix2 i k) = W1 i ⟨2048 + (k : ℕ), by omega⟩)
    (ha3 : ∀ i k : Fin 1024, a3 (ix2 i k) = W1 i ⟨3072 + (k : ℕ), by omega⟩)
    (hb0 : ∀ k j : Fin 1024, b0 (ix2 k j) = W2 ⟨(k : ℕ), by omega⟩ j)
    (hb1 : ∀ k j : Fin 1024, b1 (ix2 k j) = W2 ⟨1024 + (k : ℕ), by omega⟩ j)
    (hb2 : ∀ k j : Fin 1024, b2 (ix2 k j) = W2 ⟨2048 + (k : ℕ), by omega⟩ j)
    (hb3 : ∀ k j : Fin 1024, b3 (ix2 k j) = W2 ⟨3072 + (k : ℕ), by omega⟩ j)
    (r : Fin 32) (j : Fin 1024) :
    k0_pay2 (k0_pay7 (k0_pay3 x0 x2 x1 x3 x4) x5 (k0_pay4 x6) (k0_pay5 x0 x2 x1 x3 x4) k0_pay6)
      (k0_pay1 (k0_pay13 (k0_pay8 (k0_pay3 x0 x2 x1 x3 x4) x5 (k0_pay4 x6) (k0_pay5 x0 x2 x1 x3 x4) k0_pay6 x7) a3) b3
        (k0_pay12 (k0_pay8 (k0_pay3 x0 x2 x1 x3 x4) x5 (k0_pay4 x6) (k0_pay5 x0 x2 x1 x3 x4) k0_pay6 x7) a2 b2
          (k0_pay11 (k0_pay10 (k0_pay3 x0 x2 x1 x3 x4) x5 (k0_pay4 x6) (k0_pay5 x0 x2 x1 x3 x4) k0_pay6 x7 a1)
            (FloatOps.ofBits FTy.f32 0#32) b1
            (k0_pay9 (k0_pay3 x0 x2 x1 x3 x4) x5 (k0_pay4 x6) (k0_pay5 x0 x2 x1 x3 x4) k0_pay6 x7 a0 b0))))
      x10 (ix2 r j)
    = tail (fun k => x5 (ix2 r k))
        (glu (fun k => x0 (ix2 r k)) (fun k => x1 (ix2 r k)) (fun k => x2 (ix2 0 k)) (fun k => x4 (ix2 0 k))
          (fun k l => x3 (ix2 k l)))
        (fun k => x6 (ix2 0 k)) (fun k => x7 (ix2 0 k)) (fun k => x10 (ix2 0 k)) W1 W2 j := by
  have hsum : ∀ l : Fin 1024,
      k0_pay1 (k0_pay13 (k0_pay8 (k0_pay3 x0 x2 x1 x3 x4) x5 (k0_pay4 x6) (k0_pay5 x0 x2 x1 x3 x4) k0_pay6 x7) a3) b3
        (k0_pay12 (k0_pay8 (k0_pay3 x0 x2 x1 x3 x4) x5 (k0_pay4 x6) (k0_pay5 x0 x2 x1 x3 x4) k0_pay6 x7) a2 b2
          (k0_pay11 (k0_pay10 (k0_pay3 x0 x2 x1 x3 x4) x5 (k0_pay4 x6) (k0_pay5 x0 x2 x1 x3 x4) k0_pay6 x7 a1)
            (FloatOps.ofBits FTy.f32 0#32) b1
            (k0_pay9 (k0_pay3 x0 x2 x1 x3 x4) x5 (k0_pay4 x6) (k0_pay5 x0 x2 x1 x3 x4) k0_pay6 x7 a0 b0))) (ix2 r l)
      = mlp (fun i => k0_pay8 (k0_pay3 x0 x2 x1 x3 x4) x5 (k0_pay4 x6) (k0_pay5 x0 x2 x1 x3 x4) k0_pay6 x7 (ix2 r i))
          W1 W2 l := by
    intro l
    rw [part3_at, part2_at, part1_at, part0_at]
    simp only [ha0, ha1, ha2, ha3, hb0, hb1, hb2, hb3]
    generalize k0_pay8 (k0_pay3 x0 x2 x1 x3 x4) x5 (k0_pay4 x6) (k0_pay5 x0 x2 x1 x3 x4) k0_pay6 x7 = X
    exact sum_four fun f => relu2 (∑ i : Fin 1024, X (ix2 r i) * W1 i f) * W2 f l
  refine (out_at _ _ _ r j).trans ?_
  have hm := mid_at x0 x2 x1 x3 x4 x5 x6 r
  have hn : (fun i => k0_pay8 (k0_pay3 x0 x2 x1 x3 x4) x5 (k0_pay4 x6) (k0_pay5 x0 x2 x1 x3 x4) k0_pay6 x7 (ix2 r i))
      = rms (mid (fun k => x5 (ix2 r k))
        (glu (fun k => x0 (ix2 r k)) (fun k => x1 (ix2 r k)) (fun k => x2 (ix2 0 k)) (fun k => x4 (ix2 0 k))
          (fun k l => x3 (ix2 k l))) (fun k => x6 (ix2 0 k))) (fun k => x7 (ix2 0 k)) :=
    funext fun i => (norm_at _ _ _ _ _ x7 r i).trans (congrArg (fun f => rms f (fun k => x7 (ix2 0 k)) i) (funext hm))
  refine congrArg₂ (· + ·) (hm j) (congrArg (fun f => rms f (fun k => x10 (ix2 0 k)) j) (funext fun l => ?_))
  exact (hsum l).trans (congrArg (fun f => mlp f W1 W2 l) hn)

end Cert.Kernel5Ideal.Pay

end
-- ==== Proof.S5TailSample.lean ====
module

public import proofs.«01_k».proof.Proof.S5TailSamplePay
public import proofs.«01_k».proof.Proof.Gen.Kernel5Ideal.Value
public import Idealize.ShloMosaic.Lib.Claim

@[expose] public section

set_option maxRecDepth 16384

noncomputable section

open Idealize.ShloMosaic Idealize.ShloMosaic.TcCoe Idealize.SL.Sem

namespace Cert.Kernel5Ideal.Val

open Cert.Kernel5Ideal Cert.Kernel5Ideal.Gen Cert.Kernel5Ideal.Pay Cert.Spec
open Idealize.ShloMosaic.Pipeline (Dat)

variable (m : (ℓ : Loc nD τ sig) → Buf (Elt Ideal) ℓ)

/-- The index maps of the windows, at every grid point: the row blocks move with the point, the weights stay. -/
theorem idx : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![t.val, 0] ∧ win0_6.index t = ![0, 0]
    ∧ win0_7.index t = ![0, 0] ∧ win0_8.index t = ![0, 0] ∧ win0_9.index t = ![0, 0] ∧ win0_10.index t = ![0, 0]
    ∧ win0_11.index t = ![t.val, 0] :=
  (by decide +kernel : ∀ t : Fin grid0.N, _)

/-- What a grid point leaves in its block is the layer's tail of the block's rows. -/
theorem point (c : Dev nD) (t : Fin cfg0.N) (r : Fin 32) (j : Fin 1024) :
    outsAt0 m c t (ix2 r j)
      = tail (fun k => iblk m c 5 t (ix2 r k))
        (glu (fun k => iblk m c 0 t (ix2 r k)) (fun k => iblk m c 1 t (ix2 r k)) (fun k => iblk m c 2 t (ix2 0 k))
          (fun k => iblk m c 4 t (ix2 0 k)) (fun k l => iblk m c 3 t (ix2 k l)))
        (fun k => iblk m c 6 t (ix2 0 k)) (fun k => iblk m c 7 t (ix2 0 k)) (fun k => iblk m c 10 t (ix2 0 k))
        (fun i f => iblk m c 8 t (ix2 i f)) (fun f l => iblk m c 9 t (ix2 f l)) j := by
  unfold outsAt0
  frame_out
  refine block_at _ _ _ _ _ _ _ _ _ _ _ _ _ _ _ _ _ _ _ ?_ ?_ ?_ ?_ ?_ ?_ ?_ ?_ r j <;> intro i k <;> pointwise

/-- Row `r` of the batch, the one grid point's block being all of it. -/
abbrev rowOf (t : Fin cfg0.N) (r : Fin 32) : Fin 32 :=
  ⟨t.val * 32 + r.val, by have := lt_of_lt_of_eq t.isLt N_0; omega⟩

/-- The layer's tail of one sample row, over the argument arrays. -/
def rowTail (x0 : FVec Ideal S8x32x128 .f32) (x1 x2 : FVec Ideal S32x1024 .f32) (x3 : FVec Ideal S2x4x1024 .f32)
    (x4 : FVec Ideal S2x1024x4096 .f32) (x5 : FVec Ideal S2x4096x1024 .f32) (x6 : FVec Ideal S1x1024 .f32)
    (x7 : FVec Ideal S1x1024x1024 .f32) (x8 : FVec Ideal S1x1024 .f32) (R : Fin 32) : Row :=
  tail (fun k => x2 (ix2 R k))
    (glu (fun k => x0 (ix3 ⟨k.val / 128, by omega⟩ R ⟨k.val % 128, by omega⟩)) (fun k => x1 (ix2 R k))
      (fun k => x6 (ix2 0 k)) (fun k => x8 (ix2 0 k)) (fun k l => x7 (ix3 0 k l)))
    (fun k => x3 (ix3 1 1 k)) (fun k => x3 (ix3 1 2 k)) (fun k => x3 (ix3 1 3 k))
    (fun k f => x4 (ix3 1 k f)) (fun f k => x5 (ix3 1 f k))

theorem blk0 (c : Dev nD) (t : Fin cfg0.N) (r : Fin 32) (k : Fin 1024) : iblk m c 0 t (ix2 r k)
    = m ((c : Thread nD τ).loc main_arg0) (ix3 ⟨k.val / 128, by omega⟩ (rowOf t r) ⟨k.val % 128, by omega⟩) := by
  blk_simp [iblk, idx t]
  entry_read
  pointwise
  blk_ext [idx t]

theorem blk1 (c : Dev nD) (t : Fin cfg0.N) (r : Fin 32) (k : Fin 1024) : iblk m c 1 t (ix2 r k)
    = m ((c : Thread nD τ).loc main_arg1) (ix2 (rowOf t r) k) := by
  blk_ext [iblk, V, idx t]

theorem blk2 (c : Dev nD) (t : Fin cfg0.N) (k : Fin 1024) : iblk m c 2 t (ix2 0 k)
    = m ((c : Thread nD τ).loc main_arg6) (ix2 0 k) := by
  blk_simp [iblk, idx t]
  entry_read
  pointwise
  blk_ext [idx t]

theorem blk3 (c : Dev nD) (t : Fin cfg0.N) (k l : Fin 1024) : iblk m c 3 t (ix2 k l)
    = m ((c : Thread nD τ).loc main_arg7) (ix3 0 k l) := by
  blk_simp [iblk, idx t]
  entry_read
  pointwise
  blk_ext [idx t]

theorem blk4 (c : Dev nD) (t : Fin cfg0.N) (k : Fin 1024) : iblk m c 4 t (ix2 0 k)
    = m ((c : Thread nD τ).loc main_arg8) (ix2 0 k) := by
  blk_simp [iblk, idx t]
  entry_read
  pointwise
  blk_ext [idx t]

theorem blk5 (c : Dev nD) (t : Fin cfg0.N) (r : Fin 32) (k : Fin 1024) : iblk m c 5 t (ix2 r k)
    = m ((c : Thread nD τ).loc main_arg2) (ix2 (rowOf t r) k) := by
  blk_ext [iblk, V, idx t]

theorem blk6 (c : Dev nD) (t : Fin cfg0.N) (k : Fin 1024) : iblk m c 6 t (ix2 0 k)
    = m ((c : Thread nD τ).loc main_arg3) (ix3 1 1 k) := by
  blk_simp [iblk, idx t]
  entry_read
  pointwise
  blk_ext [idx t]

theorem blk7 (c : Dev nD) (t : Fin cfg0.N) (k : Fin 1024) : iblk m c 7 t (ix2 0 k)
    = m ((c : Thread nD τ).loc main_arg3) (ix3 1 2 k) := by
  blk_simp [iblk, idx t]
  entry_read
  pointwise
  blk_ext [idx t]

theorem blk8 (c : Dev nD) (t : Fin cfg0.N) (k : Fin 1024) (f : Fin 4096) : iblk m c 8 t (ix2 k f)
    = m ((c : Thread nD τ).loc main_arg4) (ix3 1 k f) := by
  blk_simp [iblk, idx t]
  entry_read
  pointwise
  blk_ext [idx t]

theorem blk9 (c : Dev nD) (t : Fin cfg0.N) (f : Fin 4096) (k : Fin 1024) : iblk m c 9 t (ix2 f k)
    = m ((c : Thread nD τ).loc main_arg5) (ix3 1 f k) := by
  blk_simp [iblk, idx t]
  entry_read
  pointwise
  blk_ext [idx t]

theorem blk10 (c : Dev nD) (t : Fin cfg0.N) (k : Fin 1024) : iblk m c 10 t (ix2 0 k)
    = m ((c : Thread nD τ).loc main_arg3) (ix3 1 3 k) := by
  blk_simp [iblk, idx t]
  entry_read
  pointwise
  blk_ext [idx t]

/-- The result array after the run: every row is the layer's tail of that row. -/
theorem final (c : Dev nD) : (dats m 0 c).arrAt 11 (cfgs 0).N
    = fun i : S32x1024.Idx => rowTail (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7))
        (m ((c : Thread nD τ).loc main_arg8)) (i 0) (i 1) := by
  refine (dats m 0 c).arrAt_eq_of_covers 11 _ (by decide +kernel) fun t _ y => ?_
  blk_simp
  rw [after0_11]
  idx_vars y
  rw [point]
  simp only [blk0, blk1, blk2, blk3, blk4, blk5, blk6, blk7, blk8, blk9, blk10]
  have hi : ((View.whole main_v21).slice (win0_11.rect t)).emb (ix2 y0 y1) = ix2 (rowOf t y0) y1 := by
    blk_ext [idx t]
  rw [hi]
  rfl

end Cert.Kernel5Ideal.Val

end
-- ==== Proof.S5TailSampleRef.lean ====
/-
The reference of the state-space layer's tail, read row by row: the gated feed-through, the residual and
its normalization, the relu² layer, and the last normalization.
-/
module

public import proofs.«01_k».proof.Proof.Gen.Reference5Ideal.Read
public import proofs.«01_k».proof.Proof.Spec

@[expose] public section

set_option maxRecDepth 16384

noncomputable section

namespace Cert.Reference5Ideal.Rows

open Idealize.ShloMosaic Idealize.ShloMosaic.TcCoe Idealize.SL.Sem
open Cert.Spec Cert.Reference5Ideal.Read

variable (x0 : FVec Ideal S8x32x128 .f32) (x1 x2 : FVec Ideal S32x1024 .f32) (x3 : FVec Ideal S2x4x1024 .f32)
  (x4 : FVec Ideal S2x1024x4096 .f32) (x5 : FVec Ideal S2x4096x1024 .f32) (x6 : FVec Ideal S1x1024 .f32)
  (x7 : FVec Ideal S1x1024x1024 .f32) (x8 : FVec Ideal S1x1024 .f32)

/-- The gated feed-through of one row. -/
theorem glu_at (R : Fin 32) (j : Fin 1024) : val_main_v34 (F := Ideal) x0 x1 x6 x7 x8 (ix2 R j)
    = glu (fun k => x0 (ix3 ⟨k.val / 128, by omega⟩ R ⟨k.val % 128, by omega⟩)) (fun k => x1 (ix2 R k))
      (fun k => x6 (ix2 0 k)) (fun k => x8 (ix2 0 k)) (fun k l => x7 (ix3 0 k l)) j := by
  simp only [glu, gelu_eq, Ideal.logistic]
  pointwise! [val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4]

/-- The residual row after the sublayer. -/
theorem mid_at (R : Fin 32) (j : Fin 1024) : val_main_v50 (F := Ideal) x0 x1 x2 x3 x6 x7 x8 (ix2 R j)
    = mid (fun k => x2 (ix2 R k)) (fun k => val_main_v34 (F := Ideal) x0 x1 x6 x7 x8 (ix2 R k)) (fun k => x3 (ix3 1 1 k)) j := by
  pointwise! [val_main_v50, val_main_v49, val_main_v48, val_main_v47, val_main_v46, val_main_v45, val_main_v44, val_main_v43, val_main_v42, val_main_v41, val_main_v40, val_main_v39, val_main_v38, val_main_v37, val_main_v36, val_main_v35, val_main_cst_5, val_main_cst_6, val_main_cst_7, val_main_v0, val_main_v1, mid, rms]

/-- The normalized row. -/
theorem norm_at (R : Fin 32) (j : Fin 1024) : val_main_v65 (F := Ideal) x0 x1 x2 x3 x6 x7 x8 (ix2 R j)
    = rms (fun k => val_main_v50 (F := Ideal) x0 x1 x2 x3 x6 x7 x8 (ix2 R k)) (fun k => x3 (ix3 1 2 k)) j := by
  pointwise! [val_main_v65, val_main_v64, val_main_v63, val_main_v62, val_main_v61, val_main_v60, val_main_v59, val_main_v58, val_main_v57, val_main_v56, val_main_v55, val_main_v54, val_main_v53, val_main_v52, val_main_v51, val_main_cst_8, val_main_cst_9, val_main_cst_10, val_main_v0, val_main_v1, rms]

/-- The relu² layer of one row. -/
theorem mlp_at (R : Fin 32) (j : Fin 1024) : val_main_v73 (F := Ideal) x0 x1 x2 x3 x4 x5 x6 x7 x8 (ix2 R j)
    = mlp (fun k => val_main_v65 (F := Ideal) x0 x1 x2 x3 x6 x7 x8 (ix2 R k)) (fun k f => x4 (ix3 1 k f)) (fun f k => x5 (ix3 1 f k)) j := by
  pointwise! [val_main_v73, val_main_v72, val_main_v71, val_main_v70, val_main_v69, val_main_v68, val_main_v67, val_main_v66, val_main_call0_v0, val_main_call0_cst, mlp, Spec.hidden, relu2]

/-- The result row. -/
theorem out_at (R : Fin 32) (j : Fin 1024) : val_main_v89 (F := Ideal) x0 x1 x2 x3 x4 x5 x6 x7 x8 (ix2 R j)
    = mid (fun k => val_main_v50 (F := Ideal) x0 x1 x2 x3 x6 x7 x8 (ix2 R k)) (fun k => val_main_v73 (F := Ideal) x0 x1 x2 x3 x4 x5 x6 x7 x8 (ix2 R k)) (fun k => x3 (ix3 1 3 k)) j := by
  pointwise! [val_main_v89, val_main_v88, val_main_v87, val_main_v86, val_main_v85, val_main_v84, val_main_v83, val_main_v82, val_main_v81, val_main_v80, val_main_v79, val_main_v78, val_main_v77, val_main_v76, val_main_v75, val_main_v74, val_main_cst_11, val_main_cst_12, val_main_cst_13, val_main_v0, val_main_v1, mid, rms]

/-- The result row is the layer's tail of the row. -/
theorem row_at (R : Fin 32) (j : Fin 1024) : val_main_v89 (F := Ideal) x0 x1 x2 x3 x4 x5 x6 x7 x8 (ix2 R j)
    = tail (fun k => x2 (ix2 R k))
    (glu (fun k => x0 (ix3 ⟨k.val / 128, by omega⟩ R ⟨k.val % 128, by omega⟩)) (fun k => x1 (ix2 R k))
      (fun k => x6 (ix2 0 k)) (fun k => x8 (ix2 0 k)) (fun k l => x7 (ix3 0 k l)))
    (fun k => x3 (ix3 1 1 k)) (fun k => x3 (ix3 1 2 k)) (fun k => x3 (ix3 1 3 k))
    (fun k f => x4 (ix3 1 k f)) (fun f k => x5 (ix3 1 f k)) j := by
  rw [out_at]
  simp only [mlp_at, norm_at, mid_at, glu_at]
  rfl

end Cert.Reference5Ideal.Rows
-- ==== Proof.S5TailSampleClaim.lean ====
/-
The state-space layer's tail and its reference end with the same array.
-/
module

public import proofs.«01_k».proof.Proof.S5TailSample
public import proofs.«01_k».proof.Proof.S5TailSampleRef
public import proofs.«01_k».proof.Defs
public import proofs.«01_k».proof.Proof.Gen.Reference5Ideal.Run
public import proofs.«01_k».proof.Proof.Gen.Kernel5.Frame
public import proofs.«01_k».proof.Proof.Gen.Kernel5
public import Idealize.ShloMosaic.Lib.Claim

@[expose] public section

set_option maxRecDepth 16384

noncomputable section

namespace Cert.S5TailSampleClaim

open Idealize.ShloMosaic Idealize.ShloMosaic.TcCoe Idealize.SL.Sem
open Cert.Spec

/-- The reference's result is the array whose rows are the layer's tails of the rows. -/
theorem ref_eq (x0 : FVec Ideal Kernel5Ideal.S8x32x128 .f32) (x1 x2 : FVec Ideal Kernel5Ideal.S32x1024 .f32)
    (x3 : FVec Ideal Kernel5Ideal.S2x4x1024 .f32) (x4 : FVec Ideal Kernel5Ideal.S2x1024x4096 .f32)
    (x5 : FVec Ideal Kernel5Ideal.S2x4096x1024 .f32) (x6 : FVec Ideal Kernel5Ideal.S1x1024 .f32)
    (x7 : FVec Ideal Kernel5Ideal.S1x1024x1024 .f32) (x8 : FVec Ideal Kernel5Ideal.S1x1024 .f32) :
    (Reference5Ideal.Read.val_main_v89 (F := Ideal) x0 x1 x2 x3 x4 x5 x6 x7 x8)
      = fun i : Kernel5Ideal.S32x1024.Idx => Kernel5Ideal.Val.rowTail x0 x1 x2 x3 x4 x5 x6 x7 x8 (i 0) (i 1) := by
  funext i
  idx_vars i
  exact Reference5Ideal.Rows.row_at x0 x1 x2 x3 x4 x5 x6 x7 x8 _ _

/-- Both programs leave the same array. -/
theorem algebraic : Cert.algebraic_Kernel5Ideal_Reference5Ideal := by
  pair_intro
  · run_from Cert.Kernel5Ideal.Gen.run_main m g
  · run_from Cert.Reference5Ideal.Value.run m' g'
    obtain ⟨h0, h1, h2, h3, h4, h5, h6, h7, h8⟩ := hagree c
    refine Eq.trans (b := Reference5Ideal.Read.val_main_v89 (F := Ideal) (m' ((c.tc : Thread Reference5Ideal.nD Reference5Ideal.τ).loc Reference5Ideal.main_arg0)) (m' ((c.tc : Thread Reference5Ideal.nD Reference5Ideal.τ).loc Reference5Ideal.main_arg1)) (m' ((c.tc : Thread Reference5Ideal.nD Reference5Ideal.τ).loc Reference5Ideal.main_arg2)) (m' ((c.tc : Thread Reference5Ideal.nD Reference5Ideal.τ).loc Reference5Ideal.main_arg3)) (m' ((c.tc : Thread Reference5Ideal.nD Reference5Ideal.τ).loc Reference5Ideal.main_arg4)) (m' ((c.tc : Thread Reference5Ideal.nD Reference5Ideal.τ).loc Reference5Ideal.main_arg5)) (m' ((c.tc : Thread Reference5Ideal.nD Reference5Ideal.τ).loc Reference5Ideal.main_arg6)) (m' ((c.tc : Thread Reference5Ideal.nD Reference5Ideal.τ).loc Reference5Ideal.main_arg7)) (m' ((c.tc : Thread Reference5Ideal.nD Reference5Ideal.τ).loc Reference5Ideal.main_arg8))) ?_ ?_
    · exact Reference5Ideal.Read.val_main_v89_eq (StableHlo.launchContents m' c)
    rw [h0, h1, h2, h3, h4, h5, h6, h7, h8, ref_eq]
    exact (Kernel5Ideal.Val.final m c).symm

end Cert.S5TailSampleClaim
-- ==== Proof.InprojSpec.lean ====
/-
The attention layer's input projection: the row norm, the projections and the rotary embedding of one row.
-/
module

public import proofs.«01_k».proof.Proof.Spec
public import Idealize.ShloMosaic.Lib.Claim

@[expose] public section

set_option maxRecDepth 16384

noncomputable section

namespace Cert.Inproj

open Idealize.ShloMosaic Idealize.ShloMosaic.TcCoe Idealize.SL.Sem Cert.Spec

/-- One entry of a projection: the normalised row against one column of the weights. -/
def proj (x g : Row) (w : Fin 1024 → EReal) : EReal := ∑ k : Fin 1024, rms x g k * w k

/-- The rotary embedding of one head: the two halves of the head's lanes, turned by the position's angles. -/
def rope (z : Fin 64 → EReal) (co si : Fin 32 → EReal) (d : Fin 64) : EReal :=
  if d.val < 32 then z d * co ⟨d.val % 32, by omega⟩ - z ⟨(d.val + 32) % 64, by omega⟩ * si ⟨d.val % 32, by omega⟩
  else z d * co ⟨d.val % 32, by omega⟩ + z ⟨(d.val + 32) % 64, by omega⟩ * si ⟨d.val % 32, by omega⟩

/-- The kernel's form of the turn: the other half of the head against a sine that carries the sign. -/
def turn (z : Fin 64 → EReal) (c s : EReal) (d : Fin 64) : EReal := z d * c + z ⟨(d.val + 32) % 64, by omega⟩ * s

/-- The two forms agree. -/
theorem turn_eq (z : Fin 64 → EReal) (co si : Fin 32 → EReal) (d : Fin 64) :
    turn z (co ⟨d.val % 32, by omega⟩) (if d.val < 32 then -si ⟨d.val % 32, by omega⟩ else si ⟨d.val % 32, by omega⟩) d = rope z co si d := by
  unfold turn rope
  split_ifs with h
  · rw [mul_neg, sub_eq_add_neg]
  · rfl

/-- The kernel's choice between the two rolls of a pair of heads goes by the lane's half within its head. -/
theorem sel_eq {α : Type} (j : ℕ) (hj : j < 128) (u v : α) :
    Scalar.select (IntOp.cmpi CmpIPredicate.slt
              (Scalar.select
                (IntOp.andi
                  (IntOp.xori
                    (IntOp.cmpi CmpIPredicate.slt
                      (IntOp.remsi ArithUnit.vector (BitVec.ofNat 32 j)
                        (Scalar.select (Scalar.cmpi CmpIPredicate.eq 64#32 0#32) 1#32 64#32))
                      0#32)
                    (Scalar.cmpi CmpIPredicate.slt (Scalar.select (Scalar.cmpi CmpIPredicate.eq 64#32 0#32) 1#32 64#32)
                      0#32))
                  (IntOp.cmpi CmpIPredicate.ne
                    (IntOp.remsi ArithUnit.vector (BitVec.ofNat 32 j)
                      (Scalar.select (Scalar.cmpi CmpIPredicate.eq 64#32 0#32) 1#32 64#32))
                    0#32))
                (IntOp.addi
                  (IntOp.remsi ArithUnit.vector (BitVec.ofNat 32 j)
                    (Scalar.select (Scalar.cmpi CmpIPredicate.eq 64#32 0#32) 1#32 64#32))
                  (Scalar.select (Scalar.cmpi CmpIPredicate.eq 64#32 0#32) 1#32 64#32))
                (IntOp.remsi ArithUnit.vector (BitVec.ofNat 32 j)
                  (Scalar.select (Scalar.cmpi CmpIPredicate.eq 64#32 0#32) 1#32 64#32)))
              32#32) u v
      = if j % 64 < 32 then u else v := by
  have key : ∀ j : Fin 128, (IntOp.cmpi CmpIPredicate.slt
              (Scalar.select
                (IntOp.andi
                  (IntOp.xori
                    (IntOp.cmpi CmpIPredicate.slt
                      (IntOp.remsi ArithUnit.vector (BitVec.ofNat 32 j.val)
                        (Scalar.select (Scalar.cmpi CmpIPredicate.eq 64#32 0#32) 1#32 64#32))
                      0#32)
                    (Scalar.cmpi CmpIPredicate.slt (Scalar.select (Scalar.cmpi CmpIPredicate.eq 64#32 0#32) 1#32 64#32)
                      0#32))
                  (IntOp.cmpi CmpIPredicate.ne
                    (IntOp.remsi ArithUnit.vector (BitVec.ofNat 32 j.val)
                      (Scalar.select (Scalar.cmpi CmpIPredicate.eq 64#32 0#32) 1#32 64#32))
                    0#32))
                (IntOp.addi
                  (IntOp.remsi ArithUnit.vector (BitVec.ofNat 32 j.val)
                    (Scalar.select (Scalar.cmpi CmpIPredicate.eq 64#32 0#32) 1#32 64#32))
                  (Scalar.select (Scalar.cmpi CmpIPredicate.eq 64#32 0#32) 1#32 64#32))
                (IntOp.remsi ArithUnit.vector (BitVec.ofNat 32 j.val)
                  (Scalar.select (Scalar.cmpi CmpIPredicate.eq 64#32 0#32) 1#32 64#32)))
              32#32) = if j.val % 64 < 32 then 1#1 else 0#1 := by decide +kernel
  rw [key ⟨j, hj⟩]
  show Scalar.select (if j % 64 < 32 then 1#1 else 0#1) u v = _
  split_ifs with h
  · rfl
  · rfl

/-- `rope`, with the half's own lane numbers. -/
theorem rope_split (z : Fin 64 → EReal) (c s : Fin 32 → EReal) (d : Fin 64) : rope z c s d
    = if h : d.val < 32 then z d * c ⟨d.val, h⟩ - z ⟨32 + d.val, by omega⟩ * s ⟨d.val, h⟩
      else z ⟨32 + (d.val - 32), by omega⟩ * c ⟨d.val - 32, by omega⟩ + z ⟨d.val - 32, by omega⟩ * s ⟨d.val - 32, by omega⟩ := by
  unfold rope
  split_ifs with h
  · rw [show (⟨(d.val + 32) % 64, by omega⟩ : Fin 64) = ⟨32 + d.val, by omega⟩ from Fin.ext (by simp only; omega),
      show (⟨d.val % 32, by omega⟩ : Fin 32) = ⟨d.val, h⟩ from Fin.ext (by simp only; omega)]
  · rw [show (⟨(d.val + 32) % 64, by omega⟩ : Fin 64) = ⟨d.val - 32, by omega⟩ from Fin.ext (by simp only; omega),
      show (⟨d.val % 32, by omega⟩ : Fin 32) = ⟨d.val - 32, by omega⟩ from Fin.ext (by simp only; omega),
      show (⟨32 + (d.val - 32), by omega⟩ : Fin 64) = d from Fin.ext (by simp only; omega)]

/-- The number of the zero word. -/
theorem sitofp_nil : FloatOps.sitofp (F := Ideal) FTy.f32 0#32 = (0 : EReal) := by
  show ((((0#32 : BitVec 32).toInt : ℤ) : ℝ) : EReal) = 0
  simp

/-- The angle of frequency `f` at position `p`: `p · 10000 ^ (-f / 32)`. -/
def ang (p : EReal) (f : Fin 32) : EReal :=
  p * Ideal.pow (Ideal.ofBits .f32 0x461C4000#32)
    (Ideal.div (-FloatOps.sitofp (F := Ideal) FTy.f32 (BitVec.ofNat 32 f.val)) (Ideal.ofBits .f32 0x42000000#32))

/-- The angle's cosine and sine. -/
def co (p : EReal) (f : Fin 32) : EReal := Ideal.cos (ang p f)
def si (p : EReal) (f : Fin 32) : EReal := Ideal.sin (ang p f)

/-- The projection's columns: 1024 of queries, then six groups of 256 of keys and values, then 48 of gates. -/
abbrev Wts : Type := Fin 1024 → Fin 2608 → EReal

/-- A projection depends on its column's number alone. -/
theorem proj_col (x g : Row) (w : Wts) (a b : Fin 2608) (h : a.val = b.val) :
    proj x g (fun k => w k a) = proj x g (fun k => w k b) := by
  obtain rfl : a = b := Fin.ext h
  rfl

/-- One query. -/
def query (x g : Row) (w : Wts) (j : Fin 1024) : EReal := proj x g fun k => w k ⟨j.val, by omega⟩

/-- One turned query. -/
def queryRope (x g : Row) (w : Wts) (p : EReal) (j : Fin 1024) : EReal :=
  rope (fun d => proj x g fun k => w k ⟨j.val / 64 * 64 + d.val, by omega⟩) (co p) (si p) ⟨j.val % 64, by omega⟩

/-- One lane of the gates: the sigmoid of the projection in the first 48 lanes, of zero in the rest. -/
def gate (x g : Row) (w : Wts) (j : Fin 128) : EReal :=
  Ideal.logistic (if h : j.val < 48 then proj x g fun k => w k ⟨2560 + j.val, by omega⟩ else 0)

/-- The unturned keys and values, for compression. -/
def plain (x g : Row) (w : Wts) (j : Fin 512) : EReal := proj x g fun k => w k ⟨1024 + j.val, by omega⟩

/-- The cache row of a branch whose columns start at `b`: the turned keys, then the values. -/
def cache (b : ℕ) (hb : b ≤ 2048) (x g : Row) (w : Wts) (p : EReal) (j : Fin 512) : EReal :=
  if j.val < 256 then
    rope (fun d => proj x g fun k => w k ⟨b + (j.val % 256 / 64 * 64 + d.val), by omega⟩) (co p) (si p) ⟨j.val % 64, by omega⟩
  else proj x g fun k => w k ⟨b + j.val, by omega⟩

end Cert.Inproj
-- ==== Proof.InprojPay.lean ====
/-
The prompt group's input projection: what one grid point leaves in its first seven blocks, entry by entry.
-/
module

public import proofs.«01_k».proof.Proof.InprojSpec
public import proofs.«01_k».proof.Proof.Gen.Kernel6Ideal.Frame
public import Idealize.ShloMosaic.Lib.Claim

@[expose] public section

set_option maxRecDepth 16384

noncomputable section

namespace Cert.Kernel6Ideal.Pay

open Idealize.ShloMosaic Idealize.ShloMosaic.TcCoe Idealize.SL.Sem
open Cert.Kernel6Ideal Cert.Kernel6Ideal.Gen Cert.Spec Cert.Inproj

variable (v18 v20 : FVec Ideal S512x128 .f32)

/-- The turned keys of the selection branch. -/
theorem pay12_at (v28 : FVec Ideal S512x256 .f32) (r : Fin 512) (j : Fin 256) :
    k0_pay12 v18 v20 v28 (Scalar.select (Scalar.cmpi .eq 64#32 0#32) 1#32 64#32) k0_pay9 k0_pay10 k0_pay11 (ix2 r j)
      = turn (fun d => v28 (ix2 r ⟨j.val / 64 * 64 + d.val, by omega⟩)) (v18 (ix2 r ⟨j.val % 128, by omega⟩)) (v20 (ix2 r ⟨j.val % 128, by omega⟩)) ⟨j.val % 64, by omega⟩ := by
  unfold k0_pay12
  pointwise [turn, k0_pay9, k0_pay10, k0_pay11]
  split_ifs with h
  all_goals
    refine congrArg₂ (· + ·) (congrArg₂ (· * ·) (congrArg v28 ?_) (congrArg v18 ?_)) (congrArg₂ (· * ·) ((sel_eq _ (by omega) _ _).trans ?_) (congrArg v20 ?_))
    · blk_ext
    · blk_ext
    · split_ifs <;> exact congrArg v28 (by blk_ext)
    · blk_ext

/-- The turned keys of the window branch. -/
theorem pay18_at (v68 : FVec Ideal S512x256 .f32) (r : Fin 512) (j : Fin 256) :
    k0_pay18 v18 v20 v68 k0_pay15 k0_pay16 k0_pay17 (ix2 r j)
      = turn (fun d => v68 (ix2 r ⟨j.val / 64 * 64 + d.val, by omega⟩)) (v18 (ix2 r ⟨j.val % 128, by omega⟩)) (v20 (ix2 r ⟨j.val % 128, by omega⟩)) ⟨j.val % 64, by omega⟩ := by
  unfold k0_pay18
  pointwise [turn, k0_pay15, k0_pay16, k0_pay17]
  split_ifs with h
  all_goals
    refine congrArg₂ (· + ·) (congrArg₂ (· * ·) (congrArg v68 ?_) (congrArg v18 ?_)) (congrArg₂ (· * ·) ((sel_eq _ (by omega) _ _).trans ?_) (congrArg v20 ?_))
    · blk_ext
    · blk_ext
    · split_ifs <;> exact congrArg v68 (by blk_ext)
    · blk_ext

/-- The upper half of a head's lanes, turned. -/
theorem lo (v : FVec Ideal S1024x512 .f32) (c s : FVec Ideal S32x512 .f32) (j a b : Fin 1024) (f : Fin 32) (t : Fin 512)
    (ha : a.val = j.val) (hb : b.val = j.val + 32) (hf : f.val = j.val % 32) (h : j.val % 64 < 32) :
    v (ix2 a t) * c (ix2 f t) - v (ix2 b t) * s (ix2 f t)
      = rope (fun d => v (ix2 ⟨j.val / 64 * 64 + d.val, by omega⟩ t)) (fun f => c (ix2 f t)) (fun f => s (ix2 f t)) ⟨j.val % 64, by omega⟩ := by
  unfold rope
  rw [if_pos h]
  have ea : a = ⟨j.val / 64 * 64 + j.val % 64, by omega⟩ := Fin.ext (by simp only; omega)
  have eb : b = ⟨j.val / 64 * 64 + (j.val % 64 + 32) % 64, by omega⟩ := Fin.ext (by simp only; omega)
  have ef : f = ⟨j.val % 64 % 32, by omega⟩ := Fin.ext (by simp only; omega)
  exact congrArg₂ (· - ·) (congrArg₂ (· * ·) (congrArg (fun i => v (ix2 i t)) ea) (congrArg (fun i => c (ix2 i t)) ef))
    (congrArg₂ (· * ·) (congrArg (fun i => v (ix2 i t)) eb) (congrArg (fun i => s (ix2 i t)) ef))

/-- The lower half of a head's lanes, turned. -/
theorem hi (v : FVec Ideal S1024x512 .f32) (c s : FVec Ideal S32x512 .f32) (j a b : Fin 1024) (f : Fin 32) (t : Fin 512)
    (ha : a.val = j.val) (hb : b.val + 32 = j.val) (hf : f.val = j.val % 32) (h : ¬ j.val % 64 < 32) :
    v (ix2 a t) * c (ix2 f t) + v (ix2 b t) * s (ix2 f t)
      = rope (fun d => v (ix2 ⟨j.val / 64 * 64 + d.val, by omega⟩ t)) (fun f => c (ix2 f t)) (fun f => s (ix2 f t)) ⟨j.val % 64, by omega⟩ := by
  unfold rope
  rw [if_neg h]
  have ea : a = ⟨j.val / 64 * 64 + j.val % 64, by omega⟩ := Fin.ext (by simp only; omega)
  have eb : b = ⟨j.val / 64 * 64 + (j.val % 64 + 32) % 64, by omega⟩ := Fin.ext (by simp only; omega)
  have ef : f = ⟨j.val % 64 % 32, by omega⟩ := Fin.ext (by simp only; omega)
  exact congrArg₂ (· + ·) (congrArg₂ (· * ·) (congrArg (fun i => v (ix2 i t)) ea) (congrArg (fun i => c (ix2 i t)) ef))
    (congrArg₂ (· * ·) (congrArg (fun i => v (ix2 i t)) eb) (congrArg (fun i => s (ix2 i t)) ef))

/-- One of the 32 pieces of the turned queries: the upper or the lower half of a head's lanes. -/
def piece (v : FVec Ideal S1024x512 .f32) (c s : FVec Ideal S32x512 .f32) (n : ℕ) (hn : n < 32) : FVec Ideal S32x512 .f32 :=
  fun i => if h : n % 2 = 0 then v (ix2 ⟨n * 32 + (i 0).val, by have : (i 0).val < 32 := (i 0).isLt; omega⟩ (i 1)) * c i
      - v (ix2 ⟨n * 32 + 32 + (i 0).val, by have : (i 0).val < 32 := (i 0).isLt; omega⟩ (i 1)) * s i
    else v (ix2 ⟨n * 32 + (i 0).val, by have : (i 0).val < 32 := (i 0).isLt; omega⟩ (i 1)) * c i
      + v (ix2 ⟨n * 32 - 32 + (i 0).val, by have : (i 0).val < 32 := (i 0).isLt; omega⟩ (i 1)) * s i

theorem piece_at (v : FVec Ideal S1024x512 .f32) (c s : FVec Ideal S32x512 .f32) (j : Fin 1024) (t : Fin 512) :
    piece v c s (j.val / 32) (by omega) (ix2 ⟨j.val % 32, by omega⟩ t)
      = rope (fun d => v (ix2 ⟨j.val / 64 * 64 + d.val, by omega⟩ t)) (fun f => c (ix2 f t)) (fun f => s (ix2 f t)) ⟨j.val % 64, by omega⟩ := by
  unfold piece
  split_ifs with h
  · exact lo _ _ _ _ _ _ _ _ (show j.val / 32 * 32 + j.val % 32 = j.val by omega) (show j.val / 32 * 32 + 32 + j.val % 32 = j.val + 32 by omega) rfl (by omega)
  · exact hi _ _ _ _ _ _ _ _ (show j.val / 32 * 32 + j.val % 32 = j.val by omega) (show j.val / 32 * 32 - 32 + j.val % 32 + 32 = j.val by omega) rfl (by omega)

set_option maxHeartbeats 4000000 in
/-- The pieces as the kernel computes them. -/
theorem pay89_pieces (v16 : FVec Ideal S512x1024 .bf16) (v110 : Vec Ideal S1024x1024 .bf16) (v113 v115 : Vec Ideal S32x512 .f32) (v : FVec Ideal S1024x512 .f32)
    (c s : FVec Ideal S32x512 .f32) (hv : v = k0_pay21 v16 v110) (hc : c = k0_pay22 v113) (hs : s = k0_pay23 v115) :
    k0_pay89 (F := Ideal) (k0_pay26 v16 v110 v113 v115) (k0_pay27 v16 v110 v113 v115) (k0_pay30 v16 v110 v113 v115) (k0_pay31 (k0_pay22 v113) (k0_pay23 v115) (k0_pay28 v16 v110) (k0_pay29 v16 v110)) (k0_pay34 (k0_pay21 v16 v110) (k0_pay22 v113) (k0_pay23 v115)) (k0_pay35 (k0_pay21 v16 v110) (k0_pay22 v113) (k0_pay23 v115)) (k0_pay38 (k0_pay21 v16 v110) (k0_pay22 v113) (k0_pay23 v115)) (k0_pay39 (k0_pay21 v16 v110) (k0_pay22 v113) (k0_pay23 v115)) (k0_pay42 (k0_pay21 v16 v110) (k0_pay22 v113) (k0_pay23 v115)) (k0_pay43 (k0_pay21 v16 v110) (k0_pay22 v113) (k0_pay23 v115)) (k0_pay46 (k0_pay21 v16 v110) (k0_pay22 v113) (k0_pay23 v115)) (k0_pay47 (k0_pay21 v16 v110) (k0_pay22 v113) (k0_pay23 v115)) (k0_pay50 (k0_pay21 v16 v110) (k0_pay22 v113) (k0_pay23 v115)) (k0_pay51 (k0_pay21 v16 v110) (k0_pay22 v113) (k0_pay23 v115)) (k0_pay54 (k0_pay21 v16 v110) (k0_pay22 v113) (k0_pay23 v115)) (k0_pay55 (k0_pay21 v16 v110) (k0_pay22 v113) (k0_pay23 v115)) (k0_pay58 (k0_pay21 v16 v110) (k0_pay22 v113) (k0_pay23 v115)) (k0_pay59 (k0_pay21 v16 v110) (k0_pay22 v113) (k0_pay23 v115)) (k0_pay62 (k0_pay21 v16 v110) (k0_pay22 v113) (k0_pay23 v115) (k0_pay60 (k0_pay21 v16 v110))) (k0_pay63 (k0_pay21 v16 v110) (k0_pay22 v113) (k0_pay23 v115) (k0_pay60 (k0_pay21 v16 v110))) (k0_pay66 (k0_pay21 v16 v110) (k0_pay22 v113) (k0_pay23 v115)) (k0_pay67 (k0_pay21 v16 v110) (k0_pay22 v113) (k0_pay23 v115)) (k0_pay70 (k0_pay21 v16 v110) (k0_pay22 v113) (k0_pay23 v115)) (k0_pay71 (k0_pay21 v16 v110) (k0_pay22 v113) (k0_pay23 v115)) (k0_pay74 (k0_pay21 v16 v110) (k0_pay22 v113) (k0_pay23 v115)) (k0_pay75 (k0_pay21 v16 v110) (k0_pay22 v113) (k0_pay23 v115)) (k0_pay78 (k0_pay21 v16 v110) (k0_pay22 v113) (k0_pay23 v115)) (k0_pay79 (k0_pay21 v16 v110) (k0_pay22 v113) (k0_pay23 v115)) (k0_pay82 (k0_pay21 v16 v110) (k0_pay22 v113) (k0_pay23 v115)) (k0_pay83 (k0_pay21 v16 v110) (k0_pay22 v113) (k0_pay23 v115)) (k0_pay86 (k0_pay21 v16 v110) (k0_pay22 v113) (k0_pay23 v115)) (k0_pay87 (k0_pay21 v16 v110) (k0_pay22 v113) (k0_pay23 v115))
      = k0_pay89 (F := Ideal) (piece v c s 0 (by omega)) (piece v c s 1 (by omega)) (piece v c s 2 (by omega)) (piece v c s 3 (by omega)) (piece v c s 4 (by omega)) (piece v c s 5 (by omega)) (piece v c s 6 (by omega)) (piece v c s 7 (by omega)) (piece v c s 8 (by omega)) (piece v c s 9 (by omega)) (piece v c s 10 (by omega)) (piece v c s 11 (by omega)) (piece v c s 12 (by omega)) (piece v c s 13 (by omega)) (piece v c s 14 (by omega)) (piece v c s 15 (by omega)) (piece v c s 16 (by omega)) (piece v c s 17 (by omega)) (piece v c s 18 (by omega)) (piece v c s 19 (by omega)) (piece v c s 20 (by omega)) (piece v c s 21 (by omega)) (piece v c s 22 (by omega)) (piece v c s 23 (by omega)) (piece v c s 24 (by omega)) (piece v c s 25 (by omega)) (piece v c s 26 (by omega)) (piece v c s 27 (by omega)) (piece v c s 28 (by omega)) (piece v c s 29 (by omega)) (piece v c s 30 (by omega)) (piece v c s 31 (by omega)) := by
  subst hv hc hs
  generalize hv : k0_pay21 v16 v110 = v
  congr 1 <;> (funext i; idx_vars i; pointwise [piece, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, hv])

set_option maxHeartbeats 4000000 in
/-- The turned queries, scaled. -/
theorem pay89_at (v : FVec Ideal S1024x512 .f32) (c s : FVec Ideal S32x512 .f32) (j : Fin 1024) (t : Fin 512) :
    k0_pay89 (F := Ideal) (piece v c s 0 (by omega)) (piece v c s 1 (by omega)) (piece v c s 2 (by omega)) (piece v c s 3 (by omega)) (piece v c s 4 (by omega)) (piece v c s 5 (by omega)) (piece v c s 6 (by omega)) (piece v c s 7 (by omega)) (piece v c s 8 (by omega)) (piece v c s 9 (by omega)) (piece v c s 10 (by omega)) (piece v c s 11 (by omega)) (piece v c s 12 (by omega)) (piece v c s 13 (by omega)) (piece v c s 14 (by omega)) (piece v c s 15 (by omega)) (piece v c s 16 (by omega)) (piece v c s 17 (by omega)) (piece v c s 18 (by omega)) (piece v c s 19 (by omega)) (piece v c s 20 (by omega)) (piece v c s 21 (by omega)) (piece v c s 22 (by omega)) (piece v c s 23 (by omega)) (piece v c s 24 (by omega)) (piece v c s 25 (by omega)) (piece v c s 26 (by omega)) (piece v c s 27 (by omega)) (piece v c s 28 (by omega)) (piece v c s 29 (by omega)) (piece v c s 30 (by omega)) (piece v c s 31 (by omega)) (ix2 j t)
      = rope (fun d => v (ix2 ⟨j.val / 64 * 64 + d.val, by omega⟩ t)) (fun f => c (ix2 f t)) (fun f => s (ix2 f t)) ⟨j.val % 64, by omega⟩ * Ideal.ofBits .f32 0x3E38AA3B#32 := by
  unfold k0_pay89
  refine congrArg₂ (· * ·) (Eq.trans ?_ (piece_at v c s j t)) rfl
  refine concatenate_ofFn_apply (t := S1024x512) (s₁ := S32x512) 0 (fun n : Fin 32 => piece v c s n.val n.isLt) _ rfl 32 rfl (ix2 j t) ⟨j.val / 32, by omega⟩ rfl
    (ix2 ⟨j.val % 32, by omega⟩ t) rfl fun b hb => ?_
  match b, hb with
  | ⟨0, _⟩, hb => exact absurd rfl hb
  | ⟨1, _⟩, _ => rfl

variable (x0 : Vec Ideal S512x1024 .f32) (x1 : Vec Ideal S1x1024 .f32) (x2 : Vec Ideal S1024x1024 .bf16)
  (x3 : Vec Ideal S1024x1536 .bf16) (x4 : Vec Ideal S1024x128 .bf16) (x5 x6 : Vec Ideal S512x128 .f32) (x7 x8 : Vec Ideal S32x512 .f32)

/-- The key and value projections. -/
theorem pay6_at (r : Fin 512) (j : Fin 1536) : k0_pay6 (View.ld x0 r0_0) (View.ld x1 r0_1) (View.ld x3 r0_3) (ix2 r j)
    = proj (fun k => x0 (ix2 r k)) (fun k => x1 (ix2 0 k)) (fun k => x3 (ix2 k j)) := by
  unfold k0_pay6 k0_pay3
  pointwise [proj, rms]

/-- The query projection, queries first. -/
theorem pay21_at (j : Fin 1024) (r : Fin 512) : k0_pay21 (k0_pay3 (View.ld x0 r0_0) (View.ld x1 r0_1)) (View.ld x2 r0_6) (ix2 j r)
    = proj (fun k => x0 (ix2 r k)) (fun k => x1 (ix2 0 k)) (fun k => x2 (ix2 j k)) := by
  unfold k0_pay21 k0_pay3
  pointwise [proj, rms]
  exact Finset.sum_congr rfl fun k _ => mul_comm _ _

theorem pay4_at (r : Fin 512) (j : Fin 128) : k0_pay4 (View.ld x5 r0_2) (ix2 r j) = x5 (ix2 r j) := by
  unfold k0_pay4
  pointwise

theorem pay5_at (r : Fin 512) (j : Fin 128) : k0_pay5 (View.ld x6 r0_2) (ix2 r j) = x6 (ix2 r j) := by
  unfold k0_pay5
  pointwise

theorem pay22_at (f : Fin 32) (r : Fin 512) : k0_pay22 (View.ld x7 r0_7) (ix2 f r) = x7 (ix2 f r) := by
  unfold k0_pay22
  pointwise

theorem pay23_at (f : Fin 32) (r : Fin 512) : k0_pay23 (View.ld x8 r0_7) (ix2 f r) = x8 (ix2 f r) := by
  unfold k0_pay23
  pointwise

theorem pay8_at (r : Fin 512) (j : Fin 256) : k0_pay8 (View.ld x0 r0_0) (View.ld x1 r0_1) (View.ld x3 r0_3) (ix2 r j)
    = proj (fun k => x0 (ix2 r k)) (fun k => x1 (ix2 0 k)) (fun k => x3 (ix2 k ⟨512 + j.val, by omega⟩)) := by
  unfold k0_pay8
  pointwise
  exact pay6_at _ _ _ _ _

theorem pay14_at (r : Fin 512) (j : Fin 256) : k0_pay14 (k0_pay6 (View.ld x0 r0_0) (View.ld x1 r0_1) (View.ld x3 r0_3)) (ix2 r j)
    = proj (fun k => x0 (ix2 r k)) (fun k => x1 (ix2 0 k)) (fun k => x3 (ix2 k ⟨1024 + j.val, by omega⟩)) := by
  unfold k0_pay14
  pointwise
  exact pay6_at _ _ _ _ _

/-- A head's lanes of the query projection of row `r`, the head holding column `j`. -/
def qHead (r : Fin 512) (j : Fin 1024) (d : Fin 64) : EReal :=
  proj (fun k => x0 (ix2 r k)) (fun k => x1 (ix2 0 k)) (fun k => x2 (ix2 ⟨j.val / 64 * 64 + d.val, by omega⟩ k))

/-- A head's lanes of the key projection of row `r` that starts at column `b`, the head holding column `b + j`. -/
def kHead (b : ℕ) (hb : b ≤ 1280) (r : Fin 512) (j : Fin 256) (d : Fin 64) : EReal :=
  proj (fun k => x0 (ix2 r k)) (fun k => x1 (ix2 0 k)) (fun k => x3 (ix2 k ⟨b + (j.val / 64 * 64 + d.val), by omega⟩))

/-- The scaled queries. -/
theorem out9_at (j : Fin 1024) (r : Fin 512) : out0_9 x0 x1 x2 x3 x4 x5 x6 x7 x8 (ix2 j r)
    = proj (fun k => x0 (ix2 r k)) (fun k => x1 (ix2 0 k)) (fun k => x2 (ix2 j k)) * Ideal.ofBits .f32 0x3E38AA3B#32 := by
  unfold_out out0_9
  canon_tiles z h
  idx_vars z
  obtain rfl : j = z0 := Fin.ext h0
  obtain rfl : r = z1 := Fin.ext h1
  unfold k0_pay88
  pointwise
  exact congrArg₂ (· * ·) (pay21_at _ _ _ _ _) rfl

/-- The scaled, turned queries. -/
theorem out10_at (j : Fin 1024) (r : Fin 512) : out0_10 x0 x1 x2 x3 x4 x5 x6 x7 x8 (ix2 j r)
    = rope (qHead x0 x1 x2 r j) (fun f => x7 (ix2 f r)) (fun f => x8 (ix2 f r)) ⟨j.val % 64, by omega⟩ * Ideal.ofBits .f32 0x3E38AA3B#32 := by
  unfold_out out0_10
  canon_tiles z h
  idx_vars z
  obtain rfl : j = z0 := Fin.ext h0
  obtain rfl : r = z1 := Fin.ext h1
  refine (congrFun (pay89_pieces _ _ _ _ _ _ _ rfl rfl rfl) _).trans ?_
  refine (pay89_at _ _ _ _ _).trans ?_
  simp only [pay21_at, pay22_at, pay23_at]
  rfl

/-- The gates. -/
theorem out11_at (j : Fin 128) (r : Fin 512) : out0_11 x0 x1 x2 x3 x4 x5 x6 x7 x8 (ix2 j r)
    = Ideal.logistic (proj (fun k => x0 (ix2 r k)) (fun k => x1 (ix2 0 k)) (fun k => x4 (ix2 k j))) := by
  unfold_out out0_11
  canon_tiles z h
  obtain rfl : j = z 0 := Fin.ext h0
  obtain rfl : r = z 1 := Fin.ext h1
  unfold k0_pay90 k0_pay7 k0_pay3
  pointwise [proj, rms]

/-- The keys and values for compression. -/
theorem out12_at (r : Fin 512) (j : Fin 512) : out0_12 x0 x1 x2 x3 x4 x5 x6 x7 x8 (ix2 r j)
    = proj (fun k => x0 (ix2 r k)) (fun k => x1 (ix2 0 k)) (fun k => x3 (ix2 k ⟨j.val, by omega⟩)) := by
  unfold_out out0_12
  canon_tiles z h
  idx_vars z
  obtain rfl : r = z0 := Fin.ext h0
  obtain rfl : j = z1 := Fin.ext h1
  unfold k0_pay20
  pointwise
  exact pay6_at _ _ _ _ _

/-- The keys and values for compression, features first. -/
theorem out13_at (j : Fin 512) (r : Fin 512) : out0_13 x0 x1 x2 x3 x4 x5 x6 x7 x8 (ix3 0 j r)
    = proj (fun k => x0 (ix2 r k)) (fun k => x1 (ix2 0 k)) (fun k => x3 (ix2 k ⟨j.val, by omega⟩)) := by
  unfold_out out0_13
  canon_tiles z h
  idx_vars z
  obtain rfl : j = z1 := Fin.ext h1
  obtain rfl : r = z2 := Fin.ext h2
  unfold k0_pay118
  pointwise
  exact pay6_at _ _ _ _ _

/-- The turned keys and the values of the selection branch, the keys first, features first. -/
theorem out14_at (j : Fin 512) (r : Fin 512) : out0_14 x0 x1 x2 x3 x4 x5 x6 x7 x8 (ix3 0 j r)
    = if h : j.val < 256 then turn (kHead x0 x1 x3 512 (by omega) r ⟨j.val, h⟩) (x5 (ix2 r ⟨j.val % 128, by omega⟩)) (x6 (ix2 r ⟨j.val % 128, by omega⟩)) ⟨j.val % 64, by omega⟩
      else proj (fun k => x0 (ix2 r k)) (fun k => x1 (ix2 0 k)) (fun k => x3 (ix2 k ⟨512 + j.val, by omega⟩)) := by
  unfold_out out0_14
  canon_tiles z h
  · idx_vars z
    obtain rfl : r = z2 := Fin.ext h2
    have hj : j.val = 256 + z1.val := h1
    rw [dif_neg (by omega)]
    unfold k0_pay120 k0_pay107 k0_pay13
    pointwise
    refine (pay6_at _ _ _ _ _).trans ?_
    refine congrArg (proj _ _) (funext fun k => congrArg x3 ?_)
    blk_ext
  · idx_vars z
    obtain rfl : r = z2 := Fin.ext h2
    have hj : j.val = z1.val := h1
    rw [dif_pos (by omega)]
    unfold k0_pay119
    pointwise
    refine (pay12_at _ _ _ _ _).trans ?_
    have hz : j.val < 256 := by omega
    obtain rfl : z1 = ⟨j.val, hz⟩ := Fin.ext hj.symm
    simp only [pay8_at, pay4_at, pay5_at]
    rfl

/-- The turned keys and the values of the window branch, the keys first, features first. -/
theorem out15_at (j : Fin 512) (r : Fin 512) : out0_15 x0 x1 x2 x3 x4 x5 x6 x7 x8 (ix3 0 j r)
    = if h : j.val < 256 then turn (kHead x0 x1 x3 1024 (by omega) r ⟨j.val, h⟩) (x5 (ix2 r ⟨j.val % 128, by omega⟩)) (x6 (ix2 r ⟨j.val % 128, by omega⟩)) ⟨j.val % 64, by omega⟩
      else proj (fun k => x0 (ix2 r k)) (fun k => x1 (ix2 0 k)) (fun k => x3 (ix2 k ⟨1024 + j.val, by omega⟩)) := by
  unfold_out out0_15
  canon_tiles z h
  · idx_vars z
    obtain rfl : r = z2 := Fin.ext h2
    have hj : j.val = 256 + z1.val := h1
    rw [dif_neg (by omega)]
    unfold k0_pay2 k0_pay108 k0_pay19
    pointwise
    refine (pay6_at _ _ _ _ _).trans ?_
    refine congrArg (proj _ _) (funext fun k => congrArg x3 ?_)
    blk_ext
  · idx_vars z
    obtain rfl : r = z2 := Fin.ext h2
    have hj : j.val = z1.val := h1
    rw [dif_pos (by omega)]
    unfold k0_pay1
    pointwise
    refine (pay18_at _ _ _ _ _).trans ?_
    have hz : j.val < 256 := by omega
    obtain rfl : z1 = ⟨j.val, hz⟩ := Fin.ext hj.symm
    simp only [pay14_at, pay4_at, pay5_at]
    rfl

end Cert.Kernel6Ideal.Pay
-- ==== Proof.InprojWin.lean ====
/-
The prompt group's input projection: its blocks as the argument arrays.
-/
module

public import proofs.«01_k».proof.Proof.InprojPay
public import Idealize.ShloMosaic.Lib.Claim

@[expose] public section

set_option maxRecDepth 16384

noncomputable section

namespace Cert.Kernel6Ideal.Val

open Idealize.ShloMosaic Idealize.ShloMosaic.TcCoe Idealize.SL.Sem
open Cert.Kernel6Ideal Cert.Kernel6Ideal.Gen Cert.Spec Cert.Inproj

variable (m : (ℓ : Loc nD τ sig) → Buf (Elt Ideal) ℓ)

/-- The index maps of the windows: 32 grid points of 512 rows each, eight to a sequence. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val % 8, 0] ∧ win0_6.index t = ![t.val % 8, 0]
    ∧ win0_7.index t = ![0, t.val % 8] ∧ win0_8.index t = ![0, t.val % 8] ∧ win0_9.index t = ![0, t.val] ∧ win0_10.index t = ![0, t.val]
    ∧ win0_11.index t = ![0, t.val] ∧ win0_12.index t = ![t.val, 0] ∧ win0_13.index t = ![t.val / 8, 0, t.val % 8]
    ∧ win0_14.index t = ![t.val / 8, 0, t.val % 8] ∧ win0_15.index t = ![t.val / 8, 0, t.val % 8] :=
  (by decide +kernel : ∀ t : Fin grid0.N, _)

/-- The row of the arrays that row `r` of grid point `t` is. -/
abbrev rowOf (t : Fin cfg0.N) (r : Fin 512) : Fin 16384 :=
  ⟨t.val * 512 + r.val, by have h : t.val < 32 := t.isLt; omega⟩

/-- The same row within its sequence. -/
abbrev tokOf (t : Fin cfg0.N) (r : Fin 512) : Fin 4096 :=
  ⟨t.val % 8 * 512 + r.val, by omega⟩

/-- The argument arrays: the row of one of the 16384 positions, the norm's weight, the projection's weights; and the position
    within its sequence. -/
abbrev xr (c : Dev nD) (r : Fin 16384) : Row := fun k => m ((c : Thread nD τ).loc main_arg0) (ix3 ⟨r.val / 4096, by omega⟩ ⟨r.val % 4096, by omega⟩ k)
abbrev gr (c : Dev nD) : Row := fun k => m ((c : Thread nD τ).loc main_arg1) (ix3 0 0 k)
abbrev wr (c : Dev nD) : Wts := fun k j => m ((c : Thread nD τ).loc main_arg2) (ix3 0 k j)
abbrev posv (p : ℕ) : EReal := FloatOps.sitofp (F := Ideal) FTy.f32 (BitVec.ofNat 32 p)
abbrev pos (r : Fin 16384) : EReal := posv (r.val % 4096)

theorem pos_row (t : Fin cfg0.N) (r : Fin 512) : posv (t.val % 8 * 512 + r.val) = pos (rowOf t r) := by
  refine congrArg posv ?_
  show t.val % 8 * 512 + r.val = (t.val * 512 + r.val) % 4096
  omega

theorem host9 (c : Dev nD) (r : Fin 16384) (j : Fin 1024) : V m c main_v9 (ix2 r j) = (xr m c r j : EReal) := by
  unfold V hostOps0 hostOps0_1 hostOps0_2
  simp only [List.flatten_cons, List.flatten_nil, List.cons_append, List.nil_append, List.append_nil]
  entry_read
  pointwise

theorem host35 (c : Dev nD) (j : Fin 1024) : V m c main_v35 (ix2 0 j) = (gr m c j : EReal) := by
  unfold V hostOps0 hostOps0_1 hostOps0_2
  simp only [List.flatten_cons, List.flatten_nil, List.cons_append, List.nil_append, List.append_nil]
  entry_read
  pointwise

theorem host36 (c : Dev nD) (r : Fin 1024) (j : Fin 1024) : V m c main_v36 (ix2 r j) = (wr m c j ⟨r.val, by omega⟩ : EReal) := by
  unfold V hostOps0 hostOps0_1 hostOps0_2
  simp only [List.flatten_cons, List.flatten_nil, List.cons_append, List.nil_append, List.append_nil]
  entry_read
  pointwise

theorem host5 (c : Dev nD) (r : Fin 1024) (j : Fin 1536) : V m c main_v5 (ix2 r j) = (wr m c r ⟨1024 + j.val, by omega⟩ : EReal) := by
  unfold V hostOps0 hostOps0_1 hostOps0_2
  simp only [List.flatten_cons, List.flatten_nil, List.cons_append, List.nil_append, List.append_nil]
  entry_read
  pointwise

theorem host8 (c : Dev nD) (r : Fin 1024) (j : Fin 128) : V m c main_v8 (ix2 r j) = (if h : j.val < 48 then wr m c r ⟨2560 + j.val, by omega⟩ else 0 : EReal) := by
  unfold V hostOps0 hostOps0_1 hostOps0_2
  simp only [List.flatten_cons, List.flatten_nil, List.cons_append, List.nil_append, List.append_nil]
  entry_read
  refine Eq.trans (b := truncf FTy.bf16 (pad S1024x128 ![0, 0] ![0, 80] ![0, 0] (extractStridedSlice S1024x48 ![0, 2560]
    (shapeCast S1024x2608 (m ((c : Thread nD τ).loc main_arg2)) shapeCasts_S1x1024x2608_S1024x2608) slices_S1024x2608_S1024x48_0_2560)
    (sitofp (F := Ideal) FTy.f32 (constantI S_ 32 0#32)) pads_S1024x48_S1024x128_000_0800 h_S_) bitsLt_bf16_f32 (ix2 r j)) rfl ?_
  pointwise
  rw [sitofp_nil]

theorem host28 (c : Dev nD) (p : Fin 4096) (j : Fin 128) : V m c main_v28 (ix2 p j) = (co (posv p.val) ⟨j.val % 32, by omega⟩ : EReal) := by
  unfold V hostOps0 hostOps0_1 hostOps0_2
  simp only [List.flatten_cons, List.flatten_nil, List.cons_append, List.nil_append, List.append_nil]
  entry_read
  pointwise [co, si, ang]
  split_ifs with h
  · rw [show j.val % 64 = j.val % 32 from by omega]
  · rw [show j.val % 64 - 32 = j.val % 32 from by omega]

theorem host33 (c : Dev nD) (p : Fin 4096) (j : Fin 128) : V m c main_v33 (ix2 p j) = (if j.val % 64 < 32 then -si (posv p.val) ⟨j.val % 32, by omega⟩ else si (posv p.val) ⟨j.val % 32, by omega⟩ : EReal) := by
  unfold V hostOps0 hostOps0_1 hostOps0_2
  simp only [List.flatten_cons, List.flatten_nil, List.cons_append, List.nil_append, List.append_nil]
  entry_read
  pointwise [co, si, ang]
  split_ifs with h
  · rw [show j.val % 64 = j.val % 32 from by omega]
  · rw [show j.val % 64 - 32 = j.val % 32 from by omega]

theorem host38 (c : Dev nD) (f : Fin 32) (p : Fin 4096) : V m c main_v38 (ix2 f p) = (co (posv p.val) f : EReal) := by
  unfold V hostOps0 hostOps0_1 hostOps0_2
  simp only [List.flatten_cons, List.flatten_nil, List.cons_append, List.nil_append, List.append_nil]
  entry_read
  pointwise [co, ang]
  rw [dif_pos (by omega), show f.val % 64 = f.val from by omega]

theorem host40 (c : Dev nD) (f : Fin 32) (p : Fin 4096) : V m c main_v40 (ix2 f p) = (si (posv p.val) f : EReal) := by
  unfold V hostOps0 hostOps0_1 hostOps0_2
  simp only [List.flatten_cons, List.flatten_nil, List.cons_append, List.nil_append, List.append_nil]
  entry_read
  pointwise [si, ang]
  rw [dif_neg (by omega), show (32 + f.val) % 64 - 32 = f.val from by omega]

theorem blk0 (c : Dev nD) (t : Fin cfg0.N) (r : Fin 512) (j : Fin 1024) : iblk m c 0 t (ix2 r j) = (xr m c (rowOf t r) j : EReal) := by
  refine Eq.trans (b := V m c main_v9 (ix2 (rowOf t r) j)) ?_ ?_
  · blk_ext [iblk, idx t]
  · exact host9 m c _ _

theorem blk1 (c : Dev nD) (t : Fin cfg0.N) (j : Fin 1024) : iblk m c 1 t (ix2 0 j) = (gr m c j : EReal) := by
  refine Eq.trans (b := V m c main_v35 (ix2 0 j)) ?_ ?_
  · blk_ext [iblk, idx t]
  · exact host35 m c _

theorem blk2 (c : Dev nD) (t : Fin cfg0.N) (r : Fin 1024) (j : Fin 1024) : iblk m c 2 t (ix2 r j) = (wr m c j ⟨r.val, by omega⟩ : EReal) := by
  refine Eq.trans (b := V m c main_v36 (ix2 r j)) ?_ ?_
  · blk_ext [iblk, idx t]
  · exact host36 m c _ _

theorem blk3 (c : Dev nD) (t : Fin cfg0.N) (r : Fin 1024) (j : Fin 1536) : iblk m c 3 t (ix2 r j) = (wr m c r ⟨1024 + j.val, by omega⟩ : EReal) := by
  refine Eq.trans (b := V m c main_v5 (ix2 r j)) ?_ ?_
  · blk_ext [iblk, idx t]
  · exact host5 m c _ _

theorem blk4 (c : Dev nD) (t : Fin cfg0.N) (r : Fin 1024) (j : Fin 128) : iblk m c 4 t (ix2 r j) = (if h : j.val < 48 then wr m c r ⟨2560 + j.val, by omega⟩ else 0 : EReal) := by
  refine Eq.trans (b := V m c main_v8 (ix2 r j)) ?_ ?_
  · blk_ext [iblk, idx t]
  · exact host8 m c _ _

theorem blk5 (c : Dev nD) (t : Fin cfg0.N) (r : Fin 512) (j : Fin 128) : iblk m c 5 t (ix2 r j) = (co (pos (rowOf t r)) ⟨j.val % 32, by omega⟩ : EReal) := by
  refine Eq.trans (b := V m c main_v28 (ix2 (tokOf t r) j)) ?_ ?_
  · blk_ext [iblk, idx t]
  · rw [host28, pos_row]

theorem blk6 (c : Dev nD) (t : Fin cfg0.N) (r : Fin 512) (j : Fin 128) : iblk m c 6 t (ix2 r j) = (if j.val % 64 < 32 then -si (pos (rowOf t r)) ⟨j.val % 32, by omega⟩ else si (pos (rowOf t r)) ⟨j.val % 32, by omega⟩ : EReal) := by
  refine Eq.trans (b := V m c main_v33 (ix2 (tokOf t r) j)) ?_ ?_
  · blk_ext [iblk, idx t]
  · rw [host33, pos_row]

theorem blk7 (c : Dev nD) (t : Fin cfg0.N) (f : Fin 32) (r : Fin 512) : iblk m c 7 t (ix2 f r) = (co (pos (rowOf t r)) f : EReal) := by
  refine Eq.trans (b := V m c main_v38 (ix2 f (tokOf t r))) ?_ ?_
  · blk_ext [iblk, idx t]
  · rw [host38, pos_row]

theorem blk8 (c : Dev nD) (t : Fin cfg0.N) (f : Fin 32) (r : Fin 512) : iblk m c 8 t (ix2 f r) = (si (pos (rowOf t r)) f : EReal) := by
  refine Eq.trans (b := V m c main_v40 (ix2 f (tokOf t r))) ?_ ?_
  · blk_ext [iblk, idx t]
  · rw [host40, pos_row]

end Cert.Kernel6Ideal.Val
-- ==== Proof.InprojFin.lean ====
/-
The prompt group's input projection: the arrays it leaves.
-/
module

public import proofs.«01_k».proof.Proof.InprojWin
public import Idealize.ShloMosaic.Lib.Claim

@[expose] public section

set_option maxRecDepth 16384

noncomputable section

namespace Cert.Kernel6Ideal.Val

open Idealize.ShloMosaic Idealize.ShloMosaic.TcCoe Idealize.SL.Sem
open Cert.Kernel6Ideal Cert.Kernel6Ideal.Gen Cert.Spec Cert.Inproj

variable (m : (ℓ : Loc nD τ sig) → Buf (Elt Ideal) ℓ)

/-- The table of sines as the kernel holds it, its sign turned in a head's first half. -/
abbrev tab (p : EReal) (j : ℕ) : EReal := if j % 64 < 32 then -si p ⟨j % 32, by omega⟩ else si p ⟨j % 32, by omega⟩

/-- A head turned by the tables' entries at a lane is the head turned by its own angle. -/
theorem turned (p : EReal) (z : Fin 64 → EReal) (j n : ℕ) (h : n % 64 = j % 64) :
    turn z (co p ⟨n % 32, by omega⟩) (tab p n) ⟨j % 64, by omega⟩ = rope z (co p) (si p) ⟨j % 64, by omega⟩ := by
  refine Eq.trans ?_ (turn_eq z (co p) (si p) ⟨j % 64, by omega⟩)
  have e : (⟨n % 32, by omega⟩ : Fin 32) = ⟨j % 64 % 32, by omega⟩ := Fin.ext (by simp only; omega)
  rw [tab, e, h]

/-- The row of the arrays that position `p` of sequence `b` is. -/
def seqRow (b : Fin 4) (p : Fin 4096) : Fin 16384 := ⟨b.val * 4096 + p.val, by omega⟩

theorem rowOf_seq (t : Fin cfg0.N) (r : Fin 512) :
    rowOf t r = seqRow ⟨t.val / 8, by have h : t.val < 32 := t.isLt; omega⟩ (tokOf t r) :=
  Fin.ext (show t.val * 512 + r.val = t.val / 8 * 4096 + (t.val % 8 * 512 + r.val) by omega)

/-- The array result 1 holds, at position `r`, lane `j`. -/
def qArr (c : Dev nD) (r : Fin 16384) (j : Fin 1024) : EReal := query (xr m c r) (gr m c) (wr m c) j * Ideal.ofBits .f32 0x3E38AA3B#32

theorem q_eq (c : Dev nD) (t : Fin cfg0.N) (r : Fin 512) (j : Fin 1024) :
    (out0_9 (iblk m c 0 t) (iblk m c 1 t) (iblk m c 2 t) (iblk m c 3 t) (iblk m c 4 t) (iblk m c 5 t) (iblk m c 6 t) (iblk m c 7 t) (iblk m c 8 t) (ix2 j r) : EReal) = qArr m c (rowOf t r) j := by
  refine (Pay.out9_at _ _ _ _ _ _ _ _ _ _ _).trans ?_
  simp only [blk0, blk1, blk2]
  rfl

set_option maxHeartbeats 1000000 in
/-- Result 1 of the call after the run. -/
theorem final9 (c : Dev nD) : (dats m 0 c).arrAt 9 (cfgs 0).N = fun i : S1024x16384.Idx => qArr m c (i 1) (i 0) := by
  refine (dats m 0 c).arrAt_eq_of_covers 9 _ (by decide +kernel) fun t _ y => ?_
  blk_simp
  rw [after0_9]
  idx_vars y
  have hi : ((View.whole main_v41_0).slice (win0_9.rect t)).emb (ix2 y0 y1) = ix2 y0 (rowOf t y1) := by blk_ext [idx t]
  refine (q_eq m c t y1 y0 : _ = qArr m c (rowOf t y1) y0).trans ?_
  exact (congrArg (fun i : S1024x16384.Idx => qArr m c (i 1) (i 0)) hi).symm

/-- The array result 2 holds, at position `r`, lane `j`. -/
def qrArr (c : Dev nD) (r : Fin 16384) (j : Fin 1024) : EReal := queryRope (xr m c r) (gr m c) (wr m c) (pos r) j * Ideal.ofBits .f32 0x3E38AA3B#32

theorem qr_eq (c : Dev nD) (t : Fin cfg0.N) (r : Fin 512) (j : Fin 1024) :
    (out0_10 (iblk m c 0 t) (iblk m c 1 t) (iblk m c 2 t) (iblk m c 3 t) (iblk m c 4 t) (iblk m c 5 t) (iblk m c 6 t) (iblk m c 7 t) (iblk m c 8 t) (ix2 j r) : EReal) = qrArr m c (rowOf t r) j := by
  refine (Pay.out10_at _ _ _ _ _ _ _ _ _ _ _).trans ?_
  unfold Pay.qHead
  simp only [blk0, blk1, blk2, blk7, blk8]
  rfl

set_option maxHeartbeats 1000000 in
/-- Result 2 of the call after the run. -/
theorem final10 (c : Dev nD) : (dats m 0 c).arrAt 10 (cfgs 0).N = fun i : S1024x16384.Idx => qrArr m c (i 1) (i 0) := by
  refine (dats m 0 c).arrAt_eq_of_covers 10 _ (by decide +kernel) fun t _ y => ?_
  blk_simp
  rw [after0_10]
  idx_vars y
  have hi : ((View.whole main_v41_1).slice (win0_10.rect t)).emb (ix2 y0 y1) = ix2 y0 (rowOf t y1) := by blk_ext [idx t]
  refine (qr_eq m c t y1 y0 : _ = qrArr m c (rowOf t y1) y0).trans ?_
  exact (congrArg (fun i : S1024x16384.Idx => qrArr m c (i 1) (i 0)) hi).symm

/-- The array result 3 holds, at position `r`, lane `j`. -/
def gArr (c : Dev nD) (r : Fin 16384) (j : Fin 128) : EReal := gate (xr m c r) (gr m c) (wr m c) j

theorem g_eq (c : Dev nD) (t : Fin cfg0.N) (r : Fin 512) (j : Fin 128) :
    (out0_11 (iblk m c 0 t) (iblk m c 1 t) (iblk m c 2 t) (iblk m c 3 t) (iblk m c 4 t) (iblk m c 5 t) (iblk m c 6 t) (iblk m c 7 t) (iblk m c 8 t) (ix2 j r) : EReal) = gArr m c (rowOf t r) j := by
  refine (Pay.out11_at _ _ _ _ _ _ _ _ _ _ _).trans ?_
  unfold gArr gate
  refine congrArg Ideal.logistic ?_
  unfold proj
  simp only [blk0, blk1, blk4]
  split_ifs with h
  · rfl
  · exact Finset.sum_eq_zero fun k _ => mul_zero _

set_option maxHeartbeats 1000000 in
/-- Result 3 of the call after the run. -/
theorem final11 (c : Dev nD) : (dats m 0 c).arrAt 11 (cfgs 0).N = fun i : S128x16384.Idx => gArr m c (i 1) (i 0) := by
  refine (dats m 0 c).arrAt_eq_of_covers 11 _ (by decide +kernel) fun t _ y => ?_
  blk_simp
  rw [after0_11]
  idx_vars y
  have hi : ((View.whole main_v41_2).slice (win0_11.rect t)).emb (ix2 y0 y1) = ix2 y0 (rowOf t y1) := by blk_ext [idx t]
  refine (g_eq m c t y1 y0 : _ = gArr m c (rowOf t y1) y0).trans ?_
  exact (congrArg (fun i : S128x16384.Idx => gArr m c (i 1) (i 0)) hi).symm

/-- The array result 4 holds, at position `r`, lane `j`. -/
def kcArr (c : Dev nD) (r : Fin 16384) (j : Fin 512) : EReal := plain (xr m c r) (gr m c) (wr m c) j

theorem kc_eq (c : Dev nD) (t : Fin cfg0.N) (r : Fin 512) (j : Fin 512) :
    (out0_12 (iblk m c 0 t) (iblk m c 1 t) (iblk m c 2 t) (iblk m c 3 t) (iblk m c 4 t) (iblk m c 5 t) (iblk m c 6 t) (iblk m c 7 t) (iblk m c 8 t) (ix2 r j) : EReal) = kcArr m c (rowOf t r) j := by
  refine (Pay.out12_at _ _ _ _ _ _ _ _ _ _ _).trans ?_
  simp only [blk0, blk1, blk3]
  exact proj_col _ _ _ _ _ rfl

set_option maxHeartbeats 1000000 in
/-- Result 4 of the call after the run. -/
theorem final12 (c : Dev nD) : (dats m 0 c).arrAt 12 (cfgs 0).N = fun i : S16384x512.Idx => kcArr m c (i 0) (i 1) := by
  refine (dats m 0 c).arrAt_eq_of_covers 12 _ (by decide +kernel) fun t _ y => ?_
  blk_simp
  rw [after0_12]
  idx_vars y
  have hi : ((View.whole main_v41_3).slice (win0_12.rect t)).emb (ix2 y0 y1) = ix2 (rowOf t y0) y1 := by blk_ext [idx t]
  refine (kc_eq m c t y0 y1 : _ = kcArr m c (rowOf t y0) y1).trans ?_
  exact (congrArg (fun i : S16384x512.Idx => kcArr m c (i 0) (i 1)) hi).symm

/-- The array result 5 holds, at position `r`, lane `j`. -/
def kcTArr (c : Dev nD) (r : Fin 16384) (j : Fin 512) : EReal := plain (xr m c r) (gr m c) (wr m c) j

theorem kcT_eq (c : Dev nD) (t : Fin cfg0.N) (r : Fin 512) (j : Fin 512) :
    (out0_13 (iblk m c 0 t) (iblk m c 1 t) (iblk m c 2 t) (iblk m c 3 t) (iblk m c 4 t) (iblk m c 5 t) (iblk m c 6 t) (iblk m c 7 t) (iblk m c 8 t) (ix3 0 j r) : EReal) = kcTArr m c (rowOf t r) j := by
  refine (Pay.out13_at _ _ _ _ _ _ _ _ _ _ _).trans ?_
  simp only [blk0, blk1, blk3]
  exact proj_col _ _ _ _ _ rfl

set_option maxHeartbeats 1000000 in
/-- Result 5 of the call after the run. -/
theorem final13 (c : Dev nD) : (dats m 0 c).arrAt 13 (cfgs 0).N = fun i : S4x512x4096.Idx => kcTArr m c (seqRow (i 0) (i 2)) (i 1) := by
  refine (dats m 0 c).arrAt_eq_of_covers 13 _ (by decide +kernel) fun t _ y => ?_
  blk_simp
  rw [after0_13]
  idx_vars y
  obtain rfl : y0 = 0 := Subsingleton.elim _ _
  have hi : ((View.whole main_v41_4).slice (win0_13.rect t)).emb (ix3 0 y1 y2) = ix3 ⟨t.val / 8, by have h : t.val < 32 := t.isLt; omega⟩ y1 (tokOf t y2) := by blk_ext [idx t]
  refine (kcT_eq m c t y2 y1 : _ = kcTArr m c (rowOf t y2) y1).trans ?_
  refine (congrArg (fun r => kcTArr m c r y1) (rowOf_seq t y2)).trans ?_
  exact (congrArg (fun i : S4x512x4096.Idx => kcTArr m c (seqRow (i 0) (i 2)) (i 1)) hi).symm

/-- The array result 6 holds, at position `r`, lane `j`. -/
def ksTArr (c : Dev nD) (r : Fin 16384) (j : Fin 512) : EReal := cache 1536 (by omega) (xr m c r) (gr m c) (wr m c) (pos r) j

theorem ksT_eq (c : Dev nD) (t : Fin cfg0.N) (r : Fin 512) (j : Fin 512) :
    (out0_14 (iblk m c 0 t) (iblk m c 1 t) (iblk m c 2 t) (iblk m c 3 t) (iblk m c 4 t) (iblk m c 5 t) (iblk m c 6 t) (iblk m c 7 t) (iblk m c 8 t) (ix3 0 j r) : EReal) = ksTArr m c (rowOf t r) j := by
  refine (Pay.out14_at _ _ _ _ _ _ _ _ _ _ _).trans ?_
  unfold ksTArr cache Pay.kHead
  simp only [blk0, blk1, blk3, blk5, blk6]
  by_cases h : j.val < 256
  · rw [dif_pos h, if_pos h]
    refine (turned (pos (rowOf t r)) _ j.val (j.val % 128) (by omega)).trans ?_
    refine congrArg (fun z => rope z (co (pos (rowOf t r))) (si (pos (rowOf t r))) ⟨j.val % 64, by omega⟩) (funext fun d => proj_col _ _ _ _ _ ?_)
    show 1024 + (512 + (j.val / 64 * 64 + d.val)) = 1536 + (j.val % 256 / 64 * 64 + d.val)
    omega
  · rw [dif_neg h, if_neg h]
    refine proj_col _ _ _ _ _ ?_
    show 1024 + (512 + j.val) = 1536 + j.val
    omega

set_option maxHeartbeats 1000000 in
/-- Result 6 of the call after the run. -/
theorem final14 (c : Dev nD) : (dats m 0 c).arrAt 14 (cfgs 0).N = fun i : S4x512x4096.Idx => ksTArr m c (seqRow (i 0) (i 2)) (i 1) := by
  refine (dats m 0 c).arrAt_eq_of_covers 14 _ (by decide +kernel) fun t _ y => ?_
  blk_simp
  rw [after0_14]
  idx_vars y
  obtain rfl : y0 = 0 := Subsingleton.elim _ _
  have hi : ((View.whole main_v41_5).slice (win0_14.rect t)).emb (ix3 0 y1 y2) = ix3 ⟨t.val / 8, by have h : t.val < 32 := t.isLt; omega⟩ y1 (tokOf t y2) := by blk_ext [idx t]
  refine (ksT_eq m c t y2 y1 : _ = ksTArr m c (rowOf t y2) y1).trans ?_
  refine (congrArg (fun r => ksTArr m c r y1) (rowOf_seq t y2)).trans ?_
  exact (congrArg (fun i : S4x512x4096.Idx => ksTArr m c (seqRow (i 0) (i 2)) (i 1)) hi).symm

/-- The array result 7 holds, at position `r`, lane `j`. -/
def kwTArr (c : Dev nD) (r : Fin 16384) (j : Fin 512) : EReal := cache 2048 (by omega) (xr m c r) (gr m c) (wr m c) (pos r) j

theorem kwT_eq (c : Dev nD) (t : Fin cfg0.N) (r : Fin 512) (j : Fin 512) :
    (out0_15 (iblk m c 0 t) (iblk m c 1 t) (iblk m c 2 t) (iblk m c 3 t) (iblk m c 4 t) (iblk m c 5 t) (iblk m c 6 t) (iblk m c 7 t) (iblk m c 8 t) (ix3 0 j r) : EReal) = kwTArr m c (rowOf t r) j := by
  refine (Pay.out15_at _ _ _ _ _ _ _ _ _ _ _).trans ?_
  unfold kwTArr cache Pay.kHead
  simp only [blk0, blk1, blk3, blk5, blk6]
  by_cases h : j.val < 256
  · rw [dif_pos h, if_pos h]
    refine (turned (pos (rowOf t r)) _ j.val (j.val % 128) (by omega)).trans ?_
    refine congrArg (fun z => rope z (co (pos (rowOf t r))) (si (pos (rowOf t r))) ⟨j.val % 64, by omega⟩) (funext fun d => proj_col _ _ _ _ _ ?_)
    show 1024 + (1024 + (j.val / 64 * 64 + d.val)) = 2048 + (j.val % 256 / 64 * 64 + d.val)
    omega
  · rw [dif_neg h, if_neg h]
    refine proj_col _ _ _ _ _ ?_
    show 1024 + (1024 + j.val) = 2048 + j.val
    omega

set_option maxHeartbeats 1000000 in
/-- Result 7 of the call after the run. -/
theorem final15 (c : Dev nD) : (dats m 0 c).arrAt 15 (cfgs 0).N = fun i : S4x512x4096.Idx => kwTArr m c (seqRow (i 0) (i 2)) (i 1) := by
  refine (dats m 0 c).arrAt_eq_of_covers 15 _ (by decide +kernel) fun t _ y => ?_
  blk_simp
  rw [after0_15]
  idx_vars y
  obtain rfl : y0 = 0 := Subsingleton.elim _ _
  have hi : ((View.whole main_v41_6).slice (win0_15.rect t)).emb (ix3 0 y1 y2) = ix3 ⟨t.val / 8, by have h : t.val < 32 := t.isLt; omega⟩ y1 (tokOf t y2) := by blk_ext [idx t]
  refine (kwT_eq m c t y2 y1 : _ = kwTArr m c (rowOf t y2) y1).trans ?_
  refine (congrArg (fun r => kwTArr m c r y1) (rowOf_seq t y2)).trans ?_
  exact (congrArg (fun i : S4x512x4096.Idx => kwTArr m c (seqRow (i 0) (i 2)) (i 1)) hi).symm

end Cert.Kernel6Ideal.Val
-- ==== Proof.InprojRef.lean ====
/-
The prompt group's input projection: the reference's results, entry by entry.
-/
module

public import proofs.«01_k».proof.Proof.InprojSpec
public import proofs.«01_k».proof.Proof.Gen.Reference6Ideal.Read
public import Idealize.ShloMosaic.Lib.Claim

@[expose] public section

set_option maxRecDepth 16384

noncomputable section

namespace Cert.Reference6Ideal.Rows

open Idealize.ShloMosaic Idealize.ShloMosaic.TcCoe Idealize.SL.Sem
open Cert.Reference6Ideal Cert.Reference6Ideal.Gen Cert.Reference6Ideal.Read Cert.Spec Cert.Inproj

variable (x0 : Vec Ideal S4x4096x1024 .f32) (x1 : Vec Ideal S2x4x1024 .f32) (x2 : Vec Ideal S1x1024x2608 .f32)

/-- The argument arrays: the row of one of the 16384 positions, the norm's weight, the projection's weights; and the position
    within its sequence. -/
abbrev xr (r : Fin 16384) : Row := fun k => x0 (ix3 ⟨r.val / 4096, by omega⟩ ⟨r.val % 4096, by omega⟩ k)
abbrev gr : Row := fun k => x1 (ix3 0 0 k)
abbrev wr : Wts := fun k j => x2 (ix3 0 k j)
abbrev pos (r : Fin 16384) : EReal := FloatOps.sitofp (F := Ideal) FTy.f32 (BitVec.ofNat 32 (r.val % 4096))

/-- The normalised row. -/
theorem xn_at (b : Fin 4) (t : Fin 4096) (j : Fin 1024) : val_main_v15 (F := Ideal) x0 x1 (ix3 b t j) = rms (fun k => x0 (ix3 b t k)) (gr x1) j := by
  pointwise! [val_main_v15, val_main_v14, val_main_v13, val_main_v12, val_main_v11, val_main_v10, val_main_v9, val_main_v8, val_main_v7, val_main_v6, val_main_v5, val_main_v4, val_main_v3, val_main_v2, val_main_v1, val_main_cst, val_main_cst_0, val_main_cst_1, rms]

/-- A projection: 1024 columns from column 0 on. -/
theorem v21_at (b : Fin 4) (t : Fin 4096) (j : Fin 1024) : val_main_v21 (F := Ideal) x0 x1 x2 (ix3 b t j)
    = proj (fun k => x0 (ix3 b t k)) (gr x1) (fun k => wr x2 k ⟨j.val, by omega⟩) := by
  unfold proj
  simp only [← xn_at]
  pointwise! [val_main_v21, val_main_v20, val_main_v0]

/-- The projection, head by head. -/
theorem v22_at (r : Fin 16384) (h : Fin 16) (d : Fin 64) : val_main_v22 (F := Ideal) x0 x1 x2 (ix3 r h d)
    = proj (xr x0 r) (gr x1) (fun k => wr x2 k ⟨h.val * 64 + d.val, by omega⟩) := by
  refine Eq.trans ?_ (v21_at x0 x1 x2 ⟨r.val / 4096, by omega⟩ ⟨r.val % 4096, by omega⟩ ⟨h.val * 64 + d.val, by omega⟩)
  pointwise! [val_main_v22]

/-- A projection: 256 columns from column 1024 on. -/
theorem v24_at (b : Fin 4) (t : Fin 4096) (j : Fin 256) : val_main_v24 (F := Ideal) x0 x1 x2 (ix3 b t j)
    = proj (fun k => x0 (ix3 b t k)) (gr x1) (fun k => wr x2 k ⟨1024 + j.val, by omega⟩) := by
  unfold proj
  simp only [← xn_at]
  pointwise! [val_main_v24, val_main_v23, val_main_v0]

/-- The projection, head by head. -/
theorem v25_at (r : Fin 16384) (h : Fin 4) (d : Fin 64) : val_main_v25 (F := Ideal) x0 x1 x2 (ix3 r h d)
    = proj (xr x0 r) (gr x1) (fun k => wr x2 k ⟨1024 + (h.val * 64 + d.val), by omega⟩) := by
  refine Eq.trans ?_ (v24_at x0 x1 x2 ⟨r.val / 4096, by omega⟩ ⟨r.val % 4096, by omega⟩ ⟨h.val * 64 + d.val, by omega⟩)
  pointwise! [val_main_v25]

/-- A projection: 256 columns from column 1280 on. -/
theorem v27_at (b : Fin 4) (t : Fin 4096) (j : Fin 256) : val_main_v27 (F := Ideal) x0 x1 x2 (ix3 b t j)
    = proj (fun k => x0 (ix3 b t k)) (gr x1) (fun k => wr x2 k ⟨1280 + j.val, by omega⟩) := by
  unfold proj
  simp only [← xn_at]
  pointwise! [val_main_v27, val_main_v26, val_main_v0]

/-- The projection, head by head. -/
theorem v28_at (r : Fin 16384) (h : Fin 4) (d : Fin 64) : val_main_v28 (F := Ideal) x0 x1 x2 (ix3 r h d)
    = proj (xr x0 r) (gr x1) (fun k => wr x2 k ⟨1280 + (h.val * 64 + d.val), by omega⟩) := by
  refine Eq.trans ?_ (v27_at x0 x1 x2 ⟨r.val / 4096, by omega⟩ ⟨r.val % 4096, by omega⟩ ⟨h.val * 64 + d.val, by omega⟩)
  pointwise! [val_main_v28]

/-- A projection: 256 columns from column 1536 on. -/
theorem v30_at (b : Fin 4) (t : Fin 4096) (j : Fin 256) : val_main_v30 (F := Ideal) x0 x1 x2 (ix3 b t j)
    = proj (fun k => x0 (ix3 b t k)) (gr x1) (fun k => wr x2 k ⟨1536 + j.val, by omega⟩) := by
  unfold proj
  simp only [← xn_at]
  pointwise! [val_main_v30, val_main_v29, val_main_v0]

/-- The projection, head by head. -/
theorem v31_at (r : Fin 16384) (h : Fin 4) (d : Fin 64) : val_main_v31 (F := Ideal) x0 x1 x2 (ix3 r h d)
    = proj (xr x0 r) (gr x1) (fun k => wr x2 k ⟨1536 + (h.val * 64 + d.val), by omega⟩) := by
  refine Eq.trans ?_ (v30_at x0 x1 x2 ⟨r.val / 4096, by omega⟩ ⟨r.val % 4096, by omega⟩ ⟨h.val * 64 + d.val, by omega⟩)
  pointwise! [val_main_v31]

/-- A projection: 256 columns from column 1792 on. -/
theorem v62_at (b : Fin 4) (t : Fin 4096) (j : Fin 256) : val_main_v62 (F := Ideal) x0 x1 x2 (ix3 b t j)
    = proj (fun k => x0 (ix3 b t k)) (gr x1) (fun k => wr x2 k ⟨1792 + j.val, by omega⟩) := by
  unfold proj
  simp only [← xn_at]
  pointwise! [val_main_v62, val_main_v61, val_main_v0]

/-- The projection, head by head. -/
theorem v63_at (r : Fin 16384) (h : Fin 4) (d : Fin 64) : val_main_v63 (F := Ideal) x0 x1 x2 (ix3 r h d)
    = proj (xr x0 r) (gr x1) (fun k => wr x2 k ⟨1792 + (h.val * 64 + d.val), by omega⟩) := by
  refine Eq.trans ?_ (v62_at x0 x1 x2 ⟨r.val / 4096, by omega⟩ ⟨r.val % 4096, by omega⟩ ⟨h.val * 64 + d.val, by omega⟩)
  pointwise! [val_main_v63]

/-- A projection: 256 columns from column 2048 on. -/
theorem v65_at (b : Fin 4) (t : Fin 4096) (j : Fin 256) : val_main_v65 (F := Ideal) x0 x1 x2 (ix3 b t j)
    = proj (fun k => x0 (ix3 b t k)) (gr x1) (fun k => wr x2 k ⟨2048 + j.val, by omega⟩) := by
  unfold proj
  simp only [← xn_at]
  pointwise! [val_main_v65, val_main_v64, val_main_v0]

/-- The projection, head by head. -/
theorem v66_at (r : Fin 16384) (h : Fin 4) (d : Fin 64) : val_main_v66 (F := Ideal) x0 x1 x2 (ix3 r h d)
    = proj (xr x0 r) (gr x1) (fun k => wr x2 k ⟨2048 + (h.val * 64 + d.val), by omega⟩) := by
  refine Eq.trans ?_ (v65_at x0 x1 x2 ⟨r.val / 4096, by omega⟩ ⟨r.val % 4096, by omega⟩ ⟨h.val * 64 + d.val, by omega⟩)
  pointwise! [val_main_v66]

/-- A projection: 256 columns from column 2304 on. -/
theorem v97_at (b : Fin 4) (t : Fin 4096) (j : Fin 256) : val_main_v97 (F := Ideal) x0 x1 x2 (ix3 b t j)
    = proj (fun k => x0 (ix3 b t k)) (gr x1) (fun k => wr x2 k ⟨2304 + j.val, by omega⟩) := by
  unfold proj
  simp only [← xn_at]
  pointwise! [val_main_v97, val_main_v96, val_main_v0]

/-- The projection, head by head. -/
theorem v98_at (r : Fin 16384) (h : Fin 4) (d : Fin 64) : val_main_v98 (F := Ideal) x0 x1 x2 (ix3 r h d)
    = proj (xr x0 r) (gr x1) (fun k => wr x2 k ⟨2304 + (h.val * 64 + d.val), by omega⟩) := by
  refine Eq.trans ?_ (v97_at x0 x1 x2 ⟨r.val / 4096, by omega⟩ ⟨r.val % 4096, by omega⟩ ⟨h.val * 64 + d.val, by omega⟩)
  pointwise! [val_main_v98]

/-- The angles. -/
theorem v43_at (r : Fin 16384) (f : Fin 32) : val_main_v43 (F := Ideal) (ix2 r f) = ang (pos r) f := by
  pointwise! [val_main_v43, val_main_v42, val_main_v41, val_main_v40, val_main_v39, val_main_v38, val_main_v37, val_main_v36, val_main_v35, val_main_v34, val_main_v33, val_main_v32, val_main_v19, val_main_v18, val_main_v17, val_main_v16, val_main_cst_2, val_main_cst_3, ang]

theorem v44_at (r : Fin 16384) (f : Fin 32) : val_main_v44 (F := Ideal) (ix2 r f) = co (pos r) f := by
  unfold co
  rw [← v43_at r]
  pointwise! [val_main_v44]

set_option maxHeartbeats 1000000 in
theorem v60_raw (r : Fin 16384) (h : Fin 4) (d : Fin 64) : val_main_v60 (F := Ideal) x0 x1 x2 (ix3 r h d)
    = if e : d.val < 32 then val_main_v31 (F := Ideal) x0 x1 x2 (ix3 r h d) * val_main_v44 (F := Ideal) (ix2 r ⟨d.val, e⟩)
        - val_main_v31 (F := Ideal) x0 x1 x2 (ix3 r h ⟨32 + d.val, by omega⟩) * Ideal.sin (val_main_v43 (F := Ideal) (ix2 r ⟨d.val, e⟩))
      else val_main_v31 (F := Ideal) x0 x1 x2 (ix3 r h ⟨32 + (d.val - 32), by omega⟩) * val_main_v44 (F := Ideal) (ix2 r ⟨d.val - 32, by omega⟩)
        + val_main_v31 (F := Ideal) x0 x1 x2 (ix3 r h ⟨d.val - 32, by omega⟩) * Ideal.sin (val_main_v43 (F := Ideal) (ix2 r ⟨d.val - 32, by omega⟩)) := by
  pointwise! [val_main_v60, val_main_v59, val_main_v58, val_main_v57, val_main_v56, val_main_v55, val_main_v54, val_main_v53, val_main_v52, val_main_v51, val_main_v50, val_main_v49, val_main_v48, val_main_v47, val_main_v46, val_main_v45]

/-- The turned heads. -/
theorem v60_at (r : Fin 16384) (h : Fin 4) (d : Fin 64) : val_main_v60 (F := Ideal) x0 x1 x2 (ix3 r h d)
    = rope (fun d => proj (xr x0 r) (gr x1) (fun k => wr x2 k ⟨1536 + (h.val * 64 + d.val), by omega⟩)) (co (pos r)) (si (pos r)) d := by
  rw [v60_raw, rope_split]
  simp only [v31_at, v43_at, v44_at, si]

/-- The angles. -/
theorem v78_at (r : Fin 16384) (f : Fin 32) : val_main_v78 (F := Ideal) (ix2 r f) = ang (pos r) f := by
  pointwise! [val_main_v78, val_main_v77, val_main_v76, val_main_v75, val_main_v74, val_main_v73, val_main_v72, val_main_v71, val_main_v70, val_main_v69, val_main_v68, val_main_v67, val_main_v19, val_main_v18, val_main_v17, val_main_v16, val_main_cst_4, val_main_cst_5, ang]

theorem v79_at (r : Fin 16384) (f : Fin 32) : val_main_v79 (F := Ideal) (ix2 r f) = co (pos r) f := by
  unfold co
  rw [← v78_at r]
  pointwise! [val_main_v79]

set_option maxHeartbeats 1000000 in
theorem v95_raw (r : Fin 16384) (h : Fin 4) (d : Fin 64) : val_main_v95 (F := Ideal) x0 x1 x2 (ix3 r h d)
    = if e : d.val < 32 then val_main_v66 (F := Ideal) x0 x1 x2 (ix3 r h d) * val_main_v79 (F := Ideal) (ix2 r ⟨d.val, e⟩)
        - val_main_v66 (F := Ideal) x0 x1 x2 (ix3 r h ⟨32 + d.val, by omega⟩) * Ideal.sin (val_main_v78 (F := Ideal) (ix2 r ⟨d.val, e⟩))
      else val_main_v66 (F := Ideal) x0 x1 x2 (ix3 r h ⟨32 + (d.val - 32), by omega⟩) * val_main_v79 (F := Ideal) (ix2 r ⟨d.val - 32, by omega⟩)
        + val_main_v66 (F := Ideal) x0 x1 x2 (ix3 r h ⟨d.val - 32, by omega⟩) * Ideal.sin (val_main_v78 (F := Ideal) (ix2 r ⟨d.val - 32, by omega⟩)) := by
  pointwise! [val_main_v95, val_main_v94, val_main_v93, val_main_v92, val_main_v91, val_main_v90, val_main_v89, val_main_v88, val_main_v87, val_main_v86, val_main_v85, val_main_v84, val_main_v83, val_main_v82, val_main_v81, val_main_v80]

/-- The turned heads. -/
theorem v95_at (r : Fin 16384) (h : Fin 4) (d : Fin 64) : val_main_v95 (F := Ideal) x0 x1 x2 (ix3 r h d)
    = rope (fun d => proj (xr x0 r) (gr x1) (fun k => wr x2 k ⟨2048 + (h.val * 64 + d.val), by omega⟩)) (co (pos r)) (si (pos r)) d := by
  rw [v95_raw, rope_split]
  simp only [v66_at, v78_at, v79_at, si]

/-- The angles. -/
theorem v134_at (r : Fin 16384) (f : Fin 32) : val_main_v134 (F := Ideal) (ix2 r f) = ang (pos r) f := by
  pointwise! [val_main_v134, val_main_v133, val_main_v132, val_main_v131, val_main_v130, val_main_v129, val_main_v128, val_main_v127, val_main_v126, val_main_v125, val_main_v124, val_main_v123, val_main_v19, val_main_v18, val_main_v17, val_main_v16, val_main_cst_9, val_main_cst_10, ang]

theorem v135_at (r : Fin 16384) (f : Fin 32) : val_main_v135 (F := Ideal) (ix2 r f) = co (pos r) f := by
  unfold co
  rw [← v134_at r]
  pointwise! [val_main_v135]

set_option maxHeartbeats 1000000 in
theorem v151_raw (r : Fin 16384) (h : Fin 16) (d : Fin 64) : val_main_v151 (F := Ideal) x0 x1 x2 (ix3 r h d)
    = if e : d.val < 32 then val_main_v22 (F := Ideal) x0 x1 x2 (ix3 r h d) * val_main_v135 (F := Ideal) (ix2 r ⟨d.val, e⟩)
        - val_main_v22 (F := Ideal) x0 x1 x2 (ix3 r h ⟨32 + d.val, by omega⟩) * Ideal.sin (val_main_v134 (F := Ideal) (ix2 r ⟨d.val, e⟩))
      else val_main_v22 (F := Ideal) x0 x1 x2 (ix3 r h ⟨32 + (d.val - 32), by omega⟩) * val_main_v135 (F := Ideal) (ix2 r ⟨d.val - 32, by omega⟩)
        + val_main_v22 (F := Ideal) x0 x1 x2 (ix3 r h ⟨d.val - 32, by omega⟩) * Ideal.sin (val_main_v134 (F := Ideal) (ix2 r ⟨d.val - 32, by omega⟩)) := by
  pointwise! [val_main_v151, val_main_v150, val_main_v149, val_main_v148, val_main_v147, val_main_v146, val_main_v145, val_main_v144, val_main_v143, val_main_v142, val_main_v141, val_main_v140, val_main_v139, val_main_v138, val_main_v137, val_main_v136]

/-- The turned heads. -/
theorem v151_at (r : Fin 16384) (h : Fin 16) (d : Fin 64) : val_main_v151 (F := Ideal) x0 x1 x2 (ix3 r h d)
    = rope (fun d => proj (xr x0 r) (gr x1) (fun k => wr x2 k ⟨h.val * 64 + d.val, by omega⟩)) (co (pos r)) (si (pos r)) d := by
  rw [v151_raw, rope_split]
  simp only [v22_at, v134_at, v135_at, si]

/-- The scaled queries. -/
theorem v122_at (j : Fin 1024) (r : Fin 16384) : val_main_v122 (F := Ideal) x0 x1 x2 (ix2 j r)
    = query (xr x0 r) (gr x1) (wr x2) j * Ideal.ofBits .f32 0x3E38AA3B#32 := by
  unfold query
  refine Eq.trans ?_ (congrArg (· * Ideal.ofBits .f32 0x3E38AA3B#32) ((v22_at x0 x1 x2 r ⟨j.val / 64, by omega⟩ ⟨j.val % 64, by omega⟩).trans (proj_col _ _ _ _ ⟨j.val, by omega⟩ ?_)))
  · pointwise! [val_main_v122, val_main_v121, val_main_v120, val_main_v119, val_main_v118, val_main_cst_8]
  · show j.val / 64 * 64 + j.val % 64 = j.val
    omega

/-- The scaled, turned queries. -/
theorem v156_at (j : Fin 1024) (r : Fin 16384) : val_main_v156 (F := Ideal) x0 x1 x2 (ix2 j r)
    = queryRope (xr x0 r) (gr x1) (wr x2) (pos r) j * Ideal.ofBits .f32 0x3E38AA3B#32 := by
  unfold queryRope
  refine Eq.trans ?_ (congrArg (· * Ideal.ofBits .f32 0x3E38AA3B#32) (v151_at x0 x1 x2 r ⟨j.val / 64, by omega⟩ ⟨j.val % 64, by omega⟩))
  pointwise! [val_main_v156, val_main_v155, val_main_v154, val_main_v153, val_main_v152, val_main_cst_11]

/-- The gates' projection. -/
theorem v110_at (r : Fin 16384) (j : Fin 48) : val_main_v110 (F := Ideal) x0 x1 x2 (ix2 r j)
    = proj (xr x0 r) (gr x1) (fun k => wr x2 k ⟨2560 + j.val, by omega⟩) := by
  unfold proj
  simp only [← xn_at]
  pointwise! [val_main_v110, val_main_v109, val_main_v108, val_main_v0]

/-- The gates. -/
theorem v157_at (j : Fin 128) (r : Fin 16384) : val_main_v157 (F := Ideal) x0 x1 x2 (ix2 j r)
    = gate (xr x0 r) (gr x1) (wr x2) j := by
  unfold gate
  simp only [← v110_at x0 x1 x2 r ⟨j.val, _⟩]
  pointwise! [val_main_v117, val_main_v116, val_main_v115, val_main_v114, val_main_v113, val_main_v112, val_main_v111, val_main_v157, val_main_cst_6, val_main_cst_7, val_main_call0_v0, val_main_c]
  rw [sitofp_nil]
  split_ifs with h
  · rw [← v110_at x0 x1 x2 r ⟨j.val, h⟩]
    rfl
  · rfl

/-- The unturned keys and values. -/
theorem v101_at (r : Fin 16384) (j : Fin 512) : val_main_v101 (F := Ideal) x0 x1 x2 (ix2 r j)
    = plain (xr x0 r) (gr x1) (wr x2) j := by
  unfold plain
  pointwise! [val_main_v101, val_main_v100, val_main_v99]
  split_ifs with h
  · refine (v25_at _ _ _ _ _ _).trans (proj_col _ _ _ _ _ ?_)
    show 1024 + (j.val / 64 * 64 + j.val % 64) = 1024 + j.val
    omega
  · refine (v28_at _ _ _ _ _ _).trans (proj_col _ _ _ _ _ ?_)
    show 1280 + ((j.val - 256) / 64 * 64 + (j.val - 256) % 64) = 1024 + j.val
    omega
  · exact absurd rfl ‹_›

/-- A branch's cache row. -/
theorem v104_at (r : Fin 16384) (j : Fin 512) : val_main_v104 (F := Ideal) x0 x1 x2 (ix2 r j)
    = cache 1536 (by omega) (xr x0 r) (gr x1) (wr x2) (pos r) j := by
  unfold cache
  pointwise! [val_main_v104, val_main_v103, val_main_v102]
  split_ifs with h
  · refine (v60_at _ _ _ _ _ _).trans ?_
    refine congrArg (fun z => rope z (co (pos r)) (si (pos r)) ⟨j.val % 64, by omega⟩) (funext fun d => proj_col _ _ _ _ _ ?_)
    show 1536 + (j.val / 64 * 64 + d.val) = 1536 + (j.val % 256 / 64 * 64 + d.val)
    omega
  · refine (v63_at _ _ _ _ _ _).trans (proj_col _ _ _ _ _ ?_)
    show 1792 + ((j.val - 256) / 64 * 64 + (j.val - 256) % 64) = 1536 + j.val
    omega
  · exact absurd rfl ‹_›

/-- A branch's cache row. -/
theorem v107_at (r : Fin 16384) (j : Fin 512) : val_main_v107 (F := Ideal) x0 x1 x2 (ix2 r j)
    = cache 2048 (by omega) (xr x0 r) (gr x1) (wr x2) (pos r) j := by
  unfold cache
  pointwise! [val_main_v107, val_main_v106, val_main_v105]
  split_ifs with h
  · refine (v95_at _ _ _ _ _ _).trans ?_
    refine congrArg (fun z => rope z (co (pos r)) (si (pos r)) ⟨j.val % 64, by omega⟩) (funext fun d => proj_col _ _ _ _ _ ?_)
    show 2048 + (j.val / 64 * 64 + d.val) = 2048 + (j.val % 256 / 64 * 64 + d.val)
    omega
  · refine (v98_at _ _ _ _ _ _).trans (proj_col _ _ _ _ _ ?_)
    show 2304 + ((j.val - 256) / 64 * 64 + (j.val - 256) % 64) = 2048 + j.val
    omega
  · exact absurd rfl ‹_›

/-- The same rows, features first. -/
theorem v159_at (b : Fin 4) (j : Fin 512) (t : Fin 4096) : val_main_v159 (F := Ideal) x0 x1 x2 (ix3 b j t)
    = plain (xr x0 ⟨b.val * 4096 + t.val, by omega⟩) (gr x1) (wr x2) j := by
  refine (val_main_v159_apply x0 x1 x2 _).trans ((val_main_v158_apply x0 x1 x2 _).trans (Eq.trans (congrArg (val_main_v101 (F := Ideal) x0 x1 x2) ?_)
    (v101_at x0 x1 x2 ⟨b.val * 4096 + t.val, by omega⟩ j)))
  funext a
  match a with
  | ⟨0, _⟩ => exact Fin.ext (show ((b.val * 4096 + t.val) * 512 + j.val) / 512 = b.val * 4096 + t.val by omega)
  | ⟨1, _⟩ => exact Fin.ext (show ((b.val * 4096 + t.val) * 512 + j.val) % 512 = j.val by omega)

/-- The same rows, features first. -/
theorem v161_at (b : Fin 4) (j : Fin 512) (t : Fin 4096) : val_main_v161 (F := Ideal) x0 x1 x2 (ix3 b j t)
    = cache 1536 (by omega) (xr x0 ⟨b.val * 4096 + t.val, by omega⟩) (gr x1) (wr x2) (pos ⟨b.val * 4096 + t.val, by omega⟩) j := by
  refine (val_main_v161_apply x0 x1 x2 _).trans ((val_main_v160_apply x0 x1 x2 _).trans (Eq.trans (congrArg (val_main_v104 (F := Ideal) x0 x1 x2) ?_)
    (v104_at x0 x1 x2 ⟨b.val * 4096 + t.val, by omega⟩ j)))
  funext a
  match a with
  | ⟨0, _⟩ => exact Fin.ext (show ((b.val * 4096 + t.val) * 512 + j.val) / 512 = b.val * 4096 + t.val by omega)
  | ⟨1, _⟩ => exact Fin.ext (show ((b.val * 4096 + t.val) * 512 + j.val) % 512 = j.val by omega)

/-- The same rows, features first. -/
theorem v163_at (b : Fin 4) (j : Fin 512) (t : Fin 4096) : val_main_v163 (F := Ideal) x0 x1 x2 (ix3 b j t)
    = cache 2048 (by omega) (xr x0 ⟨b.val * 4096 + t.val, by omega⟩) (gr x1) (wr x2) (pos ⟨b.val * 4096 + t.val, by omega⟩) j := by
  refine (val_main_v163_apply x0 x1 x2 _).trans ((val_main_v162_apply x0 x1 x2 _).trans (Eq.trans (congrArg (val_main_v107 (F := Ideal) x0 x1 x2) ?_)
    (v107_at x0 x1 x2 ⟨b.val * 4096 + t.val, by omega⟩ j)))
  funext a
  match a with
  | ⟨0, _⟩ => exact Fin.ext (show ((b.val * 4096 + t.val) * 512 + j.val) / 512 = b.val * 4096 + t.val by omega)
  | ⟨1, _⟩ => exact Fin.ext (show ((b.val * 4096 + t.val) * 512 + j.val) % 512 = j.val by omega)

end Cert.Reference6Ideal.Rows
-- ==== Proof.InprojClaim.lean ====
/-
The prompt group's input projection and its reference end with the same seven arrays.
-/
module

public import proofs.«01_k».proof.Proof.InprojFin
public import proofs.«01_k».proof.Proof.InprojRef
public import proofs.«01_k».proof.Defs
public import proofs.«01_k».proof.Proof.Gen.Reference6Ideal.Run
public import Idealize.ShloMosaic.Lib.Claim

@[expose] public section

set_option maxRecDepth 16384

noncomputable section

namespace Cert.InprojClaim

open Idealize.ShloMosaic Idealize.ShloMosaic.TcCoe Idealize.SL.Sem

variable (m : (ℓ : Loc Kernel6Ideal.nD Kernel6Ideal.τ Kernel6Ideal.sig) → Buf (Elt Ideal) ℓ) (c : Dev Kernel6Ideal.nD)

/-- The reference's result, read from the kernel's arguments, is the kernel's array. -/
theorem ref_q : Reference6Ideal.Read.val_main_v122 (F := Ideal) (m ((c : Thread Kernel6Ideal.nD Kernel6Ideal.τ).loc Kernel6Ideal.main_arg0)) (m ((c : Thread Kernel6Ideal.nD Kernel6Ideal.τ).loc Kernel6Ideal.main_arg1)) (m ((c : Thread Kernel6Ideal.nD Kernel6Ideal.τ).loc Kernel6Ideal.main_arg2))
      = fun i : Kernel6Ideal.S1024x16384.Idx => Kernel6Ideal.Val.qArr m c (i 1) (i 0) := by
  funext i
  idx_vars i
  exact Reference6Ideal.Rows.v122_at _ _ _ _ _

/-- The reference's result, read from the kernel's arguments, is the kernel's array. -/
theorem ref_qr : Reference6Ideal.Read.val_main_v156 (F := Ideal) (m ((c : Thread Kernel6Ideal.nD Kernel6Ideal.τ).loc Kernel6Ideal.main_arg0)) (m ((c : Thread Kernel6Ideal.nD Kernel6Ideal.τ).loc Kernel6Ideal.main_arg1)) (m ((c : Thread Kernel6Ideal.nD Kernel6Ideal.τ).loc Kernel6Ideal.main_arg2))
      = fun i : Kernel6Ideal.S1024x16384.Idx => Kernel6Ideal.Val.qrArr m c (i 1) (i 0) := by
  funext i
  idx_vars i
  exact Reference6Ideal.Rows.v156_at _ _ _ _ _

/-- The reference's result, read from the kernel's arguments, is the kernel's array. -/
theorem ref_g : Reference6Ideal.Read.val_main_v157 (F := Ideal) (m ((c : Thread Kernel6Ideal.nD Kernel6Ideal.τ).loc Kernel6Ideal.main_arg0)) (m ((c : Thread Kernel6Ideal.nD Kernel6Ideal.τ).loc Kernel6Ideal.main_arg1)) (m ((c : Thread Kernel6Ideal.nD Kernel6Ideal.τ).loc Kernel6Ideal.main_arg2))
      = fun i : Kernel6Ideal.S128x16384.Idx => Kernel6Ideal.Val.gArr m c (i 1) (i 0) := by
  funext i
  idx_vars i
  exact Reference6Ideal.Rows.v157_at _ _ _ _ _

/-- The reference's result, read from the kernel's arguments, is the kernel's array. -/
theorem ref_kc : Reference6Ideal.Read.val_main_v101 (F := Ideal) (m ((c : Thread Kernel6Ideal.nD Kernel6Ideal.τ).loc Kernel6Ideal.main_arg0)) (m ((c : Thread Kernel6Ideal.nD Kernel6Ideal.τ).loc Kernel6Ideal.main_arg1)) (m ((c : Thread Kernel6Ideal.nD Kernel6Ideal.τ).loc Kernel6Ideal.main_arg2))
      = fun i : Kernel6Ideal.S16384x512.Idx => Kernel6Ideal.Val.kcArr m c (i 0) (i 1) := by
  funext i
  idx_vars i
  exact Reference6Ideal.Rows.v101_at _ _ _ _ _

/-- The reference's result, read from the kernel's arguments, is the kernel's array. -/
theorem ref_kcT : Reference6Ideal.Read.val_main_v159 (F := Ideal) (m ((c : Thread Kernel6Ideal.nD Kernel6Ideal.τ).loc Kernel6Ideal.main_arg0)) (m ((c : Thread Kernel6Ideal.nD Kernel6Ideal.τ).loc Kernel6Ideal.main_arg1)) (m ((c : Thread Kernel6Ideal.nD Kernel6Ideal.τ).loc Kernel6Ideal.main_arg2))
      = fun i : Kernel6Ideal.S4x512x4096.Idx => Kernel6Ideal.Val.kcTArr m c (Kernel6Ideal.Val.seqRow (i 0) (i 2)) (i 1) := by
  funext i
  idx_vars i
  exact Reference6Ideal.Rows.v159_at _ _ _ _ _ _

/-- The reference's result, read from the kernel's arguments, is the kernel's array. -/
theorem ref_ksT : Reference6Ideal.Read.val_main_v161 (F := Ideal) (m ((c : Thread Kernel6Ideal.nD Kernel6Ideal.τ).loc Kernel6Ideal.main_arg0)) (m ((c : Thread Kernel6Ideal.nD Kernel6Ideal.τ).loc Kernel6Ideal.main_arg1)) (m ((c : Thread Kernel6Ideal.nD Kernel6Ideal.τ).loc Kernel6Ideal.main_arg2))
      = fun i : Kernel6Ideal.S4x512x4096.Idx => Kernel6Ideal.Val.ksTArr m c (Kernel6Ideal.Val.seqRow (i 0) (i 2)) (i 1) := by
  funext i
  idx_vars i
  exact Reference6Ideal.Rows.v161_at _ _ _ _ _ _

/-- The reference's result, read from the kernel's arguments, is the kernel's array. -/
theorem ref_kwT : Reference6Ideal.Read.val_main_v163 (F := Ideal) (m ((c : Thread Kernel6Ideal.nD Kernel6Ideal.τ).loc Kernel6Ideal.main_arg0)) (m ((c : Thread Kernel6Ideal.nD Kernel6Ideal.τ).loc Kernel6Ideal.main_arg1)) (m ((c : Thread Kernel6Ideal.nD Kernel6Ideal.τ).loc Kernel6Ideal.main_arg2))
      = fun i : Kernel6Ideal.S4x512x4096.Idx => Kernel6Ideal.Val.kwTArr m c (Kernel6Ideal.Val.seqRow (i 0) (i 2)) (i 1) := by
  funext i
  idx_vars i
  exact Reference6Ideal.Rows.v163_at _ _ _ _ _ _

set_option maxHeartbeats 8000000 in
/-- Both programs leave the same seven arrays. -/
theorem algebraic : Cert.algebraic_Kernel6Ideal_Reference6Ideal := by
  pair_intro
  · run_from Cert.Kernel6Ideal.Gen.run_main m g
    · exact Cert.Kernel6Ideal.Gen.V_main_arg0 m c
    · exact Cert.Kernel6Ideal.Gen.V_main_arg1 m c
    · exact Cert.Kernel6Ideal.Gen.V_main_arg2 m c
  · run_from Cert.Reference6Ideal.Value.run m' g'
    · obtain ⟨h0, h1, h2⟩ := hagree c
      refine Eq.trans (b := Reference6Ideal.Read.val_main_v122 (F := Ideal) (m' ((c.tc : Thread Reference6Ideal.nD Reference6Ideal.τ).loc Reference6Ideal.main_arg0)) (m' ((c.tc : Thread Reference6Ideal.nD Reference6Ideal.τ).loc Reference6Ideal.main_arg1)) (m' ((c.tc : Thread Reference6Ideal.nD Reference6Ideal.τ).loc Reference6Ideal.main_arg2))) ?_ ?_
      · first
        | exact Reference6Ideal.Read.val_main_v122_eq _ _ _
        | rw [h0, h1, h2]
          exact Reference6Ideal.Read.val_main_v122_eq _ _ _
      rw [h0, h1, h2, ref_q]
      exact (Kernel6Ideal.Val.final9 m c).symm
    · obtain ⟨h0, h1, h2⟩ := hagree c
      refine Eq.trans (b := Reference6Ideal.Read.val_main_v156 (F := Ideal) (m' ((c.tc : Thread Reference6Ideal.nD Reference6Ideal.τ).loc Reference6Ideal.main_arg0)) (m' ((c.tc : Thread Reference6Ideal.nD Reference6Ideal.τ).loc Reference6Ideal.main_arg1)) (m' ((c.tc : Thread Reference6Ideal.nD Reference6Ideal.τ).loc Reference6Ideal.main_arg2))) ?_ ?_
      · exact Reference6Ideal.Read.val_main_v156_eq m' c
      rw [h0, h1, h2, ref_qr]
      exact (Kernel6Ideal.Val.final10 m c).symm
    · obtain ⟨h0, h1, h2⟩ := hagree c
      refine Eq.trans (b := Reference6Ideal.Read.val_main_v157 (F := Ideal) (m' ((c.tc : Thread Reference6Ideal.nD Reference6Ideal.τ).loc Reference6Ideal.main_arg0)) (m' ((c.tc : Thread Reference6Ideal.nD Reference6Ideal.τ).loc Reference6Ideal.main_arg1)) (m' ((c.tc : Thread Reference6Ideal.nD Reference6Ideal.τ).loc Reference6Ideal.main_arg2))) ?_ ?_
      · first
        | exact Reference6Ideal.Read.val_main_v157_eq _ _ _
        | rw [h0, h1, h2]
          exact Reference6Ideal.Read.val_main_v157_eq _ _ _
      rw [h0, h1, h2, ref_g]
      exact (Kernel6Ideal.Val.final11 m c).symm
    · obtain ⟨h0, h1, h2⟩ := hagree c
      refine Eq.trans (b := Reference6Ideal.Read.val_main_v101 (F := Ideal) (m' ((c.tc : Thread Reference6Ideal.nD Reference6Ideal.τ).loc Reference6Ideal.main_arg0)) (m' ((c.tc : Thread Reference6Ideal.nD Reference6Ideal.τ).loc Reference6Ideal.main_arg1)) (m' ((c.tc : Thread Reference6Ideal.nD Reference6Ideal.τ).loc Reference6Ideal.main_arg2))) ?_ ?_
      · first
        | exact Reference6Ideal.Read.val_main_v101_eq _ _ _
        | rw [h0, h1, h2]
          exact Reference6Ideal.Read.val_main_v101_eq _ _ _
      rw [h0, h1, h2, ref_kc]
      exact (Kernel6Ideal.Val.final12 m c).symm
    · obtain ⟨h0, h1, h2⟩ := hagree c
      refine Eq.trans (b := Reference6Ideal.Read.val_main_v159 (F := Ideal) (m' ((c.tc : Thread Reference6Ideal.nD Reference6Ideal.τ).loc Reference6Ideal.main_arg0)) (m' ((c.tc : Thread Reference6Ideal.nD Reference6Ideal.τ).loc Reference6Ideal.main_arg1)) (m' ((c.tc : Thread Reference6Ideal.nD Reference6Ideal.τ).loc Reference6Ideal.main_arg2))) ?_ ?_
      · first
        | exact Reference6Ideal.Read.val_main_v159_eq _ _ _
        | rw [h0, h1, h2]
          exact Reference6Ideal.Read.val_main_v159_eq _ _ _
      rw [h0, h1, h2, ref_kcT]
      exact (Kernel6Ideal.Val.final13 m c).symm
    · obtain ⟨h0, h1, h2⟩ := hagree c
      refine Eq.trans (b := Reference6Ideal.Read.val_main_v161 (F := Ideal) (m' ((c.tc : Thread Reference6Ideal.nD Reference6Ideal.τ).loc Reference6Ideal.main_arg0)) (m' ((c.tc : Thread Reference6Ideal.nD Reference6Ideal.τ).loc Reference6Ideal.main_arg1)) (m' ((c.tc : Thread Reference6Ideal.nD Reference6Ideal.τ).loc Reference6Ideal.main_arg2))) ?_ ?_
      · exact Reference6Ideal.Read.val_main_v161_eq m' c
      rw [h0, h1, h2, ref_ksT]
      exact (Kernel6Ideal.Val.final14 m c).symm
    · obtain ⟨h0, h1, h2⟩ := hagree c
      refine Eq.trans (b := Reference6Ideal.Read.val_main_v163 (F := Ideal) (m' ((c.tc : Thread Reference6Ideal.nD Reference6Ideal.τ).loc Reference6Ideal.main_arg0)) (m' ((c.tc : Thread Reference6Ideal.nD Reference6Ideal.τ).loc Reference6Ideal.main_arg1)) (m' ((c.tc : Thread Reference6Ideal.nD Reference6Ideal.τ).loc Reference6Ideal.main_arg2))) ?_ ?_
      · exact Reference6Ideal.Read.val_main_v163_eq m' c
      rw [h0, h1, h2, ref_kwT]
      exact (Kernel6Ideal.Val.final15 m c).symm

end Cert.InprojClaim
-- ==== Proof.InprojSamplePay.lean ====
/-
The sample group's input projection: what the one grid point leaves in its six blocks, entry by entry.
-/
module

public import proofs.«01_k».proof.Proof.InprojSpec
public import proofs.«01_k».proof.Proof.Gen.Kernel7Ideal.Frame
public import Idealize.ShloMosaic.Lib.Claim

@[expose] public section

set_option maxRecDepth 16384

noncomputable section

namespace Cert.Kernel7Ideal.Pay

open Idealize.ShloMosaic Idealize.ShloMosaic.TcCoe Idealize.SL.Sem
open Cert.Kernel7Ideal Cert.Kernel7Ideal.Gen Cert.Spec Cert.Inproj

variable (v18 v20 : FVec Ideal S32x128 .f32)

/-- The turned keys of the selection branch. -/
theorem pay10_at (v28 : FVec Ideal S32x256 .f32) (r : Fin 32) (j : Fin 256) :
    k0_pay10 v18 v20 v28 (Scalar.select (Scalar.cmpi .eq 64#32 0#32) 1#32 64#32) k0_pay7 k0_pay8 k0_pay9 (ix2 r j)
      = turn (fun d => v28 (ix2 r ⟨j.val / 64 * 64 + d.val, by omega⟩)) (v18 (ix2 r ⟨j.val % 128, by omega⟩)) (v20 (ix2 r ⟨j.val % 128, by omega⟩)) ⟨j.val % 64, by omega⟩ := by
  unfold k0_pay10
  pointwise [turn, k0_pay7, k0_pay8, k0_pay9]
  split_ifs with h
  all_goals
    refine congrArg₂ (· + ·) (congrArg₂ (· * ·) (congrArg v28 ?_) (congrArg v18 ?_)) (congrArg₂ (· * ·) ((sel_eq _ (by omega) _ _).trans ?_) (congrArg v20 ?_))
    · blk_ext
    · blk_ext
    · split_ifs <;> exact congrArg v28 (by blk_ext)
    · blk_ext

/-- The turned keys of the window branch. -/
theorem pay16_at (v68 : FVec Ideal S32x256 .f32) (r : Fin 32) (j : Fin 256) :
    k0_pay16 v18 v20 v68 k0_pay13 k0_pay14 k0_pay15 (ix2 r j)
      = turn (fun d => v68 (ix2 r ⟨j.val / 64 * 64 + d.val, by omega⟩)) (v18 (ix2 r ⟨j.val % 128, by omega⟩)) (v20 (ix2 r ⟨j.val % 128, by omega⟩)) ⟨j.val % 64, by omega⟩ := by
  unfold k0_pay16
  pointwise [turn, k0_pay13, k0_pay14, k0_pay15]
  split_ifs with h
  all_goals
    refine congrArg₂ (· + ·) (congrArg₂ (· * ·) (congrArg v68 ?_) (congrArg v18 ?_)) (congrArg₂ (· * ·) ((sel_eq _ (by omega) _ _).trans ?_) (congrArg v20 ?_))
    · blk_ext
    · blk_ext
    · split_ifs <;> exact congrArg v68 (by blk_ext)
    · blk_ext

theorem pay24_at (v112 : FVec Ideal S32x1024 .f32) (r : Fin 32) (j : Fin 128) :
    k0_pay24 v18 v20 v112 k0_pay20 k0_pay21 k0_pay22 (ix2 r j)
      = turn (fun d => v112 (ix2 r ⟨0 + j.val / 64 * 64 + d.val, by omega⟩)) (v18 (ix2 r ⟨j.val % 128, by omega⟩)) (v20 (ix2 r ⟨j.val % 128, by omega⟩)) ⟨j.val % 64, by omega⟩ := by
  unfold k0_pay24
  pointwise [turn, k0_pay23, k0_pay20, k0_pay21, k0_pay22]
  all_goals
    refine congrArg₂ (· + ·) (congrArg₂ (· * ·) (congrArg v112 ?_) (congrArg v18 ?_)) (congrArg₂ (· * ·) ((sel_eq _ (by omega) _ _).trans ?_) (congrArg v20 ?_))
    · blk_ext
    · blk_ext
    · split_ifs <;> exact congrArg v112 (by blk_ext)
    · blk_ext

theorem pay25_at (v112 : FVec Ideal S32x1024 .f32) (r : Fin 32) (j : Fin 128) :
    k0_pay25 v18 v20 v112 k0_pay20 k0_pay21 k0_pay22 (ix2 r j)
      = turn (fun d => v112 (ix2 r ⟨128 + j.val / 64 * 64 + d.val, by omega⟩)) (v18 (ix2 r ⟨j.val % 128, by omega⟩)) (v20 (ix2 r ⟨j.val % 128, by omega⟩)) ⟨j.val % 64, by omega⟩ := by
  unfold k0_pay25
  pointwise [turn, k0_pay23, k0_pay20, k0_pay21, k0_pay22]
  all_goals
    refine congrArg₂ (· + ·) (congrArg₂ (· * ·) (congrArg v112 ?_) (congrArg v18 ?_)) (congrArg₂ (· * ·) ((sel_eq _ (by omega) _ _).trans ?_) (congrArg v20 ?_))
    · blk_ext
    · blk_ext
    · split_ifs <;> exact congrArg v112 (by blk_ext)
    · blk_ext

theorem pay26_at (v112 : FVec Ideal S32x1024 .f32) (r : Fin 32) (j : Fin 128) :
    k0_pay26 v18 v20 v112 k0_pay20 k0_pay21 k0_pay22 (ix2 r j)
      = turn (fun d => v112 (ix2 r ⟨256 + j.val / 64 * 64 + d.val, by omega⟩)) (v18 (ix2 r ⟨j.val % 128, by omega⟩)) (v20 (ix2 r ⟨j.val % 128, by omega⟩)) ⟨j.val % 64, by omega⟩ := by
  unfold k0_pay26
  pointwise [turn, k0_pay23, k0_pay20, k0_pay21, k0_pay22]
  all_goals
    refine congrArg₂ (· + ·) (congrArg₂ (· * ·) (congrArg v112 ?_) (congrArg v18 ?_)) (congrArg₂ (· * ·) ((sel_eq _ (by omega) _ _).trans ?_) (congrArg v20 ?_))
    · blk_ext
    · blk_ext
    · split_ifs <;> exact congrArg v112 (by blk_ext)
    · blk_ext

theorem pay27_at (v112 : FVec Ideal S32x1024 .f32) (r : Fin 32) (j : Fin 128) :
    k0_pay27 v18 v20 v112 k0_pay20 k0_pay21 k0_pay22 (ix2 r j)
      = turn (fun d => v112 (ix2 r ⟨384 + j.val / 64 * 64 + d.val, by omega⟩)) (v18 (ix2 r ⟨j.val % 128, by omega⟩)) (v20 (ix2 r ⟨j.val % 128, by omega⟩)) ⟨j.val % 64, by omega⟩ := by
  unfold k0_pay27
  pointwise [turn, k0_pay23, k0_pay20, k0_pay21, k0_pay22]
  all_goals
    refine congrArg₂ (· + ·) (congrArg₂ (· * ·) (congrArg v112 ?_) (congrArg v18 ?_)) (congrArg₂ (· * ·) ((sel_eq _ (by omega) _ _).trans ?_) (congrArg v20 ?_))
    · blk_ext
    · blk_ext
    · split_ifs <;> exact congrArg v112 (by blk_ext)
    · blk_ext

theorem pay28_at (v112 : FVec Ideal S32x1024 .f32) (r : Fin 32) (j : Fin 128) :
    k0_pay28 v18 v20 v112 k0_pay20 k0_pay21 k0_pay22 (ix2 r j)
      = turn (fun d => v112 (ix2 r ⟨512 + j.val / 64 * 64 + d.val, by omega⟩)) (v18 (ix2 r ⟨j.val % 128, by omega⟩)) (v20 (ix2 r ⟨j.val % 128, by omega⟩)) ⟨j.val % 64, by omega⟩ := by
  unfold k0_pay28
  pointwise [turn, k0_pay23, k0_pay20, k0_pay21, k0_pay22]
  all_goals
    refine congrArg₂ (· + ·) (congrArg₂ (· * ·) (congrArg v112 ?_) (congrArg v18 ?_)) (congrArg₂ (· * ·) ((sel_eq _ (by omega) _ _).trans ?_) (congrArg v20 ?_))
    · blk_ext
    · blk_ext
    · split_ifs <;> exact congrArg v112 (by blk_ext)
    · blk_ext

set_option maxHeartbeats 4000000 in
/-- The turned queries, scaled. -/
theorem pay30_at (v112 : FVec Ideal S32x1024 .f32) (r : Fin 32) (j : Fin 1024) :
    k0_pay30 v18 v20 v112 (k0_pay23 k0_pay20 k0_pay21 k0_pay22) (k0_pay24 v18 v20 v112 k0_pay20 k0_pay21 k0_pay22) (k0_pay25 v18 v20 v112 k0_pay20 k0_pay21 k0_pay22) (k0_pay26 v18 v20 v112 k0_pay20 k0_pay21 k0_pay22) (k0_pay27 v18 v20 v112 k0_pay20 k0_pay21 k0_pay22) (k0_pay28 v18 v20 v112 k0_pay20 k0_pay21 k0_pay22) (ix2 r j)
      = turn (fun d => v112 (ix2 r ⟨j.val / 64 * 64 + d.val, by omega⟩)) (v18 (ix2 r ⟨j.val % 128, by omega⟩)) (v20 (ix2 r ⟨j.val % 128, by omega⟩)) ⟨j.val % 64, by omega⟩ * Ideal.ofBits .f32 0x3E000000#32 := by
  unfold k0_pay30
  pointwise [k0_pay24, k0_pay25, k0_pay26, k0_pay27, k0_pay28, turn, k0_pay23, k0_pay20, k0_pay21, k0_pay22]
  refine congrArg₂ (· * ·) ?_ rfl
  split_ifs
  all_goals
    refine congrArg₂ (· + ·) (congrArg₂ (· * ·) (congrArg v112 ?_) (congrArg v18 ?_)) (congrArg₂ (· * ·) ((sel_eq _ (by omega) _ _).trans ?_) (congrArg v20 ?_))
    · blk_ext
    · blk_ext
    · split_ifs <;> exact congrArg v112 (by blk_ext)
    · blk_ext

variable (x0 : Vec Ideal S32x1024 .f32) (x1 : Vec Ideal S1x1024 .f32) (x2 : Vec Ideal S1024x1024 .bf16)
  (x3 : Vec Ideal S1024x1536 .bf16) (x4 : Vec Ideal S1024x128 .bf16) (x5 x6 : Vec Ideal S32x128 .f32)

/-- The key and value projections. -/
theorem pay4_at (r : Fin 32) (j : Fin 1536) : k0_pay4 (View.ld x0 r0_0) (View.ld x1 r0_1) (View.ld x3 r0_3) (ix2 r j)
    = proj (fun k => x0 (ix2 r k)) (fun k => x1 (ix2 0 k)) (fun k => x3 (ix2 k j)) := by
  unfold k0_pay4 k0_pay1
  pointwise [proj, rms]

/-- The query projection. -/
theorem pay19_at (r : Fin 32) (j : Fin 1024) : k0_pay19 (k0_pay1 (View.ld x0 r0_0) (View.ld x1 r0_1)) (View.ld x2 r0_6) (ix2 r j)
    = proj (fun k => x0 (ix2 r k)) (fun k => x1 (ix2 0 k)) (fun k => x2 (ix2 k j)) := by
  unfold k0_pay19 k0_pay1
  pointwise [proj, rms]

theorem pay2_at (r : Fin 32) (j : Fin 128) : k0_pay2 (View.ld x5 r0_2) (ix2 r j) = x5 (ix2 r j) := by
  unfold k0_pay2
  pointwise

theorem pay3_at (r : Fin 32) (j : Fin 128) : k0_pay3 (View.ld x6 r0_2) (ix2 r j) = x6 (ix2 r j) := by
  unfold k0_pay3
  pointwise

theorem pay6_at (r : Fin 32) (j : Fin 256) : k0_pay6 (View.ld x0 r0_0) (View.ld x1 r0_1) (View.ld x3 r0_3) (ix2 r j)
    = proj (fun k => x0 (ix2 r k)) (fun k => x1 (ix2 0 k)) (fun k => x3 (ix2 k ⟨512 + j.val, by omega⟩)) := by
  unfold k0_pay6
  pointwise
  exact pay4_at _ _ _ _ _

theorem pay12_at (r : Fin 32) (j : Fin 256) : k0_pay12 (k0_pay4 (View.ld x0 r0_0) (View.ld x1 r0_1) (View.ld x3 r0_3)) (ix2 r j)
    = proj (fun k => x0 (ix2 r k)) (fun k => x1 (ix2 0 k)) (fun k => x3 (ix2 k ⟨1024 + j.val, by omega⟩)) := by
  unfold k0_pay12
  pointwise
  exact pay4_at _ _ _ _ _

/-- A head's lanes of the query projection of row `r`, the head holding column `j`. -/
def qHead (r : Fin 32) (j : Fin 1024) (d : Fin 64) : EReal :=
  proj (fun k => x0 (ix2 r k)) (fun k => x1 (ix2 0 k)) (fun k => x2 (ix2 k ⟨j.val / 64 * 64 + d.val, by omega⟩))

/-- A head's lanes of the key projection of row `r` that starts at column `b`, the head holding column `b + j`. -/
def kHead (b : ℕ) (hb : b ≤ 1280) (r : Fin 32) (j : Fin 256) (d : Fin 64) : EReal :=
  proj (fun k => x0 (ix2 r k)) (fun k => x1 (ix2 0 k)) (fun k => x3 (ix2 k ⟨b + (j.val / 64 * 64 + d.val), by omega⟩))

/-- The scaled queries. -/
theorem out7_at (r : Fin 32) (j : Fin 1024) : out0_7 x0 x1 x2 x3 x4 x5 x6 (ix2 r j)
    = proj (fun k => x0 (ix2 r k)) (fun k => x1 (ix2 0 k)) (fun k => x2 (ix2 k j)) * Ideal.ofBits .f32 0x3E000000#32 := by
  unfold_out out0_7
  canon_tiles z h
  obtain rfl : r = z 0 := Fin.ext h0
  obtain rfl : j = z 1 := Fin.ext h1
  open_payloads
  pointwise [proj, rms]

/-- The scaled, turned queries. -/
theorem out8_at (r : Fin 32) (j : Fin 1024) : out0_8 x0 x1 x2 x3 x4 x5 x6 (ix2 r j)
    = turn (qHead x0 x1 x2 r j) (x5 (ix2 r ⟨j.val % 128, by omega⟩)) (x6 (ix2 r ⟨j.val % 128, by omega⟩)) ⟨j.val % 64, by omega⟩ * Ideal.ofBits .f32 0x3E000000#32 := by
  unfold_out out0_8
  canon_tiles z h
  idx_vars z
  obtain rfl : r = z0 := Fin.ext h0
  obtain rfl : j = z1 := Fin.ext h1
  refine (pay30_at _ _ _ _ _).trans ?_
  simp only [pay19_at, pay2_at, pay3_at]
  rfl

/-- The gates. -/
theorem out9_at (r : Fin 32) (j : Fin 128) : out0_9 x0 x1 x2 x3 x4 x5 x6 (ix2 r j)
    = Ideal.logistic (proj (fun k => x0 (ix2 r k)) (fun k => x1 (ix2 0 k)) (fun k => x4 (ix2 k j))) := by
  unfold_out out0_9
  canon_tiles z h
  obtain rfl : r = z 0 := Fin.ext h0
  obtain rfl : j = z 1 := Fin.ext h1
  open_payloads
  pointwise [proj, rms]

/-- The keys and values for compression. -/
theorem out10_at (r : Fin 32) (j : Fin 512) : out0_10 x0 x1 x2 x3 x4 x5 x6 (ix2 r j)
    = proj (fun k => x0 (ix2 r k)) (fun k => x1 (ix2 0 k)) (fun k => x3 (ix2 k ⟨j.val, by omega⟩)) := by
  unfold_out out0_10
  canon_tiles z h
  obtain rfl : r = z 0 := Fin.ext h0
  obtain rfl : j = z 1 := Fin.ext h1
  open_payloads
  pointwise [proj, rms]

/-- The turned keys and the values of the selection branch, the keys first. -/
theorem out11_at (r : Fin 32) (j : Fin 512) : out0_11 x0 x1 x2 x3 x4 x5 x6 (ix2 r j)
    = if h : j.val < 256 then turn (kHead x0 x1 x3 512 (by omega) r ⟨j.val, h⟩) (x5 (ix2 r ⟨j.val % 128, by omega⟩)) (x6 (ix2 r ⟨j.val % 128, by omega⟩)) ⟨j.val % 64, by omega⟩
      else proj (fun k => x0 (ix2 r k)) (fun k => x1 (ix2 0 k)) (fun k => x3 (ix2 k ⟨512 + j.val, by omega⟩)) := by
  unfold_out out0_11
  canon_tiles z h
  · obtain rfl : r = z 0 := Fin.ext h0
    have hj : j.val = 256 + (z 1).val := h1
    rw [dif_neg (by omega)]
    open_payloads
    pointwise [proj, rms]
    refine Finset.sum_congr rfl fun k _ => congrArg₂ (· * ·) rfl (congrArg x3 ?_)
    blk_ext
  · idx_vars z
    obtain rfl : r = z0 := Fin.ext h0
    have hj : j.val = z1.val := h1
    rw [dif_pos (by omega)]
    refine (pay10_at _ _ _ _ _).trans ?_
    have hz : j.val < 256 := by omega
    obtain rfl : z1 = ⟨j.val, hz⟩ := Fin.ext hj.symm
    simp only [pay6_at, pay2_at, pay3_at]
    rfl

/-- The turned keys and the values of the window branch, the keys first. -/
theorem out12_at (r : Fin 32) (j : Fin 512) : out0_12 x0 x1 x2 x3 x4 x5 x6 (ix2 r j)
    = if h : j.val < 256 then turn (kHead x0 x1 x3 1024 (by omega) r ⟨j.val, h⟩) (x5 (ix2 r ⟨j.val % 128, by omega⟩)) (x6 (ix2 r ⟨j.val % 128, by omega⟩)) ⟨j.val % 64, by omega⟩
      else proj (fun k => x0 (ix2 r k)) (fun k => x1 (ix2 0 k)) (fun k => x3 (ix2 k ⟨1024 + j.val, by omega⟩)) := by
  unfold_out out0_12
  canon_tiles z h
  · obtain rfl : r = z 0 := Fin.ext h0
    have hj : j.val = 256 + (z 1).val := h1
    rw [dif_neg (by omega)]
    open_payloads
    pointwise [proj, rms]
    refine Finset.sum_congr rfl fun k _ => congrArg₂ (· * ·) rfl (congrArg x3 ?_)
    blk_ext
  · idx_vars z
    obtain rfl : r = z0 := Fin.ext h0
    have hj : j.val = z1.val := h1
    rw [dif_pos (by omega)]
    refine (pay16_at _ _ _ _ _).trans ?_
    have hz : j.val < 256 := by omega
    obtain rfl : z1 = ⟨j.val, hz⟩ := Fin.ext hj.symm
    simp only [pay12_at, pay2_at, pay3_at]
    rfl

end Cert.Kernel7Ideal.Pay
-- ==== Proof.InprojSampleWin.lean ====
/-
The sample group's input projection: its blocks as the argument arrays, and the arrays it leaves.
-/
module

public import proofs.«01_k».proof.Proof.InprojSamplePay
public import Idealize.ShloMosaic.Lib.Claim

@[expose] public section

set_option maxRecDepth 16384

noncomputable section

namespace Cert.Kernel7Ideal.Val

open Idealize.ShloMosaic Idealize.ShloMosaic.TcCoe Idealize.SL.Sem
open Cert.Kernel7Ideal Cert.Kernel7Ideal.Gen Cert.Spec Cert.Inproj

variable (m : (ℓ : Loc nD τ sig) → Buf (Elt Ideal) ℓ)

/-- The index maps of the windows: one grid point, every window whole. -/
theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0]
    ∧ win0_11.index t = ![0, 0] ∧ win0_12.index t = ![0, 0] :=
  (by decide +kernel : ∀ t : Fin grid0.N, _)

/-- The argument arrays: a sample's row, the norm's weight, the projection's weights; and the position. -/
abbrev xr (c : Dev nD) (r : Fin 32) : Row := fun k => m ((c : Thread nD τ).loc main_arg0) (ix3 r 0 k)
abbrev gr (c : Dev nD) : Row := fun k => m ((c : Thread nD τ).loc main_arg1) (ix3 0 0 k)
abbrev wr (c : Dev nD) : Wts := fun k j => m ((c : Thread nD τ).loc main_arg2) (ix3 0 k j)
abbrev pos : EReal := FloatOps.sitofp (F := Ideal) FTy.f32 8192#32

theorem whole0 (c : Dev nD) (t : Fin cfg0.N) (r : Fin 32) (j : Fin 1024) : iblk m c 0 t (ix2 r j) = V m c main_v9 (ix2 r j) := by
  blk_ext [iblk, idx t]

theorem blk0 (c : Dev nD) (t : Fin cfg0.N) (r : Fin 32) (j : Fin 1024) : iblk m c 0 t (ix2 r j)
    = (xr m c r j : EReal) := by
  rw [whole0]
  unfold V hostOps0 hostOps0_1 hostOps0_2
  simp only [List.flatten_cons, List.flatten_nil, List.cons_append, List.nil_append, List.append_nil]
  entry_read
  pointwise

theorem whole1 (c : Dev nD) (t : Fin cfg0.N) (j : Fin 1024) : iblk m c 1 t (ix2 0 j) = V m c main_v35 (ix2 0 j) := by
  blk_ext [iblk, idx t]

theorem blk1 (c : Dev nD) (t : Fin cfg0.N) (j : Fin 1024) : iblk m c 1 t (ix2 0 j)
    = (gr m c j : EReal) := by
  rw [whole1]
  unfold V hostOps0 hostOps0_1 hostOps0_2
  simp only [List.flatten_cons, List.flatten_nil, List.cons_append, List.nil_append, List.append_nil]
  entry_read
  pointwise

theorem whole2 (c : Dev nD) (t : Fin cfg0.N) (r : Fin 1024) (j : Fin 1024) : iblk m c 2 t (ix2 r j) = V m c main_v3 (ix2 r j) := by
  blk_ext [iblk, idx t]

theorem blk2 (c : Dev nD) (t : Fin cfg0.N) (r : Fin 1024) (j : Fin 1024) : iblk m c 2 t (ix2 r j)
    = (wr m c r ⟨j.val, by omega⟩ : EReal) := by
  rw [whole2]
  unfold V hostOps0 hostOps0_1 hostOps0_2
  simp only [List.flatten_cons, List.flatten_nil, List.cons_append, List.nil_append, List.append_nil]
  entry_read
  pointwise

theorem whole3 (c : Dev nD) (t : Fin cfg0.N) (r : Fin 1024) (j : Fin 1536) : iblk m c 3 t (ix2 r j) = V m c main_v5 (ix2 r j) := by
  blk_ext [iblk, idx t]

theorem blk3 (c : Dev nD) (t : Fin cfg0.N) (r : Fin 1024) (j : Fin 1536) : iblk m c 3 t (ix2 r j)
    = (wr m c r ⟨1024 + j.val, by omega⟩ : EReal) := by
  rw [whole3]
  unfold V hostOps0 hostOps0_1 hostOps0_2
  simp only [List.flatten_cons, List.flatten_nil, List.cons_append, List.nil_append, List.append_nil]
  entry_read
  pointwise

theorem whole4 (c : Dev nD) (t : Fin cfg0.N) (r : Fin 1024) (j : Fin 128) : iblk m c 4 t (ix2 r j) = V m c main_v8 (ix2 r j) := by
  blk_ext [iblk, idx t]

theorem blk4 (c : Dev nD) (t : Fin cfg0.N) (r : Fin 1024) (j : Fin 128) : iblk m c 4 t (ix2 r j)
    = (if h : j.val < 48 then wr m c r ⟨2560 + j.val, by omega⟩ else 0 : EReal) := by
  rw [whole4]
  unfold V hostOps0 hostOps0_1 hostOps0_2
  simp only [List.flatten_cons, List.flatten_nil, List.cons_append, List.nil_append, List.append_nil]
  entry_read
  refine Eq.trans (b := truncf FTy.bf16 (pad S1024x128 ![0, 0] ![0, 80] ![0, 0] (extractStridedSlice S1024x48 ![0, 2560]
    (shapeCast S1024x2608 (m ((c : Thread nD τ).loc main_arg2)) shapeCasts_S1x1024x2608_S1024x2608) slices_S1024x2608_S1024x48_0_2560)
    (sitofp (F := Ideal) FTy.f32 (constantI S_ 32 0#32)) pads_S1024x48_S1024x128_000_0800 h_S_) bitsLt_bf16_f32 (ix2 r j)) rfl ?_
  pointwise
  rw [sitofp_nil]

theorem whole5 (c : Dev nD) (t : Fin cfg0.N) (r : Fin 32) (j : Fin 128) : iblk m c 5 t (ix2 r j) = V m c main_v28 (ix2 r j) := by
  blk_ext [iblk, idx t]

theorem blk5 (c : Dev nD) (t : Fin cfg0.N) (r : Fin 32) (j : Fin 128) : iblk m c 5 t (ix2 r j)
    = (co pos ⟨j.val % 32, by omega⟩ : EReal) := by
  rw [whole5]
  unfold V hostOps0 hostOps0_1 hostOps0_2
  simp only [List.flatten_cons, List.flatten_nil, List.cons_append, List.nil_append, List.append_nil]
  entry_read
  pointwise [co, si, ang]
  split_ifs with h
  · rw [show j.val % 64 = j.val % 32 from by omega]
  · rw [show j.val % 64 - 32 = j.val % 32 from by omega]

theorem whole6 (c : Dev nD) (t : Fin cfg0.N) (r : Fin 32) (j : Fin 128) : iblk m c 6 t (ix2 r j) = V m c main_v33 (ix2 r j) := by
  blk_ext [iblk, idx t]

theorem blk6 (c : Dev nD) (t : Fin cfg0.N) (r : Fin 32) (j : Fin 128) : iblk m c 6 t (ix2 r j)
    = (if j.val % 64 < 32 then -si pos ⟨j.val % 32, by omega⟩ else si pos ⟨j.val % 32, by omega⟩ : EReal) := by
  rw [whole6]
  unfold V hostOps0 hostOps0_1 hostOps0_2
  simp only [List.flatten_cons, List.flatten_nil, List.cons_append, List.nil_append, List.append_nil]
  entry_read
  pointwise [co, si, ang]
  split_ifs with h
  · rw [show j.val % 64 = j.val % 32 from by omega]
  · rw [show j.val % 64 - 32 = j.val % 32 from by omega]

end Cert.Kernel7Ideal.Val
-- ==== Proof.InprojSampleFin.lean ====
/-
The sample group's input projection: the arrays it leaves.
-/
module

public import proofs.«01_k».proof.Proof.InprojSampleWin
public import Idealize.ShloMosaic.Lib.Claim

@[expose] public section

set_option maxRecDepth 16384

noncomputable section

namespace Cert.Kernel7Ideal.Val

open Idealize.ShloMosaic Idealize.ShloMosaic.TcCoe Idealize.SL.Sem
open Cert.Kernel7Ideal Cert.Kernel7Ideal.Gen Cert.Spec Cert.Inproj

variable (m : (ℓ : Loc nD τ sig) → Buf (Elt Ideal) ℓ)

/-- The table of sines as the kernel holds it, its sign turned in a head's first half. -/
abbrev tab (j : ℕ) : EReal := if j % 64 < 32 then -si pos ⟨j % 32, by omega⟩ else si pos ⟨j % 32, by omega⟩

/-- A head turned by the tables' entries at a lane is the head turned by its own angle. -/
theorem turned (z : Fin 64 → EReal) (j n : ℕ) (h : n % 64 = j % 64) :
    turn z (co pos ⟨n % 32, by omega⟩) (tab n) ⟨j % 64, by omega⟩ = rope z (co pos) (si pos) ⟨j % 64, by omega⟩ := by
  refine Eq.trans ?_ (turn_eq z (co pos) (si pos) ⟨j % 64, by omega⟩)
  have e : (⟨n % 32, by omega⟩ : Fin 32) = ⟨j % 64 % 32, by omega⟩ := Fin.ext (by simp only; omega)
  rw [tab, e, h]

/-- The array result 1 holds, at sample `r`, lane `j`. -/
def qArr (c : Dev nD) (r : Fin 32) (j : Fin 1024) : EReal := query (xr m c r) (gr m c) (wr m c) j * Ideal.ofBits .f32 0x3E000000#32

theorem q_eq (c : Dev nD) (t : Fin cfg0.N) (r : Fin 32) (j : Fin 1024) :
    (out0_7 (iblk m c 0 t) (iblk m c 1 t) (iblk m c 2 t) (iblk m c 3 t) (iblk m c 4 t) (iblk m c 5 t) (iblk m c 6 t) (ix2 r j) : EReal) = qArr m c r j := by
  refine (Pay.out7_at _ _ _ _ _ _ _ _ _).trans ?_
  simp only [blk0, blk1, blk2]
  rfl

set_option maxHeartbeats 1000000 in
/-- Result 1 of the call after the run. -/
theorem final7 (c : Dev nD) : (dats m 0 c).arrAt 7 (cfgs 0).N = fun i : S32x1024.Idx => qArr m c (i 0) (i 1) := by
  refine (dats m 0 c).arrAt_eq_of_covers 7 _ (by decide +kernel) fun t _ y => ?_
  blk_simp
  rw [after0_7]
  idx_vars y
  have hi : ((View.whole main_v36_0).slice (win0_7.rect t)).emb (ix2 y0 y1) = ix2 y0 y1 := by blk_ext [idx t]
  refine (q_eq m c t y0 y1 : _ = qArr m c y0 y1).trans ?_
  exact (congrArg (fun i : S32x1024.Idx => qArr m c (i 0) (i 1)) hi).symm

/-- The array result 2 holds, at sample `r`, lane `j`. -/
def qrArr (c : Dev nD) (r : Fin 32) (j : Fin 1024) : EReal := queryRope (xr m c r) (gr m c) (wr m c) pos j * Ideal.ofBits .f32 0x3E000000#32

theorem qr_eq (c : Dev nD) (t : Fin cfg0.N) (r : Fin 32) (j : Fin 1024) :
    (out0_8 (iblk m c 0 t) (iblk m c 1 t) (iblk m c 2 t) (iblk m c 3 t) (iblk m c 4 t) (iblk m c 5 t) (iblk m c 6 t) (ix2 r j) : EReal) = qrArr m c r j := by
  refine (Pay.out8_at _ _ _ _ _ _ _ _ _).trans ?_
  unfold Pay.qHead
  simp only [blk0, blk1, blk2, blk5, blk6]
  exact congrArg (· * Ideal.ofBits .f32 0x3E000000#32) (turned (fun d => proj (xr m c r) (gr m c) fun k => wr m c k ⟨j.val / 64 * 64 + d.val, by omega⟩) j.val (j.val % 128) (by omega))

set_option maxHeartbeats 1000000 in
/-- Result 2 of the call after the run. -/
theorem final8 (c : Dev nD) : (dats m 0 c).arrAt 8 (cfgs 0).N = fun i : S32x1024.Idx => qrArr m c (i 0) (i 1) := by
  refine (dats m 0 c).arrAt_eq_of_covers 8 _ (by decide +kernel) fun t _ y => ?_
  blk_simp
  rw [after0_8]
  idx_vars y
  have hi : ((View.whole main_v36_1).slice (win0_8.rect t)).emb (ix2 y0 y1) = ix2 y0 y1 := by blk_ext [idx t]
  refine (qr_eq m c t y0 y1 : _ = qrArr m c y0 y1).trans ?_
  exact (congrArg (fun i : S32x1024.Idx => qrArr m c (i 0) (i 1)) hi).symm

/-- The array result 3 holds, at sample `r`, lane `j`. -/
def gArr (c : Dev nD) (r : Fin 32) (j : Fin 128) : EReal := gate (xr m c r) (gr m c) (wr m c) j

theorem g_eq (c : Dev nD) (t : Fin cfg0.N) (r : Fin 32) (j : Fin 128) :
    (out0_9 (iblk m c 0 t) (iblk m c 1 t) (iblk m c 2 t) (iblk m c 3 t) (iblk m c 4 t) (iblk m c 5 t) (iblk m c 6 t) (ix2 r j) : EReal) = gArr m c r j := by
  refine (Pay.out9_at _ _ _ _ _ _ _ _ _).trans ?_
  unfold gArr gate
  refine congrArg Ideal.logistic ?_
  unfold proj
  simp only [blk0, blk1, blk4]
  split_ifs with h
  · rfl
  · exact Finset.sum_eq_zero fun k _ => mul_zero _

set_option maxHeartbeats 1000000 in
/-- Result 3 of the call after the run. -/
theorem final9 (c : Dev nD) : (dats m 0 c).arrAt 9 (cfgs 0).N = fun i : S32x128.Idx => gArr m c (i 0) (i 1) := by
  refine (dats m 0 c).arrAt_eq_of_covers 9 _ (by decide +kernel) fun t _ y => ?_
  blk_simp
  rw [after0_9]
  idx_vars y
  have hi : ((View.whole main_v36_2).slice (win0_9.rect t)).emb (ix2 y0 y1) = ix2 y0 y1 := by blk_ext [idx t]
  refine (g_eq m c t y0 y1 : _ = gArr m c y0 y1).trans ?_
  exact (congrArg (fun i : S32x128.Idx => gArr m c (i 0) (i 1)) hi).symm

/-- The array result 4 holds, at sample `r`, lane `j`. -/
def kcArr (c : Dev nD) (r : Fin 32) (j : Fin 512) : EReal := plain (xr m c r) (gr m c) (wr m c) j

theorem kc_eq (c : Dev nD) (t : Fin cfg0.N) (r : Fin 32) (j : Fin 512) :
    (out0_10 (iblk m c 0 t) (iblk m c 1 t) (iblk m c 2 t) (iblk m c 3 t) (iblk m c 4 t) (iblk m c 5 t) (iblk m c 6 t) (ix2 r j) : EReal) = kcArr m c r j := by
  refine (Pay.out10_at _ _ _ _ _ _ _ _ _).trans ?_
  simp only [blk0, blk1, blk3]
  exact proj_col _ _ _ _ _ rfl

set_option maxHeartbeats 1000000 in
/-- Result 4 of the call after the run. -/
theorem final10 (c : Dev nD) : (dats m 0 c).arrAt 10 (cfgs 0).N = fun i : S32x512.Idx => kcArr m c (i 0) (i 1) := by
  refine (dats m 0 c).arrAt_eq_of_covers 10 _ (by decide +kernel) fun t _ y => ?_
  blk_simp
  rw [after0_10]
  idx_vars y
  have hi : ((View.whole main_v36_3).slice (win0_10.rect t)).emb (ix2 y0 y1) = ix2 y0 y1 := by blk_ext [idx t]
  refine (kc_eq m c t y0 y1 : _ = kcArr m c y0 y1).trans ?_
  exact (congrArg (fun i : S32x512.Idx => kcArr m c (i 0) (i 1)) hi).symm

/-- The array result 5 holds, at sample `r`, lane `j`. -/
def ksArr (c : Dev nD) (r : Fin 32) (j : Fin 512) : EReal := cache 1536 (by omega) (xr m c r) (gr m c) (wr m c) pos j

theorem ks_eq (c : Dev nD) (t : Fin cfg0.N) (r : Fin 32) (j : Fin 512) :
    (out0_11 (iblk m c 0 t) (iblk m c 1 t) (iblk m c 2 t) (iblk m c 3 t) (iblk m c 4 t) (iblk m c 5 t) (iblk m c 6 t) (ix2 r j) : EReal) = ksArr m c r j := by
  refine (Pay.out11_at _ _ _ _ _ _ _ _ _).trans ?_
  unfold ksArr cache Pay.kHead
  simp only [blk0, blk1, blk3, blk5, blk6]
  by_cases h : j.val < 256
  · rw [dif_pos h, if_pos h]
    refine (turned _ j.val (j.val % 128) (by omega)).trans ?_
    refine congrArg (fun z => rope z (co pos) (si pos) ⟨j.val % 64, by omega⟩) (funext fun d => proj_col _ _ _ _ _ ?_)
    show 1024 + (512 + (j.val / 64 * 64 + d.val)) = 1536 + (j.val % 256 / 64 * 64 + d.val)
    omega
  · rw [dif_neg h, if_neg h]
    refine proj_col _ _ _ _ _ ?_
    show 1024 + (512 + j.val) = 1536 + j.val
    omega

set_option maxHeartbeats 1000000 in
/-- Result 5 of the call after the run. -/
theorem final11 (c : Dev nD) : (dats m 0 c).arrAt 11 (cfgs 0).N = fun i : S32x512.Idx => ksArr m c (i 0) (i 1) := by
  refine (dats m 0 c).arrAt_eq_of_covers 11 _ (by decide +kernel) fun t _ y => ?_
  blk_simp
  rw [after0_11]
  idx_vars y
  have hi : ((View.whole main_v36_4).slice (win0_11.rect t)).emb (ix2 y0 y1) = ix2 y0 y1 := by blk_ext [idx t]
  refine (ks_eq m c t y0 y1 : _ = ksArr m c y0 y1).trans ?_
  exact (congrArg (fun i : S32x512.Idx => ksArr m c (i 0) (i 1)) hi).symm

/-- The array result 6 holds, at sample `r`, lane `j`. -/
def kwArr (c : Dev nD) (r : Fin 32) (j : Fin 512) : EReal := cache 2048 (by omega) (xr m c r) (gr m c) (wr m c) pos j

theorem kw_eq (c : Dev nD) (t : Fin cfg0.N) (r : Fin 32) (j : Fin 512) :
    (out0_12 (iblk m c 0 t) (iblk m c 1 t) (iblk m c 2 t) (iblk m c 3 t) (iblk m c 4 t) (iblk m c 5 t) (iblk m c 6 t) (ix2 r j) : EReal) = kwArr m c r j := by
  refine (Pay.out12_at _ _ _ _ _ _ _ _ _).trans ?_
  unfold kwArr cache Pay.kHead
  simp only [blk0, blk1, blk3, blk5, blk6]
  by_cases h : j.val < 256
  · rw [dif_pos h, if_pos h]
    refine (turned _ j.val (j.val % 128) (by omega)).trans ?_
    refine congrArg (fun z => rope z (co pos) (si pos) ⟨j.val % 64, by omega⟩) (funext fun d => proj_col _ _ _ _ _ ?_)
    show 1024 + (1024 + (j.val / 64 * 64 + d.val)) = 2048 + (j.val % 256 / 64 * 64 + d.val)
    omega
  · rw [dif_neg h, if_neg h]
    refine proj_col _ _ _ _ _ ?_
    show 1024 + (1024 + j.val) = 2048 + j.val
    omega

set_option maxHeartbeats 1000000 in
/-- Result 6 of the call after the run. -/
theorem final12 (c : Dev nD) : (dats m 0 c).arrAt 12 (cfgs 0).N = fun i : S32x512.Idx => kwArr m c (i 0) (i 1) := by
  refine (dats m 0 c).arrAt_eq_of_covers 12 _ (by decide +kernel) fun t _ y => ?_
  blk_simp
  rw [after0_12]
  idx_vars y
  have hi : ((View.whole main_v36_5).slice (win0_12.rect t)).emb (ix2 y0 y1) = ix2 y0 y1 := by blk_ext [idx t]
  refine (kw_eq m c t y0 y1 : _ = kwArr m c y0 y1).trans ?_
  exact (congrArg (fun i : S32x512.Idx => kwArr m c (i 0) (i 1)) hi).symm

end Cert.Kernel7Ideal.Val
-- ==== Proof.InprojSampleRef.lean ====
/-
The sample group's input projection: the reference's results, entry by entry.
-/
module

public import proofs.«01_k».proof.Proof.InprojSpec
public import proofs.«01_k».proof.Proof.Gen.Reference7Ideal.Read
public import Idealize.ShloMosaic.Lib.Claim

@[expose] public section

set_option maxRecDepth 16384

noncomputable section

namespace Cert.Reference7Ideal.Rows

open Idealize.ShloMosaic Idealize.ShloMosaic.TcCoe Idealize.SL.Sem
open Cert.Reference7Ideal Cert.Reference7Ideal.Gen Cert.Reference7Ideal.Read Cert.Spec Cert.Inproj

variable (x0 : Vec Ideal S32x1x1024 .f32) (x1 : Vec Ideal S2x4x1024 .f32) (x2 : Vec Ideal S1x1024x2608 .f32)

/-- The argument arrays: a sample's row, the norm's weight, the projection's weights; and the position. -/
abbrev xr (r : Fin 32) : Row := fun k => x0 (ix3 r 0 k)
abbrev gr : Row := fun k => x1 (ix3 0 0 k)
abbrev wr : Wts := fun k j => x2 (ix3 0 k j)
abbrev pos : EReal := FloatOps.sitofp (F := Ideal) FTy.f32 8192#32

/-- The normalised row. -/
theorem xn_at (r : Fin 32) (j : Fin 1024) : val_main_v16 (F := Ideal) x0 x1 (ix2 r j) = rms (xr x0 r) (gr x1) j := by
  pointwise! [val_main_v16, val_main_v15, val_main_v14, val_main_v13, val_main_v12, val_main_v11, val_main_v10, val_main_v9, val_main_v8, val_main_v7, val_main_v6, val_main_v5, val_main_v4, val_main_v3, val_main_v2, val_main_v0, val_main_cst, val_main_cst_0, val_main_cst_1, rms]

/-- A projection: 1024 columns from column 0 on. -/
theorem v19_at (r : Fin 32) (j : Fin 1024) : val_main_v19 (F := Ideal) x0 x1 x2 (ix2 r j)
    = proj (xr x0 r) (gr x1) (fun k => wr x2 k ⟨j.val, by omega⟩) := by
  unfold proj
  simp only [← xn_at]
  pointwise! [val_main_v19, val_main_v18, val_main_v1]

/-- A projection: 256 columns from column 1024 on. -/
theorem v22_at (r : Fin 32) (j : Fin 256) : val_main_v22 (F := Ideal) x0 x1 x2 (ix2 r j)
    = proj (xr x0 r) (gr x1) (fun k => wr x2 k ⟨1024 + j.val, by omega⟩) := by
  unfold proj
  simp only [← xn_at]
  pointwise! [val_main_v22, val_main_v21, val_main_v1]

/-- A projection: 256 columns from column 1280 on. -/
theorem v25_at (r : Fin 32) (j : Fin 256) : val_main_v25 (F := Ideal) x0 x1 x2 (ix2 r j)
    = proj (xr x0 r) (gr x1) (fun k => wr x2 k ⟨1280 + j.val, by omega⟩) := by
  unfold proj
  simp only [← xn_at]
  pointwise! [val_main_v25, val_main_v24, val_main_v1]

/-- A projection: 256 columns from column 1536 on. -/
theorem v28_at (r : Fin 32) (j : Fin 256) : val_main_v28 (F := Ideal) x0 x1 x2 (ix2 r j)
    = proj (xr x0 r) (gr x1) (fun k => wr x2 k ⟨1536 + j.val, by omega⟩) := by
  unfold proj
  simp only [← xn_at]
  pointwise! [val_main_v28, val_main_v27, val_main_v1]

/-- A projection: 256 columns from column 1792 on. -/
theorem v60_at (r : Fin 32) (j : Fin 256) : val_main_v60 (F := Ideal) x0 x1 x2 (ix2 r j)
    = proj (xr x0 r) (gr x1) (fun k => wr x2 k ⟨1792 + j.val, by omega⟩) := by
  unfold proj
  simp only [← xn_at]
  pointwise! [val_main_v60, val_main_v59, val_main_v1]

/-- A projection: 256 columns from column 2048 on. -/
theorem v63_at (r : Fin 32) (j : Fin 256) : val_main_v63 (F := Ideal) x0 x1 x2 (ix2 r j)
    = proj (xr x0 r) (gr x1) (fun k => wr x2 k ⟨2048 + j.val, by omega⟩) := by
  unfold proj
  simp only [← xn_at]
  pointwise! [val_main_v63, val_main_v62, val_main_v1]

/-- A projection: 256 columns from column 2304 on. -/
theorem v95_at (r : Fin 32) (j : Fin 256) : val_main_v95 (F := Ideal) x0 x1 x2 (ix2 r j)
    = proj (xr x0 r) (gr x1) (fun k => wr x2 k ⟨2304 + j.val, by omega⟩) := by
  unfold proj
  simp only [← xn_at]
  pointwise! [val_main_v95, val_main_v94, val_main_v1]

theorem v41_at (r f : Fin 32) : val_main_v41 (F := Ideal) (ix2 r f) = ang pos f := by
  pointwise! [val_main_v41, val_main_v40, val_main_v39, val_main_v38, val_main_v37, val_main_v36, val_main_v35, val_main_v34, val_main_v33, val_main_v32, val_main_v31, val_main_v30, val_main_v17, val_main_c, val_main_cst_2, val_main_cst_3, ang]

theorem v29_at (r : Fin 32) (h : Fin 4) (d : Fin 64) : val_main_v29 (F := Ideal) x0 x1 x2 (ix3 r h d)
    = proj (xr x0 r) (gr x1) (fun k => wr x2 k ⟨1536 + (h.val * 64 + d.val), by omega⟩) := by
  refine Eq.trans ?_ (v28_at x0 x1 x2 r ⟨h.val * 64 + d.val, by omega⟩)
  pointwise! [val_main_v29]

theorem v42_at (r f : Fin 32) : val_main_v42 (F := Ideal) (ix2 r f) = co pos f := by
  unfold co
  rw [← v41_at r]
  pointwise! [val_main_v42]

set_option maxHeartbeats 1000000 in
theorem v58_raw (r : Fin 32) (h : Fin 4) (d : Fin 64) : val_main_v58 (F := Ideal) x0 x1 x2 (ix3 r h d)
    = if e : d.val < 32 then val_main_v29 (F := Ideal) x0 x1 x2 (ix3 r h d) * val_main_v42 (F := Ideal) (ix2 r ⟨d.val, e⟩)
        - val_main_v29 (F := Ideal) x0 x1 x2 (ix3 r h ⟨32 + d.val, by omega⟩) * Ideal.sin (val_main_v41 (F := Ideal) (ix2 r ⟨d.val, e⟩))
      else val_main_v29 (F := Ideal) x0 x1 x2 (ix3 r h ⟨32 + (d.val - 32), by omega⟩) * val_main_v42 (F := Ideal) (ix2 r ⟨d.val - 32, by omega⟩)
        + val_main_v29 (F := Ideal) x0 x1 x2 (ix3 r h ⟨d.val - 32, by omega⟩) * Ideal.sin (val_main_v41 (F := Ideal) (ix2 r ⟨d.val - 32, by omega⟩)) := by
  pointwise! [val_main_v58, val_main_v57, val_main_v56, val_main_v55, val_main_v54, val_main_v53, val_main_v52, val_main_v51, val_main_v50, val_main_v49, val_main_v48, val_main_v47, val_main_v46, val_main_v45, val_main_v44, val_main_v43]

/-- The turned heads. -/
theorem v58_at (r : Fin 32) (h : Fin 4) (d : Fin 64) : val_main_v58 (F := Ideal) x0 x1 x2 (ix3 r h d)
    = rope (fun d => proj (xr x0 r) (gr x1) (fun k => wr x2 k ⟨1536 + (h.val * 64 + d.val), by omega⟩)) (co pos) (si pos) d := by
  rw [v58_raw, rope_split]
  simp only [v29_at, v41_at, v42_at, si]

theorem v76_at (r f : Fin 32) : val_main_v76 (F := Ideal) (ix2 r f) = ang pos f := by
  pointwise! [val_main_v76, val_main_v75, val_main_v74, val_main_v73, val_main_v72, val_main_v71, val_main_v70, val_main_v69, val_main_v68, val_main_v67, val_main_v66, val_main_v65, val_main_v17, val_main_c, val_main_cst_4, val_main_cst_5, ang]

theorem v64_at (r : Fin 32) (h : Fin 4) (d : Fin 64) : val_main_v64 (F := Ideal) x0 x1 x2 (ix3 r h d)
    = proj (xr x0 r) (gr x1) (fun k => wr x2 k ⟨2048 + (h.val * 64 + d.val), by omega⟩) := by
  refine Eq.trans ?_ (v63_at x0 x1 x2 r ⟨h.val * 64 + d.val, by omega⟩)
  pointwise! [val_main_v64]

theorem v77_at (r f : Fin 32) : val_main_v77 (F := Ideal) (ix2 r f) = co pos f := by
  unfold co
  rw [← v76_at r]
  pointwise! [val_main_v77]

set_option maxHeartbeats 1000000 in
theorem v93_raw (r : Fin 32) (h : Fin 4) (d : Fin 64) : val_main_v93 (F := Ideal) x0 x1 x2 (ix3 r h d)
    = if e : d.val < 32 then val_main_v64 (F := Ideal) x0 x1 x2 (ix3 r h d) * val_main_v77 (F := Ideal) (ix2 r ⟨d.val, e⟩)
        - val_main_v64 (F := Ideal) x0 x1 x2 (ix3 r h ⟨32 + d.val, by omega⟩) * Ideal.sin (val_main_v76 (F := Ideal) (ix2 r ⟨d.val, e⟩))
      else val_main_v64 (F := Ideal) x0 x1 x2 (ix3 r h ⟨32 + (d.val - 32), by omega⟩) * val_main_v77 (F := Ideal) (ix2 r ⟨d.val - 32, by omega⟩)
        + val_main_v64 (F := Ideal) x0 x1 x2 (ix3 r h ⟨d.val - 32, by omega⟩) * Ideal.sin (val_main_v76 (F := Ideal) (ix2 r ⟨d.val - 32, by omega⟩)) := by
  pointwise! [val_main_v93, val_main_v92, val_main_v91, val_main_v90, val_main_v89, val_main_v88, val_main_v87, val_main_v86, val_main_v85, val_main_v84, val_main_v83, val_main_v82, val_main_v81, val_main_v80, val_main_v79, val_main_v78]

/-- The turned heads. -/
theorem v93_at (r : Fin 32) (h : Fin 4) (d : Fin 64) : val_main_v93 (F := Ideal) x0 x1 x2 (ix3 r h d)
    = rope (fun d => proj (xr x0 r) (gr x1) (fun k => wr x2 k ⟨2048 + (h.val * 64 + d.val), by omega⟩)) (co pos) (si pos) d := by
  rw [v93_raw, rope_split]
  simp only [v64_at, v76_at, v77_at, si]

theorem v121_at (r f : Fin 32) : val_main_v121 (F := Ideal) (ix2 r f) = ang pos f := by
  pointwise! [val_main_v121, val_main_v120, val_main_v119, val_main_v118, val_main_v117, val_main_v116, val_main_v115, val_main_v114, val_main_v113, val_main_v112, val_main_v111, val_main_v110, val_main_v17, val_main_c, val_main_cst_10, val_main_cst_11, ang]

theorem v20_at (r : Fin 32) (h : Fin 16) (d : Fin 64) : val_main_v20 (F := Ideal) x0 x1 x2 (ix3 r h d)
    = proj (xr x0 r) (gr x1) (fun k => wr x2 k ⟨h.val * 64 + d.val, by omega⟩) := by
  refine Eq.trans ?_ (v19_at x0 x1 x2 r ⟨h.val * 64 + d.val, by omega⟩)
  pointwise! [val_main_v20]

theorem v122_at (r f : Fin 32) : val_main_v122 (F := Ideal) (ix2 r f) = co pos f := by
  unfold co
  rw [← v121_at r]
  pointwise! [val_main_v122]

set_option maxHeartbeats 1000000 in
theorem v138_raw (r : Fin 32) (h : Fin 16) (d : Fin 64) : val_main_v138 (F := Ideal) x0 x1 x2 (ix3 r h d)
    = if e : d.val < 32 then val_main_v20 (F := Ideal) x0 x1 x2 (ix3 r h d) * val_main_v122 (F := Ideal) (ix2 r ⟨d.val, e⟩)
        - val_main_v20 (F := Ideal) x0 x1 x2 (ix3 r h ⟨32 + d.val, by omega⟩) * Ideal.sin (val_main_v121 (F := Ideal) (ix2 r ⟨d.val, e⟩))
      else val_main_v20 (F := Ideal) x0 x1 x2 (ix3 r h ⟨32 + (d.val - 32), by omega⟩) * val_main_v122 (F := Ideal) (ix2 r ⟨d.val - 32, by omega⟩)
        + val_main_v20 (F := Ideal) x0 x1 x2 (ix3 r h ⟨d.val - 32, by omega⟩) * Ideal.sin (val_main_v121 (F := Ideal) (ix2 r ⟨d.val - 32, by omega⟩)) := by
  pointwise! [val_main_v138, val_main_v137, val_main_v136, val_main_v135, val_main_v134, val_main_v133, val_main_v132, val_main_v131, val_main_v130, val_main_v129, val_main_v128, val_main_v127, val_main_v126, val_main_v125, val_main_v124, val_main_v123]

/-- The turned heads. -/
theorem v138_at (r : Fin 32) (h : Fin 16) (d : Fin 64) : val_main_v138 (F := Ideal) x0 x1 x2 (ix3 r h d)
    = rope (fun d => proj (xr x0 r) (gr x1) (fun k => wr x2 k ⟨h.val * 64 + d.val, by omega⟩)) (co pos) (si pos) d := by
  rw [v138_raw, rope_split]
  simp only [v20_at, v121_at, v122_at, si]

/-- The scaled queries. -/
theorem v109_at (r : Fin 32) (j : Fin 1024) : val_main_v109 (F := Ideal) x0 x1 x2 (ix2 r j)
    = query (xr x0 r) (gr x1) (wr x2) j * Ideal.ofBits .f32 0x3E000000#32 := by
  unfold query
  simp only [← v19_at]
  pointwise! [val_main_v109, val_main_v108, val_main_v107, val_main_v106, val_main_v20, val_main_cst_9]

/-- The scaled, turned queries. -/
theorem v142_at (r : Fin 32) (j : Fin 1024) : val_main_v142 (F := Ideal) x0 x1 x2 (ix2 r j)
    = queryRope (xr x0 r) (gr x1) (wr x2) pos j * Ideal.ofBits .f32 0x3E000000#32 := by
  unfold queryRope
  refine Eq.trans ?_ (congrArg (· * Ideal.ofBits .f32 0x3E000000#32) (v138_at x0 x1 x2 r ⟨j.val / 64, by omega⟩ ⟨j.val % 64, by omega⟩))
  pointwise! [val_main_v142, val_main_v141, val_main_v140, val_main_v139, val_main_cst_12]

/-- The gates. -/
theorem v105_at (r : Fin 32) (j : Fin 128) : val_main_v105 (F := Ideal) x0 x1 x2 (ix2 r j)
    = gate (xr x0 r) (gr x1) (wr x2) j := by
  unfold gate proj
  simp only [← xn_at]
  pointwise! [val_main_v105, val_main_v104, val_main_v103, val_main_v102, val_main_v101, val_main_v100, val_main_v99, val_main_v98, val_main_v97, val_main_v1, val_main_cst_7, val_main_cst_8, val_main_call0_v0, val_main_c_6]
  rw [sitofp_nil]
  rfl

/-- The unturned keys and values. -/
theorem v145_at (r : Fin 32) (j : Fin 512) : val_main_v145 (F := Ideal) x0 x1 x2 (ix2 r j)
    = plain (xr x0 r) (gr x1) (wr x2) j := by
  unfold plain
  pointwise! [val_main_v145, val_main_v144, val_main_v143, val_main_v26, val_main_v23]
  split_ifs with h
  · exact v22_at _ _ _ _ _
  · refine (v25_at _ _ _ _ _).trans (proj_col _ _ _ _ _ ?_)
    show 1280 + (j.val - 256) = 1024 + j.val
    omega
  · exact absurd rfl ‹_›

/-- A branch's cache row. -/
theorem v148_at (r : Fin 32) (j : Fin 512) : val_main_v148 (F := Ideal) x0 x1 x2 (ix2 r j)
    = cache 1536 (by omega) (xr x0 r) (gr x1) (wr x2) pos j := by
  unfold cache
  pointwise! [val_main_v148, val_main_v147, val_main_v146, val_main_v61]
  split_ifs with h
  · refine (v58_at _ _ _ _ _ _).trans ?_
    refine congrArg (fun z => rope z (co pos) (si pos) ⟨j.val % 64, by omega⟩) (funext fun d => proj_col _ _ _ _ _ ?_)
    show 1536 + (j.val / 64 * 64 + d.val) = 1536 + (j.val % 256 / 64 * 64 + d.val)
    omega
  · refine (v60_at _ _ _ _ _).trans (proj_col _ _ _ _ _ ?_)
    show 1792 + (j.val - 256) = 1536 + j.val
    omega
  · exact absurd rfl ‹_›

/-- A branch's cache row. -/
theorem v151_at (r : Fin 32) (j : Fin 512) : val_main_v151 (F := Ideal) x0 x1 x2 (ix2 r j)
    = cache 2048 (by omega) (xr x0 r) (gr x1) (wr x2) pos j := by
  unfold cache
  pointwise! [val_main_v151, val_main_v150, val_main_v149, val_main_v96]
  split_ifs with h
  · refine (v93_at _ _ _ _ _ _).trans ?_
    refine congrArg (fun z => rope z (co pos) (si pos) ⟨j.val % 64, by omega⟩) (funext fun d => proj_col _ _ _ _ _ ?_)
    show 2048 + (j.val / 64 * 64 + d.val) = 2048 + (j.val % 256 / 64 * 64 + d.val)
    omega
  · refine (v95_at _ _ _ _ _).trans (proj_col _ _ _ _ _ ?_)
    show 2304 + (j.val - 256) = 2048 + j.val
    omega
  · exact absurd rfl ‹_›

end Cert.Reference7Ideal.Rows
-- ==== Proof.InprojSampleClaim.lean ====
/-
The sample group's input projection and its reference end with the same six arrays.
-/
module

public import proofs.«01_k».proof.Proof.InprojSampleFin
public import proofs.«01_k».proof.Proof.InprojSampleRef
public import proofs.«01_k».proof.Defs
public import proofs.«01_k».proof.Proof.Gen.Reference7Ideal.Run
public import Idealize.ShloMosaic.Lib.Claim

@[expose] public section

set_option maxRecDepth 16384

noncomputable section

namespace Cert.InprojSampleClaim

open Idealize.ShloMosaic Idealize.ShloMosaic.TcCoe Idealize.SL.Sem

variable (m : (ℓ : Loc Kernel7Ideal.nD Kernel7Ideal.τ Kernel7Ideal.sig) → Buf (Elt Ideal) ℓ) (c : Dev Kernel7Ideal.nD)

/-- The reference's result, read from the kernel's arguments, is the kernel's array. -/
theorem ref_q : Reference7Ideal.Read.val_main_v109 (F := Ideal) (m ((c : Thread Kernel7Ideal.nD Kernel7Ideal.τ).loc Kernel7Ideal.main_arg0)) (m ((c : Thread Kernel7Ideal.nD Kernel7Ideal.τ).loc Kernel7Ideal.main_arg1)) (m ((c : Thread Kernel7Ideal.nD Kernel7Ideal.τ).loc Kernel7Ideal.main_arg2))
      = fun i : Kernel7Ideal.S32x1024.Idx => Kernel7Ideal.Val.qArr m c (i 0) (i 1) := by
  funext i
  idx_vars i
  exact Reference7Ideal.Rows.v109_at _ _ _ _ _

/-- The reference's result, read from the kernel's arguments, is the kernel's array. -/
theorem ref_qr : Reference7Ideal.Read.val_main_v142 (F := Ideal) (m ((c : Thread Kernel7Ideal.nD Kernel7Ideal.τ).loc Kernel7Ideal.main_arg0)) (m ((c : Thread Kernel7Ideal.nD Kernel7Ideal.τ).loc Kernel7Ideal.main_arg1)) (m ((c : Thread Kernel7Ideal.nD Kernel7Ideal.τ).loc Kernel7Ideal.main_arg2))
      = fun i : Kernel7Ideal.S32x1024.Idx => Kernel7Ideal.Val.qrArr m c (i 0) (i 1) := by
  funext i
  idx_vars i
  exact Reference7Ideal.Rows.v142_at _ _ _ _ _

/-- The reference's result, read from the kernel's arguments, is the kernel's array. -/
theorem ref_g : Reference7Ideal.Read.val_main_v105 (F := Ideal) (m ((c : Thread Kernel7Ideal.nD Kernel7Ideal.τ).loc Kernel7Ideal.main_arg0)) (m ((c : Thread Kernel7Ideal.nD Kernel7Ideal.τ).loc Kernel7Ideal.main_arg1)) (m ((c : Thread Kernel7Ideal.nD Kernel7Ideal.τ).loc Kernel7Ideal.main_arg2))
      = fun i : Kernel7Ideal.S32x128.Idx => Kernel7Ideal.Val.gArr m c (i 0) (i 1) := by
  funext i
  idx_vars i
  exact Reference7Ideal.Rows.v105_at _ _ _ _ _

/-- The reference's result, read from the kernel's arguments, is the kernel's array. -/
theorem ref_kc : Reference7Ideal.Read.val_main_v145 (F := Ideal) (m ((c : Thread Kernel7Ideal.nD Kernel7Ideal.τ).loc Kernel7Ideal.main_arg0)) (m ((c : Thread Kernel7Ideal.nD Kernel7Ideal.τ).loc Kernel7Ideal.main_arg1)) (m ((c : Thread Kernel7Ideal.nD Kernel7Ideal.τ).loc Kernel7Ideal.main_arg2))
      = fun i : Kernel7Ideal.S32x512.Idx => Kernel7Ideal.Val.kcArr m c (i 0) (i 1) := by
  funext i
  idx_vars i
  exact Reference7Ideal.Rows.v145_at _ _ _ _ _

/-- The reference's result, read from the kernel's arguments, is the kernel's array. -/
theorem ref_ks : Reference7Ideal.Read.val_main_v148 (F := Ideal) (m ((c : Thread Kernel7Ideal.nD Kernel7Ideal.τ).loc Kernel7Ideal.main_arg0)) (m ((c : Thread Kernel7Ideal.nD Kernel7Ideal.τ).loc Kernel7Ideal.main_arg1)) (m ((c : Thread Kernel7Ideal.nD Kernel7Ideal.τ).loc Kernel7Ideal.main_arg2))
      = fun i : Kernel7Ideal.S32x512.Idx => Kernel7Ideal.Val.ksArr m c (i 0) (i 1) := by
  funext i
  idx_vars i
  exact Reference7Ideal.Rows.v148_at _ _ _ _ _

/-- The reference's result, read from the kernel's arguments, is the kernel's array. -/
theorem ref_kw : Reference7Ideal.Read.val_main_v151 (F := Ideal) (m ((c : Thread Kernel7Ideal.nD Kernel7Ideal.τ).loc Kernel7Ideal.main_arg0)) (m ((c : Thread Kernel7Ideal.nD Kernel7Ideal.τ).loc Kernel7Ideal.main_arg1)) (m ((c : Thread Kernel7Ideal.nD Kernel7Ideal.τ).loc Kernel7Ideal.main_arg2))
      = fun i : Kernel7Ideal.S32x512.Idx => Kernel7Ideal.Val.kwArr m c (i 0) (i 1) := by
  funext i
  idx_vars i
  exact Reference7Ideal.Rows.v151_at _ _ _ _ _

set_option maxHeartbeats 4000000 in
/-- Both programs leave the same six arrays. -/
theorem algebraic : Cert.algebraic_Kernel7Ideal_Reference7Ideal := by
  pair_intro
  · run_from Cert.Kernel7Ideal.Gen.run_main m g
    · exact Cert.Kernel7Ideal.Gen.V_main_arg0 m c
    · exact Cert.Kernel7Ideal.Gen.V_main_arg1 m c
    · exact Cert.Kernel7Ideal.Gen.V_main_arg2 m c
  · run_from Cert.Reference7Ideal.Value.run m' g'
    · obtain ⟨h0, h1, h2⟩ := hagree c
      refine Eq.trans (b := Reference7Ideal.Read.val_main_v109 (F := Ideal) (m' ((c.tc : Thread Reference7Ideal.nD Reference7Ideal.τ).loc Reference7Ideal.main_arg0)) (m' ((c.tc : Thread Reference7Ideal.nD Reference7Ideal.τ).loc Reference7Ideal.main_arg1)) (m' ((c.tc : Thread Reference7Ideal.nD Reference7Ideal.τ).loc Reference7Ideal.main_arg2))) ?_ ?_
      · first
        | exact Reference7Ideal.Read.val_main_v109_eq _ _ _
        | rw [h0, h1, h2]
          exact Reference7Ideal.Read.val_main_v109_eq _ _ _
      rw [h0, h1, h2, ref_q]
      exact (Kernel7Ideal.Val.final7 m c).symm
    · obtain ⟨h0, h1, h2⟩ := hagree c
      refine Eq.trans (b := Reference7Ideal.Read.val_main_v142 (F := Ideal) (m' ((c.tc : Thread Reference7Ideal.nD Reference7Ideal.τ).loc Reference7Ideal.main_arg0)) (m' ((c.tc : Thread Reference7Ideal.nD Reference7Ideal.τ).loc Reference7Ideal.main_arg1)) (m' ((c.tc : Thread Reference7Ideal.nD Reference7Ideal.τ).loc Reference7Ideal.main_arg2))) ?_ ?_
      · exact Reference7Ideal.Read.val_main_v142_eq m' c
      rw [h0, h1, h2, ref_qr]
      exact (Kernel7Ideal.Val.final8 m c).symm
    · obtain ⟨h0, h1, h2⟩ := hagree c
      refine Eq.trans (b := Reference7Ideal.Read.val_main_v105 (F := Ideal) (m' ((c.tc : Thread Reference7Ideal.nD Reference7Ideal.τ).loc Reference7Ideal.main_arg0)) (m' ((c.tc : Thread Reference7Ideal.nD Reference7Ideal.τ).loc Reference7Ideal.main_arg1)) (m' ((c.tc : Thread Reference7Ideal.nD Reference7Ideal.τ).loc Reference7Ideal.main_arg2))) ?_ ?_
      · first
        | exact Reference7Ideal.Read.val_main_v105_eq _ _ _
        | rw [h0, h1, h2]
          exact Reference7Ideal.Read.val_main_v105_eq _ _ _
      rw [h0, h1, h2, ref_g]
      exact (Kernel7Ideal.Val.final9 m c).symm
    · obtain ⟨h0, h1, h2⟩ := hagree c
      refine Eq.trans (b := Reference7Ideal.Read.val_main_v145 (F := Ideal) (m' ((c.tc : Thread Reference7Ideal.nD Reference7Ideal.τ).loc Reference7Ideal.main_arg0)) (m' ((c.tc : Thread Reference7Ideal.nD Reference7Ideal.τ).loc Reference7Ideal.main_arg1)) (m' ((c.tc : Thread Reference7Ideal.nD Reference7Ideal.τ).loc Reference7Ideal.main_arg2))) ?_ ?_
      · first
        | exact Reference7Ideal.Read.val_main_v145_eq _ _ _
        | rw [h0, h1, h2]
          exact Reference7Ideal.Read.val_main_v145_eq _ _ _
      rw [h0, h1, h2, ref_kc]
      exact (Kernel7Ideal.Val.final10 m c).symm
    · obtain ⟨h0, h1, h2⟩ := hagree c
      refine Eq.trans (b := Reference7Ideal.Read.val_main_v148 (F := Ideal) (m' ((c.tc : Thread Reference7Ideal.nD Reference7Ideal.τ).loc Reference7Ideal.main_arg0)) (m' ((c.tc : Thread Reference7Ideal.nD Reference7Ideal.τ).loc Reference7Ideal.main_arg1)) (m' ((c.tc : Thread Reference7Ideal.nD Reference7Ideal.τ).loc Reference7Ideal.main_arg2))) ?_ ?_
      · exact Reference7Ideal.Read.val_main_v148_eq m' c
      rw [h0, h1, h2, ref_ks]
      exact (Kernel7Ideal.Val.final11 m c).symm
    · obtain ⟨h0, h1, h2⟩ := hagree c
      refine Eq.trans (b := Reference7Ideal.Read.val_main_v151 (F := Ideal) (m' ((c.tc : Thread Reference7Ideal.nD Reference7Ideal.τ).loc Reference7Ideal.main_arg0)) (m' ((c.tc : Thread Reference7Ideal.nD Reference7Ideal.τ).loc Reference7Ideal.main_arg1)) (m' ((c.tc : Thread Reference7Ideal.nD Reference7Ideal.τ).loc Reference7Ideal.main_arg2))) ?_ ?_
      · exact Reference7Ideal.Read.val_main_v151_eq m' c
      rw [h0, h1, h2, ref_kw]
      exact (Kernel7Ideal.Val.final12 m c).symm

end Cert.InprojSampleClaim
-- ==== Proof.lean ====
/-
The claims of this directory, together: each part's runs end, its idealization changes nothing, and the part and its
reference end with the same arrays.
-/
module

public import proofs.«01_k».proof.Proof.S5StepClaim
public import proofs.«01_k».proof.Proof.S5TailClaim
public import proofs.«01_k».proof.Proof.NsaTailClaim
public import proofs.«01_k».proof.Proof.NsaTailSampleClaim
public import proofs.«01_k».proof.Proof.S5TailSampleClaim
public import proofs.«01_k».proof.Proof.InprojClaim
public import proofs.«01_k».proof.Proof.InprojSampleClaim
public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Reference7Ideal
public import proofs.«01_k».proof.Proof.Gen.Reference7Ideal.Run
public import Idealize.ShloMosaic.Adequacy
public import Idealize.ShloMosaic.Init

@[expose] public section

noncomputable section

namespace Cert.Proof

open Idealize.ShloMosaic Idealize.SL.Sem

/-- The reference's runs end, its arguments unchanged; it has no semaphores. -/
theorem refFrame : Cert.quiescent_ReferenceIdeal := fun m g _ =>
  (θ_run Cert.ReferenceIdeal.defs _ _).mono (fun r h => ⟨fun c => (h c).2.2.2, sem_eq_zero_of_no_sems (by decide) r.2⟩)
    (Cert.ReferenceIdeal.Value.run (F := Ideal) m g)

/-- The reference's runs end, its arguments unchanged; it has no semaphores. -/
theorem refFrame2 : Cert.quiescent_Reference2Ideal := fun m g _ =>
  (θ_run Cert.Reference2Ideal.defs _ _).mono (fun r h => ⟨fun c => (h c).2, sem_eq_zero_of_no_sems (by decide) r.2⟩)
    (Cert.Reference2Ideal.Value.run (F := Ideal) m g)

/-- The reference's runs end, its arguments unchanged; it has no semaphores. -/
theorem refFrame3 : Cert.quiescent_Reference3Ideal := fun m g _ =>
  (θ_run Cert.Reference3Ideal.defs _ _).mono (fun r h => ⟨fun c => (h c).2.2, sem_eq_zero_of_no_sems (by decide) r.2⟩)
    (Cert.Reference3Ideal.Value.run (F := Ideal) m g)

/-- The reference's runs end, its arguments unchanged; it has no semaphores. -/
theorem refFrame4 : Cert.quiescent_Reference4Ideal := fun m g _ =>
  (θ_run Cert.Reference4Ideal.defs _ _).mono (fun r h => ⟨fun c => (h c).2.2, sem_eq_zero_of_no_sems (by decide) r.2⟩)
    (Cert.Reference4Ideal.Value.run (F := Ideal) m g)

/-- The reference's runs end, its arguments unchanged; it has no semaphores. -/
theorem refFrame5 : Cert.quiescent_Reference5Ideal := fun m g _ =>
  (θ_run Cert.Reference5Ideal.defs _ _).mono (fun r h => ⟨fun c => (h c).2, sem_eq_zero_of_no_sems (by decide) r.2⟩)
    (Cert.Reference5Ideal.Value.run (F := Ideal) m g)

/-- The reference's runs end, its arguments unchanged; it has no semaphores. -/
theorem refFrame6 : Cert.quiescent_Reference6Ideal := fun m g _ =>
  (θ_run Cert.Reference6Ideal.defs _ _).mono (fun r h => ⟨fun c => (h c).2.2.2.2.2.2.2, sem_eq_zero_of_no_sems (by decide) r.2⟩)
    (Cert.Reference6Ideal.Value.run (F := Ideal) m g)

/-- The reference's runs end, its arguments unchanged; it has no semaphores. -/
theorem refFrame7 : Cert.quiescent_Reference7Ideal := fun m g _ =>
  (θ_run Cert.Reference7Ideal.defs _ _).mono (fun r h => ⟨fun c => (h c).2.2.2.2.2.2, sem_eq_zero_of_no_sems (by decide) r.2⟩)
    (Cert.Reference7Ideal.Value.run (F := Ideal) m g)

/-- Every claim of the certificate. -/
theorem claim : Cert.Claim :=
  ⟨Cert.Kernel.Gen.facts,
    Cert.KernelIdeal.Gen.facts,
    Cert.ReferenceIdeal.Gen.facts,
    Cert.Kernel2.Gen.facts,
    Cert.Kernel2Ideal.Gen.facts,
    Cert.Reference2Ideal.Gen.facts,
    Cert.Kernel3.Gen.facts,
    Cert.Kernel3Ideal.Gen.facts,
    Cert.Reference3Ideal.Gen.facts,
    Cert.Kernel4.Gen.facts,
    Cert.Kernel4Ideal.Gen.facts,
    Cert.Reference4Ideal.Gen.facts,
    Cert.Kernel5.Gen.facts,
    Cert.Kernel5Ideal.Gen.facts,
    Cert.Reference5Ideal.Gen.facts,
    Cert.Kernel6.Gen.facts,
    Cert.Kernel6Ideal.Gen.facts,
    Cert.Reference6Ideal.Gen.facts,
    Cert.Kernel7.Gen.facts,
    Cert.Kernel7Ideal.Gen.facts,
    Cert.Reference7Ideal.Gen.facts,
    fun m g _ => Cert.Kernel.Gen.frame m g,
    fun m g _ => Cert.KernelIdeal.Gen.frame m g,
    refFrame,
    fun m g _ => Cert.Kernel2.Gen.frame m g,
    fun m g _ => Cert.Kernel2Ideal.Gen.frame m g,
    refFrame2,
    fun m g _ => Cert.Kernel3.Gen.frame m g,
    fun m g _ => Cert.Kernel3Ideal.Gen.frame m g,
    refFrame3,
    fun m g _ => Cert.Kernel4.Gen.frame m g,
    fun m g _ => Cert.Kernel4Ideal.Gen.frame m g,
    refFrame4,
    fun m g _ => Cert.Kernel5.Gen.frame m g,
    fun m g _ => Cert.Kernel5Ideal.Gen.frame m g,
    refFrame5,
    fun m g _ => Cert.Kernel6.Gen.frame m g,
    fun m g _ => Cert.Kernel6Ideal.Gen.frame m g,
    refFrame6,
    fun m g _ => Cert.Kernel7.Gen.frame m g,
    fun m g _ => Cert.Kernel7Ideal.Gen.frame m g,
    refFrame7,
    trivial,
    Cert.S5StepClaim.algebraic,
    trivial,
    Cert.S5TailClaim.algebraic,
    trivial,
    Cert.NsaTailClaim.algebraic,
    trivial,
    Cert.NsaTailSampleClaim.algebraic,
    trivial,
    Cert.S5TailSampleClaim.algebraic,
    trivial,
    Cert.InprojClaim.algebraic,
    trivial,
    Cert.InprojSampleClaim.algebraic⟩

end Cert.Proof

end
